-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v286)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v286) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v359) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) : IVec S_ 1 :=
  let main_v64 : IVec S_ 1 := andi main_v3 main_v7
  let main_v65 : IVec S_ 1 := andi main_v64 main_v11
  let main_v66 : IVec S_ 1 := andi main_v65 main_v15
  let main_v67 : IVec S_ 1 := andi main_v66 main_v19
  let main_v68 : IVec S_ 1 := andi main_v67 main_v23
  let main_v69 : IVec S_ 1 := andi main_v68 main_v27
  let main_v70 : IVec S_ 1 := andi main_v69 main_v31
  let main_v71 : IVec S_ 1 := andi main_v70 main_v35
  let main_v72 : IVec S_ 1 := andi main_v71 main_v39
  let main_v73 : IVec S_ 1 := andi main_v72 main_v43
  let main_v74 : IVec S_ 1 := andi main_v73 main_v47
  let main_v75 : IVec S_ 1 := andi main_v74 main_v51
  let main_v76 : IVec S_ 1 := andi main_v75 main_v55
  let main_v77 : IVec S_ 1 := andi main_v76 main_v59
  let main_v78 : IVec S_ 1 := andi main_v77 main_v63
  main_v78

def fn_part3 {F : FTy → Type} [FloatOps F] (main_arg14 : FVec F S128 .f32) (main_arg15 : FVec F S128x128 .f32) (main_arg16 : FVec F S128 .f32) (main_arg17 : FVec F S128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S128 .f32 := Host.absf main_arg14
  let main_cst_22 : FVec F S_ .f32 := constant S_ .f32 0x7F800000#32
  let main_v49 : FVec F S128 .f32 := broadcastInDim S128 ![] bcast_S_S128 main_cst_22
  let main_v50 : IVec S128 1 := cmpf .olt main_v48 main_v49
  let main_c_23 : IVec S_ 1 := constantI S_ 1 1#1
  let main_v51 : IVec S_ 1 := (fun x v => Host.reduce IntOp.andi x v reducesTo_S128_S_d0 h_S_) main_v50 main_c_23
  let main_v52 : FVec F S128x128 .f32 := Host.absf main_arg15
  let main_cst_24 : FVec F S_ .f32 := constant S_ .f32 0x7F800000#32
  let main_v53 : FVec F S128x128 .f32 := broadcastInDim S128x128 ![] bcast_S_S128x128 main_cst_24
  let main_v54 : IVec S128x128 1 := cmpf .olt main_v52 main_v53
  let main_c_25 : IVec S_ 1 := constantI S_ 1 1#1
  let main_v55 : IVec S_ 1 := (fun x v => Host.reduce IntOp.andi x v reducesTo_S128x128_S_d0_1 h_S_) main_v54 main_c_25
  let main_v56 : FVec F S128 .f32 := Host.absf main_arg16
  let main_cst_26 : FVec F S_ .f32 := constant S_ .f32 0x7F800000#32
  let main_v57 : FVec F S128 .f32 := broadcastInDim S128 ![] bcast_S_S128 main_cst_26
  let main_v58 : IVec S128 1 := cmpf .olt main_v56 main_v57
  let main_c_27 : IVec S_ 1 := constantI S_ 1 1#1
  let main_v59 : IVec S_ 1 := (fun x v => Host.reduce IntOp.andi x v reducesTo_S128_S_d0 h_S_) main_v58 main_c_27
  let main_v60 : FVec F S128 .f32 := Host.absf main_arg17
  let main_cst_28 : FVec F S_ .f32 := constant S_ .f32 0x7F800000#32
  let main_v61 : FVec F S128 .f32 := broadcastInDim S128 ![] bcast_S_S128 main_cst_28
  let main_v62 : IVec S128 1 := cmpf .olt main_v60 main_v61
  let main_c_29 : IVec S_ 1 := constantI S_ 1 1#1
  let main_v63 : IVec S_ 1 := (fun x v => Host.reduce IntOp.andi x v reducesTo_S128_S_d0 h_S_) main_v62 main_c_29
  fn_part4 (F := F) main_v3 main_v7 main_v11 main_v15 main_v19 main_v23 main_v27 main_v31 main_v35 main_v39 main_v43 main_v47 main_v51 main_v55 main_v59 main_v63

def fn_part2 {F : FTy → Type} [FloatOps F] (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S128 .f32 := Host.absf main_arg10
  let main_cst_14 : FVec F S_ .f32 := constant S_ .f32 0x7F800000#32
  let main_v33 : FVec F S128 .f32 := broadcastInDim S128 ![] bcast_S_S128 main_cst_14
  let main_v34 : IVec S128 1 := cmpf .olt main_v32 main_v33
  let main_c_15 : IVec S_ 1 := constantI S_ 1 1#1
  let main_v35 : IVec S_ 1 := (fun x v => Host.reduce IntOp.andi x v reducesTo_S128_S_d0 h_S_) main_v34 main_c_15
  let main_v36 : FVec F S128x128 .f32 := Host.absf main_arg11
  let main_cst_16 : FVec F S_ .f32 := constant S_ .f32 0x7F800000#32
  let main_v37 : FVec F S128x128 .f32 := broadcastInDim S128x128 ![] bcast_S_S128x128 main_cst_16
  let main_v38 : IVec S128x128 1 := cmpf .olt main_v36 main_v37
  let main_c_17 : IVec S_ 1 := constantI S_ 1 1#1
  let main_v39 : IVec S_ 1 := (fun x v => Host.reduce IntOp.andi x v reducesTo_S128x128_S_d0_1 h_S_) main_v38 main_c_17
  let main_v40 : FVec F S128 .f32 := Host.absf main_arg12
  let main_cst_18 : FVec F S_ .f32 := constant S_ .f32 0x7F800000#32
  let main_v41 : FVec F S128 .f32 := broadcastInDim S128 ![] bcast_S_S128 main_cst_18
  let main_v42 : IVec S128 1 := cmpf .olt main_v40 main_v41
  let main_c_19 : IVec S_ 1 := constantI S_ 1 1#1
  let main_v43 : IVec S_ 1 := (fun x v => Host.reduce IntOp.andi x v reducesTo_S128_S_d0 h_S_) main_v42 main_c_19
  let main_v44 : FVec F S128 .f32 := Host.absf main_arg13
  let main_cst_20 : FVec F S_ .f32 := constant S_ .f32 0x7F800000#32
  let main_v45 : FVec F S128 .f32 := broadcastInDim S128 ![] bcast_S_S128 main_cst_20
  let main_v46 : IVec S128 1 := cmpf .olt main_v44 main_v45
  let main_c_21 : IVec S_ 1 := constantI S_ 1 1#1
  let main_v47 : IVec S_ 1 := (fun x v => Host.reduce IntOp.andi x v reducesTo_S128_S_d0 h_S_) main_v46 main_c_21
  fn_part3 (F := F) main_arg14 main_arg15 main_arg16 main_arg17 main_v3 main_v7 main_v11 main_v15 main_v19 main_v23 main_v27 main_v31 main_v35 main_v39 main_v43 main_v47

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_v3 : IVec S_ 1) (main_v7 : IVec S_ 1) (main_v11 : IVec S_ 1) (main_v15 : IVec S_ 1) : IVec S_ 1 :=
  let main_v16 : FVec F S128 .f32 := Host.absf main_arg6
  let main_cst_6 : FVec F S_ .f32 := constant S_ .f32 0x7F800000#32
  let main_v17 : FVec F S128 .f32 := broadcastInDim S128 ![] bcast_S_S128 main_cst_6
  let main_v18 : IVec S128 1 := cmpf .olt main_v16 main_v17
  let main_c_7 : IVec S_ 1 := constantI S_ 1 1#1
  let main_v19 : IVec S_ 1 := (fun x v => Host.reduce IntOp.andi x v reducesTo_S128_S_d0 h_S_) main_v18 main_c_7
  let main_v20 : FVec F S128x128 .f32 := Host.absf main_arg7
  let main_cst_8 : FVec F S_ .f32 := constant S_ .f32 0x7F800000#32
  let main_v21 : FVec F S128x128 .f32 := broadcastInDim S128x128 ![] bcast_S_S128x128 main_cst_8
  let main_v22 : IVec S128x128 1 := cmpf .olt main_v20 main_v21
  let main_c_9 : IVec S_ 1 := constantI S_ 1 1#1
  let main_v23 : IVec S_ 1 := (fun x v => Host.reduce IntOp.andi x v reducesTo_S128x128_S_d0_1 h_S_) main_v22 main_c_9
  let main_v24 : FVec F S128 .f32 := Host.absf main_arg8
  let main_cst_10 : FVec F S_ .f32 := constant S_ .f32 0x7F800000#32
  let main_v25 : FVec F S128 .f32 := broadcastInDim S128 ![] bcast_S_S128 main_cst_10
  let main_v26 : IVec S128 1 := cmpf .olt main_v24 main_v25
  let main_c_11 : IVec S_ 1 := constantI S_ 1 1#1
  let main_v27 : IVec S_ 1 := (fun x v => Host.reduce IntOp.andi x v reducesTo_S128_S_d0 h_S_) main_v26 main_c_11
  let main_v28 : FVec F S128 .f32 := Host.absf main_arg9
  let main_cst_12 : FVec F S_ .f32 := constant S_ .f32 0x7F800000#32
  let main_v29 : FVec F S128 .f32 := broadcastInDim S128 ![] bcast_S_S128 main_cst_12
  let main_v30 : IVec S128 1 := cmpf .olt main_v28 main_v29
  let main_c_13 : IVec S_ 1 := constantI S_ 1 1#1
  let main_v31 : IVec S_ 1 := (fun x v => Host.reduce IntOp.andi x v reducesTo_S128_S_d0 h_S_) main_v30 main_c_13
  fn_part2 (F := F) main_arg10 main_arg11 main_arg12 main_arg13 main_arg14 main_arg15 main_arg16 main_arg17 main_v3 main_v7 main_v11 main_v15 main_v19 main_v23 main_v27 main_v31

def fn {F : FTy → Type} [FloatOps F] (main_arg0 : FVec F S10000x128 .f32) (main_arg1 : IVec S2x320000 32) (main_arg2 : IVec S10000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128x1 .f32) (main_arg20 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : FVec F S128 .f32 := Host.absf main_arg4
  let main_cst_2 : FVec F S_ .f32 := constant S_ .f32 0x7F800000#32
  let main_v9 : FVec F S128 .f32 := broadcastInDim S128 ![] bcast_S_S128 main_cst_2
  let main_v10 : IVec S128 1 := cmpf .olt main_v8 main_v9
  let main_c_3 : IVec S_ 1 := constantI S_ 1 1#1
  let main_v11 : IVec S_ 1 := (fun x v => Host.reduce IntOp.andi x v reducesTo_S128_S_d0 h_S_) main_v10 main_c_3
  let main_v12 : FVec F S128 .f32 := Host.absf main_arg5
  let main_cst_4 : FVec F S_ .f32 := constant S_ .f32 0x7F800000#32
  let main_v13 : FVec F S128 .f32 := broadcastInDim S128 ![] bcast_S_S128 main_cst_4
  let main_v14 : IVec S128 1 := cmpf .olt main_v12 main_v13
  let main_c_5 : IVec S_ 1 := constantI S_ 1 1#1
  let main_v15 : IVec S_ 1 := (fun x v => Host.reduce IntOp.andi x v reducesTo_S128_S_d0 h_S_) main_v14 main_c_5
  fn_part1 (F := F) main_arg6 main_arg7 main_arg8 main_arg9 main_arg10 main_arg11 main_arg12 main_arg13 main_arg14 main_arg15 main_arg16 main_arg17 main_v3 main_v7 main_v11 main_v15
-- ==== Kernel.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x320000 : Shape := ⟨2, ![1, 320000]⟩
abbrev S320000 : Shape := ⟨1, ![320000]⟩
abbrev S10000x1 : Shape := ⟨2, ![10000, 1]⟩
abbrev S1x1 : Shape := ⟨2, ![1, 1]⟩
abbrev S1000x128 : Shape := ⟨2, ![1000, 128]⟩
abbrev S1000x1 : Shape := ⟨2, ![1000, 1]⟩
abbrev S1x1000x1 : Shape := ⟨3, ![1, 1000, 1]⟩
abbrev S1x1x1 : Shape := ⟨3, ![1, 1, 1]⟩
abbrev S_ : Shape := ⟨0, ![]⟩
abbrev S320000x1 : Shape := ⟨2, ![320000, 1]⟩
abbrev S320000x128 : Shape := ⟨2, ![320000, 128]⟩
abbrev S1x128 : Shape := ⟨2, ![1, 128]⟩
abbrev S64x1 : Shape := ⟨2, ![64, 1]⟩
abbrev S64x128 : Shape := ⟨2, ![64, 128]⟩
abbrev S1x64 : Shape := ⟨2, ![1, 64]⟩
abbrev S1000x64 : Shape := ⟨2, ![1000, 64]⟩

abbrev nBuf : Space → Nat
  | .hbm => 392
  | .vmem => 69
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128x1, .f32⟩
  | 20 => ⟨S1, .f32⟩
  | 21 => ⟨S1x320000, .i32⟩
  | 22 => ⟨S320000, .i32⟩
  | 23 => ⟨S1x320000, .i32⟩
  | 24 => ⟨S320000, .i32⟩
  | 25 => ⟨S128x1, .f32⟩
  | 26 => ⟨S128x1, .f32⟩
  | 27 => ⟨S10000x128, .f32⟩
  | 28 => ⟨S10000x1, .f32⟩
  | 29 => ⟨S10000x1, .f32⟩
  | 30 => ⟨S1x1, .f32⟩
  | 31 => ⟨S10000, .f32⟩
  | 32 => ⟨S10000, .f32⟩
  | 33 => ⟨S_, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S320000, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000, .f32⟩
  | 52 => ⟨S320000, .f32⟩
  | 53 => ⟨S_, .f32⟩
  | 54 => ⟨S320000, .f32⟩
  | 55 => ⟨S320000, .i1⟩
  | 56 => ⟨S_, .f32⟩
  | 57 => ⟨S320000, .f32⟩
  | 58 => ⟨S320000, .f32⟩
  | 59 => ⟨S320000, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000, .f32⟩
  | 69 => ⟨S320000, .f32⟩
  | 70 => ⟨S320000, .f32⟩
  | 71 => ⟨S_, .f32⟩
  | 72 => ⟨S320000, .f32⟩
  | 73 => ⟨S320000, .i1⟩
  | 74 => ⟨S_, .f32⟩
  | 75 => ⟨S320000, .f32⟩
  | 76 => ⟨S320000, .f32⟩
  | 77 => ⟨S320000, .f32⟩
  | 78 => ⟨S320000, .f32⟩
  | 79 => ⟨S320000, .f32⟩
  | 80 => ⟨S_, .f32⟩
  | 81 => ⟨S10000, .f32⟩
  | 82 => ⟨S320000x1, .i32⟩
  | 83 => ⟨S10000, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000, .f32⟩
  | 93 => ⟨S_, .f32⟩
  | 94 => ⟨S320000, .f32⟩
  | 95 => ⟨S320000, .f32⟩
  | 96 => ⟨S320000, .f32⟩
  | 97 => ⟨S320000x1, .f32⟩
  | 98 => ⟨S_, .i32⟩
  | 99 => ⟨S320000, .i32⟩
  | 100 => ⟨S320000, .i1⟩
  | 101 => ⟨S_, .i32⟩
  | 102 => ⟨S320000, .i32⟩
  | 103 => ⟨S320000, .i32⟩
  | 104 => ⟨S320000, .i32⟩
  | 105 => ⟨S320000x1, .i32⟩
  | 106 => ⟨S320000x128, .f32⟩
  | 107 => ⟨S320000x128, .f32⟩
  | 108 => ⟨S320000x128, .f32⟩
  | 109 => ⟨S_, .f32⟩
  | 110 => ⟨S10000x128, .f32⟩
  | 111 => ⟨S320000x1, .i32⟩
  | 112 => ⟨S10000x128, .f32⟩
  | 113 => ⟨S_, .f32⟩
  | 114 => ⟨S10000x128, .f32⟩
  | 115 => ⟨S1x128, .f32⟩
  | 116 => ⟨S128x1, .f32⟩
  | 117 => ⟨S128x1, .f32⟩
  | 118 => ⟨S10000x128, .f32⟩
  | 119 => ⟨S10000x1, .f32⟩
  | 120 => ⟨S10000x1, .f32⟩
  | 121 => ⟨S1x1, .f32⟩
  | 122 => ⟨S10000, .f32⟩
  | 123 => ⟨S10000, .f32⟩
  | 124 => ⟨S_, .f32⟩
  | 125 => ⟨S_, .i32⟩
  | 126 => ⟨S320000, .i32⟩
  | 127 => ⟨S320000, .i1⟩
  | _ => ⟨S10000x128, .f32⟩

abbrev hbmTy0_1 (i : Nat) : BufTy := match i % 128 with
  | 0 => ⟨S_, .i32⟩
  | 1 => ⟨S320000, .i32⟩
  | 2 => ⟨S320000, .i32⟩
  | 3 => ⟨S320000, .i32⟩
  | 4 => ⟨S320000x1, .i32⟩
  | 5 => ⟨S320000, .f32⟩
  | 6 => ⟨S_, .i32⟩
  | 7 => ⟨S320000, .i32⟩
  | 8 => ⟨S320000, .i1⟩
  | 9 => ⟨S_, .i32⟩
  | 10 => ⟨S320000, .i32⟩
  | 11 => ⟨S320000, .i32⟩
  | 12 => ⟨S320000, .i32⟩
  | 13 => ⟨S320000x1, .i32⟩
  | 14 => ⟨S320000, .f32⟩
  | 15 => ⟨S320000, .f32⟩
  | 16 => ⟨S_, .f32⟩
  | 17 => ⟨S320000, .f32⟩
  | 18 => ⟨S320000, .i1⟩
  | 19 => ⟨S_, .f32⟩
  | 20 => ⟨S320000, .f32⟩
  | 21 => ⟨S320000, .f32⟩
  | 22 => ⟨S320000, .f32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S320000, .f32⟩
  | 32 => ⟨S320000, .f32⟩
  | 33 => ⟨S320000, .f32⟩
  | 34 => ⟨S_, .f32⟩
  | 35 => ⟨S320000, .f32⟩
  | 36 => ⟨S320000, .i1⟩
  | 37 => ⟨S_, .f32⟩
  | 38 => ⟨S320000, .f32⟩
  | 39 => ⟨S320000, .f32⟩
  | 40 => ⟨S320000, .f32⟩
  | 41 => ⟨S320000, .f32⟩
  | 42 => ⟨S320000, .f32⟩
  | 43 => ⟨S_, .f32⟩
  | 44 => ⟨S10000, .f32⟩
  | 45 => ⟨S320000x1, .i32⟩
  | 46 => ⟨S10000, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000, .f32⟩
  | 56 => ⟨S_, .f32⟩
  | 57 => ⟨S320000, .f32⟩
  | 58 => ⟨S320000, .f32⟩
  | 59 => ⟨S320000, .f32⟩
  | 60 => ⟨S320000x1, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S320000x128, .f32⟩
  | 70 => ⟨S320000x128, .f32⟩
  | 71 => ⟨S320000x128, .f32⟩
  | 72 => ⟨S_, .f32⟩
  | 73 => ⟨S10000x128, .f32⟩
  | 74 => ⟨S320000x1, .i32⟩
  | 75 => ⟨S10000x128, .f32⟩
  | 76 => ⟨S_, .f32⟩
  | 77 => ⟨S10000x128, .f32⟩
  | 78 => ⟨S1x128, .f32⟩
  | 79 => ⟨S128x1, .f32⟩
  | 80 => ⟨S128x1, .f32⟩
  | 81 => ⟨S10000x128, .f32⟩
  | 82 => ⟨S10000x1, .f32⟩
  | 83 => ⟨S10000x1, .f32⟩
  | 84 => ⟨S1x1, .f32⟩
  | 85 => ⟨S10000, .f32⟩
  | 86 => ⟨S10000, .f32⟩
  | 87 => ⟨S_, .f32⟩
  | 88 => ⟨S_, .i32⟩
  | 89 => ⟨S320000, .i32⟩
  | 90 => ⟨S320000, .i1⟩
  | 91 => ⟨S_, .i32⟩
  | 92 => ⟨S320000, .i32⟩
  | 93 => ⟨S320000, .i32⟩
  | 94 => ⟨S320000, .i32⟩
  | 95 => ⟨S320000x1, .i32⟩
  | 96 => ⟨S320000, .f32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S320000, .f32⟩
  | 106 => ⟨S320000, .f32⟩
  | 107 => ⟨S_, .f32⟩
  | 108 => ⟨S320000, .f32⟩
  | 109 => ⟨S320000, .i1⟩
  | 110 => ⟨S_, .f32⟩
  | 111 => ⟨S320000, .f32⟩
  | 112 => ⟨S320000, .f32⟩
  | 113 => ⟨S320000, .f32⟩
  | 114 => ⟨S_, .i32⟩
  | 115 => ⟨S320000, .i32⟩
  | 116 => ⟨S320000, .i1⟩
  | 117 => ⟨S_, .i32⟩
  | 118 => ⟨S320000, .i32⟩
  | 119 => ⟨S320000, .i32⟩
  | 120 => ⟨S320000, .i32⟩
  | 121 => ⟨S320000x1, .i32⟩
  | 122 => ⟨S320000, .f32⟩
  | 123 => ⟨S320000, .f32⟩
  | 124 => ⟨S320000, .f32⟩
  | 125 => ⟨S_, .f32⟩
  | 126 => ⟨S320000, .f32⟩
  | 127 => ⟨S320000, .i1⟩
  | _ => ⟨S10000x128, .f32⟩

abbrev hbmTy0_2 (i : Nat) : BufTy := match i % 128 with
  | 0 => ⟨S_, .f32⟩
  | 1 => ⟨S320000, .f32⟩
  | 2 => ⟨S320000, .f32⟩
  | 3 => ⟨S320000, .f32⟩
  | 4 => ⟨S320000, .f32⟩
  | 5 => ⟨S320000, .f32⟩
  | 6 => ⟨S_, .f32⟩
  | 7 => ⟨S10000, .f32⟩
  | 8 => ⟨S320000x1, .i32⟩
  | 9 => ⟨S10000, .f32⟩
  | 10 => ⟨S_, .i32⟩
  | 11 => ⟨S320000, .i32⟩
  | 12 => ⟨S320000, .i1⟩
  | 13 => ⟨S_, .i32⟩
  | 14 => ⟨S320000, .i32⟩
  | 15 => ⟨S320000, .i32⟩
  | 16 => ⟨S320000, .i32⟩
  | 17 => ⟨S320000x1, .i32⟩
  | 18 => ⟨S320000, .f32⟩
  | 19 => ⟨S_, .f32⟩
  | 20 => ⟨S320000, .f32⟩
  | 21 => ⟨S320000, .f32⟩
  | 22 => ⟨S320000, .f32⟩
  | 23 => ⟨S320000x1, .f32⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S320000x128, .f32⟩
  | 33 => ⟨S320000x128, .f32⟩
  | 34 => ⟨S320000x128, .f32⟩
  | 35 => ⟨S_, .f32⟩
  | 36 => ⟨S10000x128, .f32⟩
  | 37 => ⟨S320000x1, .i32⟩
  | 38 => ⟨S10000x128, .f32⟩
  | 39 => ⟨S_, .f32⟩
  | 40 => ⟨S10000x128, .f32⟩
  | 41 => ⟨S1x128, .f32⟩
  | 42 => ⟨S128x1, .f32⟩
  | 43 => ⟨S128x1, .f32⟩
  | 44 => ⟨S10000x128, .f32⟩
  | 45 => ⟨S10000x1, .f32⟩
  | 46 => ⟨S10000x1, .f32⟩
  | 47 => ⟨S1x1, .f32⟩
  | 48 => ⟨S10000, .f32⟩
  | 49 => ⟨S10000, .f32⟩
  | 50 => ⟨S_, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000, .f32⟩
  | 69 => ⟨S320000, .f32⟩
  | 70 => ⟨S_, .f32⟩
  | 71 => ⟨S320000, .f32⟩
  | 72 => ⟨S320000, .i1⟩
  | 73 => ⟨S_, .f32⟩
  | 74 => ⟨S320000, .f32⟩
  | 75 => ⟨S320000, .f32⟩
  | 76 => ⟨S320000, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S320000, .f32⟩
  | 86 => ⟨S320000, .f32⟩
  | 87 => ⟨S320000, .f32⟩
  | 88 => ⟨S_, .f32⟩
  | 89 => ⟨S320000, .f32⟩
  | 90 => ⟨S320000, .i1⟩
  | 91 => ⟨S_, .f32⟩
  | 92 => ⟨S320000, .f32⟩
  | 93 => ⟨S320000, .f32⟩
  | 94 => ⟨S320000, .f32⟩
  | 95 => ⟨S320000, .f32⟩
  | 96 => ⟨S320000, .f32⟩
  | 97 => ⟨S_, .f32⟩
  | 98 => ⟨S10000, .f32⟩
  | 99 => ⟨S320000x1, .i32⟩
  | 100 => ⟨S10000, .f32⟩
  | 101 => ⟨S_, .i32⟩
  | 102 => ⟨S320000, .i32⟩
  | 103 => ⟨S320000, .i1⟩
  | 104 => ⟨S_, .i32⟩
  | 105 => ⟨S320000, .i32⟩
  | 106 => ⟨S320000, .i32⟩
  | 107 => ⟨S320000, .i32⟩
  | 108 => ⟨S320000x1, .i32⟩
  | 109 => ⟨S320000, .f32⟩
  | 110 => ⟨S_, .f32⟩
  | 111 => ⟨S320000, .f32⟩
  | 112 => ⟨S320000, .f32⟩
  | 113 => ⟨S320000, .f32⟩
  | 114 => ⟨S320000x1, .f32⟩
  | 115 => ⟨S_, .i32⟩
  | 116 => ⟨S320000, .i32⟩
  | 117 => ⟨S320000, .i1⟩
  | 118 => ⟨S_, .i32⟩
  | 119 => ⟨S320000, .i32⟩
  | 120 => ⟨S320000, .i32⟩
  | 121 => ⟨S320000, .i32⟩
  | 122 => ⟨S320000x1, .i32⟩
  | 123 => ⟨S320000x128, .f32⟩
  | 124 => ⟨S320000x128, .f32⟩
  | 125 => ⟨S320000x128, .f32⟩
  | 126 => ⟨S_, .f32⟩
  | 127 => ⟨S10000x128, .f32⟩
  | _ => ⟨S10000x128, .f32⟩

abbrev hbmTy0_3 (i : Nat) : BufTy := match i % 128 with
  | 0 => ⟨S320000x1, .i32⟩
  | 1 => ⟨S10000x128, .f32⟩
  | 2 => ⟨S_, .f32⟩
  | 3 => ⟨S10000x128, .f32⟩
  | 4 => ⟨S1x128, .f32⟩
  | 5 => ⟨S10000x1, .i32⟩
  | 6 => ⟨S1x1, .f32⟩
  | 7 => ⟨S64x1, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S128x1, .f32⟩
  | .local _ .vmem, ⟨4, _⟩ => ⟨S128x1, .f32⟩
  | .local _ .vmem, ⟨5, _⟩ => ⟨S1000x128, .f32⟩
  | .local _ .vmem, ⟨6, _⟩ => ⟨S1000x128, .f32⟩
  | .local _ .vmem, ⟨7, _⟩ => ⟨S1000x1, .f32⟩
  | .local _ .vmem, ⟨8, _⟩ => ⟨S1000x1, .f32⟩
  | .local _ .vmem, ⟨9, _⟩ => ⟨S1000x1, .f32⟩
  | .local _ .vmem, ⟨10, _⟩ => ⟨S1000x1, .f32⟩
  | .local _ .vmem, ⟨11, _⟩ => ⟨S1x1, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1x128, .f32⟩
  | .local _ .vmem, ⟨17, _⟩ => ⟨S128x128, .f32⟩
  | .local _ .vmem, ⟨18, _⟩ => ⟨S128x1, .f32⟩
  | .local _ .vmem, ⟨19, _⟩ => ⟨S128x1, .f32⟩
  | .local _ .vmem, ⟨20, _⟩ => ⟨S1000x128, .f32⟩
  | .local _ .vmem, ⟨21, _⟩ => ⟨S1000x128, .f32⟩
  | .local _ .vmem, ⟨22, _⟩ => ⟨S1000x1, .f32⟩
  | .local _ .vmem, ⟨23, _⟩ => ⟨S1000x1, .f32⟩
  | .local _ .vmem, ⟨24, _⟩ => ⟨S1000x1, .f32⟩
  | .local _ .vmem, ⟨25, _⟩ => ⟨S1000x1, .f32⟩
  | .local _ .vmem, ⟨26, _⟩ => ⟨S1x1, .f32⟩
  | .local _ .vmem, ⟨27, _⟩ => ⟨S1000x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1x128, .f32⟩
  | .local _ .vmem, ⟨32, _⟩ => ⟨S128x128, .f32⟩
  | .local _ .vmem, ⟨33, _⟩ => ⟨S128x1, .f32⟩
  | .local _ .vmem, ⟨34, _⟩ => ⟨S128x1, .f32⟩
  | .local _ .vmem, ⟨35, _⟩ => ⟨S1000x128, .f32⟩
  | .local _ .vmem, ⟨36, _⟩ => ⟨S1000x128, .f32⟩
  | .local _ .vmem, ⟨37, _⟩ => ⟨S1000x1, .f32⟩
  | .local _ .vmem, ⟨38, _⟩ => ⟨S1000x1, .f32⟩
  | .local _ .vmem, ⟨39, _⟩ => ⟨S1000x1, .f32⟩
  | .local _ .vmem, ⟨40, _⟩ => ⟨S1000x1, .f32⟩
  | .local _ .vmem, ⟨41, _⟩ => ⟨S1x1, .f32⟩
  | .local _ .vmem, ⟨42, _⟩ => ⟨S1000x128, .f32⟩
  | .local _ .vmem, ⟨43, _⟩ => ⟨S1000x128, .f32⟩
  | .local _ .vmem, ⟨44, _⟩ => ⟨S1000x128, .f32⟩
  | .local _ .vmem, ⟨45, _⟩ => ⟨S1000x128, .f32⟩
  | .local _ .vmem, ⟨46, _⟩ => ⟨S1x128, .f32⟩
  | .local _ .vmem, ⟨47, _⟩ => ⟨S128x128, .f32⟩
  | .local _ .vmem, ⟨48, _⟩ => ⟨S128x1, .f32⟩
  | .local _ .vmem, ⟨49, _⟩ => ⟨S128x1, .f32⟩
  | .local _ .vmem, ⟨50, _⟩ => ⟨S1000x128, .f32⟩
  | .local _ .vmem, ⟨51, _⟩ => ⟨S1000x128, .f32⟩
  | .local _ .vmem, ⟨52, _⟩ => ⟨S1000x1, .f32⟩
  | .local _ .vmem, ⟨53, _⟩ => ⟨S1000x1, .f32⟩
  | .local _ .vmem, ⟨54, _⟩ => ⟨S1000x1, .f32⟩
  | .local _ .vmem, ⟨55, _⟩ => ⟨S1000x1, .f32⟩
  | .local _ .vmem, ⟨56, _⟩ => ⟨S1x1, .f32⟩
  | .local _ .vmem, ⟨57, _⟩ => ⟨S1000x128, .f32⟩
  | .local _ .vmem, ⟨58, _⟩ => ⟨S1000x128, .f32⟩
  | .local _ .vmem, ⟨59, _⟩ => ⟨S1000x128, .f32⟩
  | .local _ .vmem, ⟨60, _⟩ => ⟨S1000x128, .f32⟩
  | .local _ .vmem, ⟨61, _⟩ => ⟨S1x128, .f32⟩
  | .local _ .vmem, ⟨62, _⟩ => ⟨S1000x1, .i32⟩
  | .local _ .vmem, ⟨63, _⟩ => ⟨S1000x1, .i32⟩
  | .local _ .vmem, ⟨64, _⟩ => ⟨S128x1, .f32⟩
  | .local _ .vmem, ⟨65, _⟩ => ⟨S1x1, .f32⟩
  | .local _ .vmem, ⟨66, _⟩ => ⟨S64x1, .f32⟩
  | .local _ .vmem, ⟨67, _⟩ => ⟨S64x128, .f32⟩
  | .local _ .vmem, ⟨68, _⟩ => ⟨S64x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6_0 : Ref sig .tc := ⟨.hbm, 27, rfl⟩
abbrev main_v6_1 : Ref sig .tc := ⟨.hbm, 28, rfl⟩
abbrev main_v6_2 : Ref sig .tc := ⟨.hbm, 29, rfl⟩
abbrev main_v6_3 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_1 : Ref sig .tc := ⟨.hbm, 43, rfl⟩
abbrev main_v17 : Ref sig .tc := ⟨.hbm, 44, rfl⟩
abbrev main_v18 : Ref sig .tc := ⟨.hbm, 45, rfl⟩
abbrev main_c_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst : Ref sig .tc := ⟨.hbm, 53, rfl⟩
abbrev main_v25 : Ref sig .tc := ⟨.hbm, 54, rfl⟩
abbrev main_v26 : Ref sig .tc := ⟨.hbm, 55, rfl⟩
abbrev main_cst_3 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_4 : Ref sig .tc := ⟨.hbm, 60, rfl⟩
abbrev main_v30 : Ref sig .tc := ⟨.hbm, 61, rfl⟩
abbrev main_v31 : Ref sig .tc := ⟨.hbm, 62, rfl⟩
abbrev main_c_5 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_cst_7 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_8 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_9 : Ref sig .tc := ⟨.hbm, 84, rfl⟩
abbrev main_v49 : Ref sig .tc := ⟨.hbm, 85, rfl⟩
abbrev main_v50 : Ref sig .tc := ⟨.hbm, 86, rfl⟩
abbrev main_c_10 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_11 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_12 : Ref sig .tc := ⟨.hbm, 98, rfl⟩
abbrev main_v60 : Ref sig .tc := ⟨.hbm, 99, rfl⟩
abbrev main_v61 : Ref sig .tc := ⟨.hbm, 100, rfl⟩
abbrev main_c_13 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_14 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_15 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76_0 : Ref sig .tc := ⟨.hbm, 118, rfl⟩
abbrev main_v76_1 : Ref sig .tc := ⟨.hbm, 119, rfl⟩
abbrev main_v76_2 : Ref sig .tc := ⟨.hbm, 120, rfl⟩
abbrev main_v76_3 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_16 : Ref sig .tc := ⟨.hbm, 125, rfl⟩
abbrev main_v80 : Ref sig .tc := ⟨.hbm, 126, rfl⟩
abbrev main_v81 : Ref sig .tc := ⟨.hbm, 127, rfl⟩
abbrev main_c_17 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_c_18 : Ref sig .tc := ⟨.hbm, 134, rfl⟩
abbrev main_v87 : Ref sig .tc := ⟨.hbm, 135, rfl⟩
abbrev main_v88 : Ref sig .tc := ⟨.hbm, 136, rfl⟩
abbrev main_c_19 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_20 : Ref sig .tc := ⟨.hbm, 144, rfl⟩
abbrev main_v95 : Ref sig .tc := ⟨.hbm, 145, rfl⟩
abbrev main_v96 : Ref sig .tc := ⟨.hbm, 146, rfl⟩
abbrev main_cst_21 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_c_22 : Ref sig .tc := ⟨.hbm, 151, rfl⟩
abbrev main_v100 : Ref sig .tc := ⟨.hbm, 152, rfl⟩
abbrev main_v101 : Ref sig .tc := ⟨.hbm, 153, rfl⟩
abbrev main_c_23 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_24 : Ref sig .tc := ⟨.hbm, 162, rfl⟩
abbrev main_v109 : Ref sig .tc := ⟨.hbm, 163, rfl⟩
abbrev main_v110 : Ref sig .tc := ⟨.hbm, 164, rfl⟩
abbrev main_cst_25 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_26 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_c_27 : Ref sig .tc := ⟨.hbm, 175, rfl⟩
abbrev main_v119 : Ref sig .tc := ⟨.hbm, 176, rfl⟩
abbrev main_v120 : Ref sig .tc := ⟨.hbm, 177, rfl⟩
abbrev main_c_28 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_cst_29 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_c_30 : Ref sig .tc := ⟨.hbm, 189, rfl⟩
abbrev main_v130 : Ref sig .tc := ⟨.hbm, 190, rfl⟩
abbrev main_v131 : Ref sig .tc := ⟨.hbm, 191, rfl⟩
abbrev main_c_31 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_cst_32 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_cst_33 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146_0 : Ref sig .tc := ⟨.hbm, 209, rfl⟩
abbrev main_v146_1 : Ref sig .tc := ⟨.hbm, 210, rfl⟩
abbrev main_v146_2 : Ref sig .tc := ⟨.hbm, 211, rfl⟩
abbrev main_v146_3 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_c_34 : Ref sig .tc := ⟨.hbm, 216, rfl⟩
abbrev main_v150 : Ref sig .tc := ⟨.hbm, 217, rfl⟩
abbrev main_v151 : Ref sig .tc := ⟨.hbm, 218, rfl⟩
abbrev main_c_35 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_c_36 : Ref sig .tc := ⟨.hbm, 225, rfl⟩
abbrev main_v157 : Ref sig .tc := ⟨.hbm, 226, rfl⟩
abbrev main_v158 : Ref sig .tc := ⟨.hbm, 227, rfl⟩
abbrev main_c_37 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_cst_38 : Ref sig .tc := ⟨.hbm, 235, rfl⟩
abbrev main_v165 : Ref sig .tc := ⟨.hbm, 236, rfl⟩
abbrev main_v166 : Ref sig .tc := ⟨.hbm, 237, rfl⟩
abbrev main_cst_39 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_c_40 : Ref sig .tc := ⟨.hbm, 242, rfl⟩
abbrev main_v170 : Ref sig .tc := ⟨.hbm, 243, rfl⟩
abbrev main_v171 : Ref sig .tc := ⟨.hbm, 244, rfl⟩
abbrev main_c_41 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_cst_42 : Ref sig .tc := ⟨.hbm, 253, rfl⟩
abbrev main_v179 : Ref sig .tc := ⟨.hbm, 254, rfl⟩
abbrev main_v180 : Ref sig .tc := ⟨.hbm, 255, rfl⟩
abbrev main_cst_43 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_cst_44 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_c_45 : Ref sig .tc := ⟨.hbm, 266, rfl⟩
abbrev main_v189 : Ref sig .tc := ⟨.hbm, 267, rfl⟩
abbrev main_v190 : Ref sig .tc := ⟨.hbm, 268, rfl⟩
abbrev main_c_46 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_cst_47 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_c_48 : Ref sig .tc := ⟨.hbm, 280, rfl⟩
abbrev main_v200 : Ref sig .tc := ⟨.hbm, 281, rfl⟩
abbrev main_v201 : Ref sig .tc := ⟨.hbm, 282, rfl⟩
abbrev main_c_49 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_cst_50 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_cst_51 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216_0 : Ref sig .tc := ⟨.hbm, 300, rfl⟩
abbrev main_v216_1 : Ref sig .tc := ⟨.hbm, 301, rfl⟩
abbrev main_v216_2 : Ref sig .tc := ⟨.hbm, 302, rfl⟩
abbrev main_v216_3 : Ref sig .tc := ⟨.hbm, 303, rfl⟩
abbrev main_v217 : Ref sig .tc := ⟨.hbm, 304, rfl⟩
abbrev main_v218 : Ref sig .tc := ⟨.hbm, 305, rfl⟩
abbrev main_v219 : Ref sig .tc := ⟨.hbm, 306, rfl⟩
abbrev main_c_52 : Ref sig .tc := ⟨.hbm, 307, rfl⟩
abbrev main_v220 : Ref sig .tc := ⟨.hbm, 308, rfl⟩
abbrev main_v221 : Ref sig .tc := ⟨.hbm, 309, rfl⟩
abbrev main_c_53 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_c_54 : Ref sig .tc := ⟨.hbm, 316, rfl⟩
abbrev main_v227 : Ref sig .tc := ⟨.hbm, 317, rfl⟩
abbrev main_v228 : Ref sig .tc := ⟨.hbm, 318, rfl⟩
abbrev main_c_55 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_cst_56 : Ref sig .tc := ⟨.hbm, 326, rfl⟩
abbrev main_v235 : Ref sig .tc := ⟨.hbm, 327, rfl⟩
abbrev main_v236 : Ref sig .tc := ⟨.hbm, 328, rfl⟩
abbrev main_cst_57 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_c_58 : Ref sig .tc := ⟨.hbm, 333, rfl⟩
abbrev main_v240 : Ref sig .tc := ⟨.hbm, 334, rfl⟩
abbrev main_v241 : Ref sig .tc := ⟨.hbm, 335, rfl⟩
abbrev main_c_59 : Ref sig .tc := ⟨.hbm, 336, rfl⟩
abbrev main_v242 : Ref sig .tc := ⟨.hbm, 337, rfl⟩
abbrev main_v243 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_cst_60 : Ref sig .tc := ⟨.hbm, 344, rfl⟩
abbrev main_v249 : Ref sig .tc := ⟨.hbm, 345, rfl⟩
abbrev main_v250 : Ref sig .tc := ⟨.hbm, 346, rfl⟩
abbrev main_cst_61 : Ref sig .tc := ⟨.hbm, 347, rfl⟩
abbrev main_v251 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_cst_62 : Ref sig .tc := ⟨.hbm, 353, rfl⟩
abbrev main_v256 : Ref sig .tc := ⟨.hbm, 354, rfl⟩
abbrev main_v257 : Ref sig .tc := ⟨.hbm, 355, rfl⟩
abbrev main_v258 : Ref sig .tc := ⟨.hbm, 356, rfl⟩
abbrev main_c_63 : Ref sig .tc := ⟨.hbm, 357, rfl⟩
abbrev main_v259 : Ref sig .tc := ⟨.hbm, 358, rfl⟩
abbrev main_v260 : Ref sig .tc := ⟨.hbm, 359, rfl⟩
abbrev main_c_64 : Ref sig .tc := ⟨.hbm, 360, rfl⟩
abbrev main_v261 : Ref sig .tc := ⟨.hbm, 361, rfl⟩
abbrev main_v262 : Ref sig .tc := ⟨.hbm, 362, rfl⟩
abbrev main_v263 : Ref sig .tc := ⟨.hbm, 363, rfl⟩
abbrev main_v264 : Ref sig .tc := ⟨.hbm, 364, rfl⟩
abbrev main_v265 : Ref sig .tc := ⟨.hbm, 365, rfl⟩
abbrev main_cst_65 : Ref sig .tc := ⟨.hbm, 366, rfl⟩
abbrev main_v266 : Ref sig .tc := ⟨.hbm, 367, rfl⟩
abbrev main_v267 : Ref sig .tc := ⟨.hbm, 368, rfl⟩
abbrev main_v268 : Ref sig .tc := ⟨.hbm, 369, rfl⟩
abbrev main_v269 : Ref sig .tc := ⟨.hbm, 370, rfl⟩
abbrev main_c_66 : Ref sig .tc := ⟨.hbm, 371, rfl⟩
abbrev main_v270 : Ref sig .tc := ⟨.hbm, 372, rfl⟩
abbrev main_v271 : Ref sig .tc := ⟨.hbm, 373, rfl⟩
abbrev main_c_67 : Ref sig .tc := ⟨.hbm, 374, rfl⟩
abbrev main_v272 : Ref sig .tc := ⟨.hbm, 375, rfl⟩
abbrev main_v273 : Ref sig .tc := ⟨.hbm, 376, rfl⟩
abbrev main_v274 : Ref sig .tc := ⟨.hbm, 377, rfl⟩
abbrev main_v275 : Ref sig .tc := ⟨.hbm, 378, rfl⟩
abbrev main_v276 : Ref sig .tc := ⟨.hbm, 379, rfl⟩
abbrev main_v277 : Ref sig .tc := ⟨.hbm, 380, rfl⟩
abbrev main_v278 : Ref sig .tc := ⟨.hbm, 381, rfl⟩
abbrev main_cst_68 : Ref sig .tc := ⟨.hbm, 382, rfl⟩
abbrev main_v279 : Ref sig .tc := ⟨.hbm, 383, rfl⟩
abbrev main_v280 : Ref sig .tc := ⟨.hbm, 384, rfl⟩
abbrev main_v281 : Ref sig .tc := ⟨.hbm, 385, rfl⟩
abbrev main_cst_69 : Ref sig .tc := ⟨.hbm, 386, rfl⟩
abbrev main_v282 : Ref sig .tc := ⟨.hbm, 387, rfl⟩
abbrev main_v283 : Ref sig .tc := ⟨.hbm, 388, rfl⟩
abbrev main_v284 : Ref sig .tc := ⟨.hbm, 389, rfl⟩
abbrev main_v285 : Ref sig .tc := ⟨.hbm, 390, rfl⟩
abbrev main_v286 : Ref sig .tc := ⟨.hbm, 391, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg6_1 : Ref sig .tc := ⟨.vmem, 36, rfl⟩
abbrev cc2_stg7_0 : Ref sig .tc := ⟨.vmem, 37, rfl⟩
abbrev cc2_stg7_1 : Ref sig .tc := ⟨.vmem, 38, rfl⟩
abbrev cc2_stg8_0 : Ref sig .tc := ⟨.vmem, 39, rfl⟩
abbrev cc2_stg8_1 : Ref sig .tc := ⟨.vmem, 40, rfl⟩
abbrev cc2_stg9_0 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg6_1 : Ref sig .tc := ⟨.vmem, 51, rfl⟩
abbrev cc3_stg7_0 : Ref sig .tc := ⟨.vmem, 52, rfl⟩
abbrev cc3_stg7_1 : Ref sig .tc := ⟨.vmem, 53, rfl⟩
abbrev cc3_stg8_0 : Ref sig .tc := ⟨.vmem, 54, rfl⟩
abbrev cc3_stg8_1 : Ref sig .tc := ⟨.vmem, 55, rfl⟩
abbrev cc3_stg9_0 : Ref sig .tc := ⟨.vmem, 56, rfl⟩
abbrev cc4_stg0_0 : Ref sig .tc := ⟨.vmem, 57, rfl⟩
abbrev cc4_stg0_1 : Ref sig .tc := ⟨.vmem, 58, rfl⟩
abbrev cc4_stg1_0 : Ref sig .tc := ⟨.vmem, 59, rfl⟩
abbrev cc4_stg1_1 : Ref sig .tc := ⟨.vmem, 60, rfl⟩
abbrev cc4_stg2_0 : Ref sig .tc := ⟨.vmem, 61, rfl⟩
abbrev cc4_stg3_0 : Ref sig .tc := ⟨.vmem, 62, rfl⟩
abbrev cc4_stg3_1 : Ref sig .tc := ⟨.vmem, 63, rfl⟩
abbrev cc4_stg4_0 : Ref sig .tc := ⟨.vmem, 64, rfl⟩
abbrev cc4_stg5_0 : Ref sig .tc := ⟨.vmem, 65, rfl⟩
abbrev cc4_stg6_0 : Ref sig .tc := ⟨.vmem, 66, rfl⟩
abbrev cc4_scratch0 : Ref sig .tc := ⟨.vmem, 67, rfl⟩
abbrev cc4_scratch1 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem6_1 : DmaSem sig := 36
abbrev cc2_sem7_0 : DmaSem sig := 37
abbrev cc2_sem7_1 : DmaSem sig := 38
abbrev cc2_sem8_0 : DmaSem sig := 39
abbrev cc2_sem8_1 : DmaSem sig := 40
abbrev cc2_sem9_0 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem6_1 : DmaSem sig := 51
abbrev cc3_sem7_0 : DmaSem sig := 52
abbrev cc3_sem7_1 : DmaSem sig := 53
abbrev cc3_sem8_0 : DmaSem sig := 54
abbrev cc3_sem8_1 : DmaSem sig := 55
abbrev cc3_sem9_0 : DmaSem sig := 56
abbrev cc4_sem0_0 : DmaSem sig := 57
abbrev cc4_sem0_1 : DmaSem sig := 58
abbrev cc4_sem1_0 : DmaSem sig := 59
abbrev cc4_sem1_1 : DmaSem sig := 60
abbrev cc4_sem2_0 : DmaSem sig := 61
abbrev cc4_sem3_0 : DmaSem sig := 62
abbrev cc4_sem3_1 : DmaSem sig := 63
abbrev cc4_sem4_0 : DmaSem sig := 64
abbrev cc4_sem5_0 : DmaSem sig := 65
abbrev cc4_sem6_0 : DmaSem sig := 66

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1000x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_19 : BitVec 32 := 0#32
  let v37 : BitVec 1 := Scalar.cmpi .ne v36 c0_i32_19
  v37

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x1 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]
-- ==== ReferenceIdeal.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S10000x1 : Shape := ⟨2, ![10000, 1]⟩
abbrev S10000x320000 : Shape := ⟨2, ![10000, 320000]⟩
abbrev S320000x128 : Shape := ⟨2, ![320000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S1x1 : Shape := ⟨2, ![1, 1]⟩

abbrev nBuf : Space → Nat
  | .hbm => 549
  | .vmem => 0
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128x1, .f32⟩
  | 20 => ⟨S1, .f32⟩
  | 21 => ⟨S1x320000, .i32⟩
  | 22 => ⟨S320000, .i32⟩
  | 23 => ⟨S1x320000, .i32⟩
  | 24 => ⟨S320000, .i32⟩
  | 25 => ⟨S10000x128, .f32⟩
  | 26 => ⟨S10000, .f32⟩
  | 27 => ⟨S10000, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000, .f32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S320000, .f32⟩
  | 46 => ⟨S320000, .f32⟩
  | 47 => ⟨S_, .f32⟩
  | 48 => ⟨S_, .f32⟩
  | 49 => ⟨S320000, .f32⟩
  | 50 => ⟨S320000, .i1⟩
  | 51 => ⟨S_, .f32⟩
  | 52 => ⟨S320000, .f32⟩
  | 53 => ⟨S320000, .f32⟩
  | 54 => ⟨S320000, .f32⟩
  | 55 => ⟨S1x320000, .i32⟩
  | 56 => ⟨S10000, .i32⟩
  | 57 => ⟨S10000x1, .i32⟩
  | 58 => ⟨S10000x320000, .i32⟩
  | 59 => ⟨S10000x320000, .i32⟩
  | 60 => ⟨S10000x320000, .i1⟩
  | 61 => ⟨S1x320000, .f32⟩
  | 62 => ⟨S_, .f32⟩
  | 63 => ⟨S_, .f32⟩
  | 64 => ⟨S10000x320000, .f32⟩
  | 65 => ⟨S10000x320000, .f32⟩
  | 66 => ⟨S10000x320000, .f32⟩
  | 67 => ⟨S_, .f32⟩
  | 68 => ⟨S10000, .f32⟩
  | 69 => ⟨S10000, .f32⟩
  | 70 => ⟨S_, .f32⟩
  | 71 => ⟨S10000, .f32⟩
  | 72 => ⟨S10000, .i1⟩
  | 73 => ⟨S_, .f32⟩
  | 74 => ⟨S_, .f32⟩
  | 75 => ⟨S10000, .f32⟩
  | 76 => ⟨S10000, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S320000, .f32⟩
  | 86 => ⟨S320000, .f32⟩
  | 87 => ⟨S320000, .f32⟩
  | 88 => ⟨S_, .f32⟩
  | 89 => ⟨S10000, .f32⟩
  | 90 => ⟨S320000x1, .i32⟩
  | 91 => ⟨S10000, .f32⟩
  | 92 => ⟨S_, .f32⟩
  | 93 => ⟨S_, .f32⟩
  | 94 => ⟨S10000, .f32⟩
  | 95 => ⟨S10000, .f32⟩
  | 96 => ⟨S_, .f32⟩
  | 97 => ⟨S_, .f32⟩
  | 98 => ⟨S10000, .f32⟩
  | 99 => ⟨S10000, .i1⟩
  | 100 => ⟨S_, .f32⟩
  | 101 => ⟨S10000, .f32⟩
  | 102 => ⟨S10000, .f32⟩
  | 103 => ⟨S10000, .f32⟩
  | 104 => ⟨S10000, .f32⟩
  | 105 => ⟨S10000, .f32⟩
  | 106 => ⟨S_, .f32⟩
  | 107 => ⟨S10000, .f32⟩
  | 108 => ⟨S10000, .f32⟩
  | 109 => ⟨S_, .i32⟩
  | 110 => ⟨S320000, .i32⟩
  | 111 => ⟨S320000, .i1⟩
  | 112 => ⟨S_, .i32⟩
  | 113 => ⟨S320000, .i32⟩
  | 114 => ⟨S320000, .i32⟩
  | 115 => ⟨S320000, .i32⟩
  | 116 => ⟨S320000x1, .i32⟩
  | 117 => ⟨S320000, .f32⟩
  | 118 => ⟨S_, .i32⟩
  | 119 => ⟨S320000, .i32⟩
  | 120 => ⟨S320000, .i1⟩
  | 121 => ⟨S_, .i32⟩
  | 122 => ⟨S320000, .i32⟩
  | 123 => ⟨S320000, .i32⟩
  | 124 => ⟨S320000, .i32⟩
  | 125 => ⟨S320000x1, .i32⟩
  | 126 => ⟨S320000, .f32⟩
  | 127 => ⟨S320000, .f32⟩
  | _ => ⟨S10000x128, .f32⟩

abbrev hbmTy0_1 (i : Nat) : BufTy := match i % 128 with
  | 0 => ⟨S320000, .f32⟩
  | 1 => ⟨S320000x1, .f32⟩
  | 2 => ⟨S_, .i32⟩
  | 3 => ⟨S320000, .i32⟩
  | 4 => ⟨S320000, .i1⟩
  | 5 => ⟨S_, .i32⟩
  | 6 => ⟨S320000, .i32⟩
  | 7 => ⟨S320000, .i32⟩
  | 8 => ⟨S320000, .i32⟩
  | 9 => ⟨S320000x1, .i32⟩
  | 10 => ⟨S320000x128, .f32⟩
  | 11 => ⟨S320000x128, .f32⟩
  | 12 => ⟨S320000x128, .f32⟩
  | 13 => ⟨S_, .f32⟩
  | 14 => ⟨S10000x128, .f32⟩
  | 15 => ⟨S320000x1, .i32⟩
  | 16 => ⟨S10000x128, .f32⟩
  | 17 => ⟨S1x128, .f32⟩
  | 18 => ⟨S10000x128, .f32⟩
  | 19 => ⟨S10000x128, .f32⟩
  | 20 => ⟨S_, .f32⟩
  | 21 => ⟨S10000x128, .f32⟩
  | 22 => ⟨S10000x128, .f32⟩
  | 23 => ⟨S10000x128, .f32⟩
  | 24 => ⟨S10000, .f32⟩
  | 25 => ⟨S10000, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000, .f32⟩
  | 44 => ⟨S320000, .f32⟩
  | 45 => ⟨S_, .f32⟩
  | 46 => ⟨S_, .f32⟩
  | 47 => ⟨S320000, .f32⟩
  | 48 => ⟨S320000, .i1⟩
  | 49 => ⟨S_, .f32⟩
  | 50 => ⟨S320000, .f32⟩
  | 51 => ⟨S320000, .f32⟩
  | 52 => ⟨S320000, .f32⟩
  | 53 => ⟨S1x320000, .i32⟩
  | 54 => ⟨S10000, .i32⟩
  | 55 => ⟨S10000x1, .i32⟩
  | 56 => ⟨S10000x320000, .i32⟩
  | 57 => ⟨S10000x320000, .i32⟩
  | 58 => ⟨S10000x320000, .i1⟩
  | 59 => ⟨S1x320000, .f32⟩
  | 60 => ⟨S_, .f32⟩
  | 61 => ⟨S_, .f32⟩
  | 62 => ⟨S10000x320000, .f32⟩
  | 63 => ⟨S10000x320000, .f32⟩
  | 64 => ⟨S10000x320000, .f32⟩
  | 65 => ⟨S_, .f32⟩
  | 66 => ⟨S10000, .f32⟩
  | 67 => ⟨S10000, .f32⟩
  | 68 => ⟨S_, .f32⟩
  | 69 => ⟨S10000, .f32⟩
  | 70 => ⟨S10000, .i1⟩
  | 71 => ⟨S_, .f32⟩
  | 72 => ⟨S_, .f32⟩
  | 73 => ⟨S10000, .f32⟩
  | 74 => ⟨S10000, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000, .f32⟩
  | 84 => ⟨S320000, .f32⟩
  | 85 => ⟨S320000, .f32⟩
  | 86 => ⟨S_, .f32⟩
  | 87 => ⟨S10000, .f32⟩
  | 88 => ⟨S320000x1, .i32⟩
  | 89 => ⟨S10000, .f32⟩
  | 90 => ⟨S_, .f32⟩
  | 91 => ⟨S_, .f32⟩
  | 92 => ⟨S10000, .f32⟩
  | 93 => ⟨S10000, .f32⟩
  | 94 => ⟨S_, .f32⟩
  | 95 => ⟨S_, .f32⟩
  | 96 => ⟨S10000, .f32⟩
  | 97 => ⟨S10000, .i1⟩
  | 98 => ⟨S_, .f32⟩
  | 99 => ⟨S10000, .f32⟩
  | 100 => ⟨S10000, .f32⟩
  | 101 => ⟨S10000, .f32⟩
  | 102 => ⟨S10000, .f32⟩
  | 103 => ⟨S10000, .f32⟩
  | 104 => ⟨S_, .f32⟩
  | 105 => ⟨S10000, .f32⟩
  | 106 => ⟨S10000, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S320000, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000, .f32⟩
  | 125 => ⟨S320000, .f32⟩
  | 126 => ⟨S320000, .f32⟩
  | 127 => ⟨S320000x1, .f32⟩
  | _ => ⟨S10000x128, .f32⟩

abbrev hbmTy0_2 (i : Nat) : BufTy := match i % 128 with
  | 0 => ⟨S_, .i32⟩
  | 1 => ⟨S320000, .i32⟩
  | 2 => ⟨S320000, .i1⟩
  | 3 => ⟨S_, .i32⟩
  | 4 => ⟨S320000, .i32⟩
  | 5 => ⟨S320000, .i32⟩
  | 6 => ⟨S320000, .i32⟩
  | 7 => ⟨S320000x1, .i32⟩
  | 8 => ⟨S320000x128, .f32⟩
  | 9 => ⟨S320000x128, .f32⟩
  | 10 => ⟨S320000x128, .f32⟩
  | 11 => ⟨S_, .f32⟩
  | 12 => ⟨S10000x128, .f32⟩
  | 13 => ⟨S320000x1, .i32⟩
  | 14 => ⟨S10000x128, .f32⟩
  | 15 => ⟨S1x128, .f32⟩
  | 16 => ⟨S10000x128, .f32⟩
  | 17 => ⟨S10000x128, .f32⟩
  | 18 => ⟨S_, .f32⟩
  | 19 => ⟨S10000x128, .f32⟩
  | 20 => ⟨S10000x128, .f32⟩
  | 21 => ⟨S10000x128, .f32⟩
  | 22 => ⟨S10000, .f32⟩
  | 23 => ⟨S10000, .f32⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S320000, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000, .f32⟩
  | 42 => ⟨S320000, .f32⟩
  | 43 => ⟨S_, .f32⟩
  | 44 => ⟨S_, .f32⟩
  | 45 => ⟨S320000, .f32⟩
  | 46 => ⟨S320000, .i1⟩
  | 47 => ⟨S_, .f32⟩
  | 48 => ⟨S320000, .f32⟩
  | 49 => ⟨S320000, .f32⟩
  | 50 => ⟨S320000, .f32⟩
  | 51 => ⟨S1x320000, .i32⟩
  | 52 => ⟨S10000, .i32⟩
  | 53 => ⟨S10000x1, .i32⟩
  | 54 => ⟨S10000x320000, .i32⟩
  | 55 => ⟨S10000x320000, .i32⟩
  | 56 => ⟨S10000x320000, .i1⟩
  | 57 => ⟨S1x320000, .f32⟩
  | 58 => ⟨S_, .f32⟩
  | 59 => ⟨S_, .f32⟩
  | 60 => ⟨S10000x320000, .f32⟩
  | 61 => ⟨S10000x320000, .f32⟩
  | 62 => ⟨S10000x320000, .f32⟩
  | 63 => ⟨S_, .f32⟩
  | 64 => ⟨S10000, .f32⟩
  | 65 => ⟨S10000, .f32⟩
  | 66 => ⟨S_, .f32⟩
  | 67 => ⟨S10000, .f32⟩
  | 68 => ⟨S10000, .i1⟩
  | 69 => ⟨S_, .f32⟩
  | 70 => ⟨S_, .f32⟩
  | 71 => ⟨S10000, .f32⟩
  | 72 => ⟨S10000, .f32⟩
  | 73 => ⟨S_, .i32⟩
  | 74 => ⟨S320000, .i32⟩
  | 75 => ⟨S320000, .i1⟩
  | 76 => ⟨S_, .i32⟩
  | 77 => ⟨S320000, .i32⟩
  | 78 => ⟨S320000, .i32⟩
  | 79 => ⟨S320000, .i32⟩
  | 80 => ⟨S320000x1, .i32⟩
  | 81 => ⟨S320000, .f32⟩
  | 82 => ⟨S320000, .f32⟩
  | 83 => ⟨S320000, .f32⟩
  | 84 => ⟨S_, .f32⟩
  | 85 => ⟨S10000, .f32⟩
  | 86 => ⟨S320000x1, .i32⟩
  | 87 => ⟨S10000, .f32⟩
  | 88 => ⟨S_, .f32⟩
  | 89 => ⟨S_, .f32⟩
  | 90 => ⟨S10000, .f32⟩
  | 91 => ⟨S10000, .f32⟩
  | 92 => ⟨S_, .f32⟩
  | 93 => ⟨S_, .f32⟩
  | 94 => ⟨S10000, .f32⟩
  | 95 => ⟨S10000, .i1⟩
  | 96 => ⟨S_, .f32⟩
  | 97 => ⟨S10000, .f32⟩
  | 98 => ⟨S10000, .f32⟩
  | 99 => ⟨S10000, .f32⟩
  | 100 => ⟨S10000, .f32⟩
  | 101 => ⟨S10000, .f32⟩
  | 102 => ⟨S_, .f32⟩
  | 103 => ⟨S10000, .f32⟩
  | 104 => ⟨S10000, .f32⟩
  | 105 => ⟨S_, .i32⟩
  | 106 => ⟨S320000, .i32⟩
  | 107 => ⟨S320000, .i1⟩
  | 108 => ⟨S_, .i32⟩
  | 109 => ⟨S320000, .i32⟩
  | 110 => ⟨S320000, .i32⟩
  | 111 => ⟨S320000, .i32⟩
  | 112 => ⟨S320000x1, .i32⟩
  | 113 => ⟨S320000, .f32⟩
  | 114 => ⟨S_, .i32⟩
  | 115 => ⟨S320000, .i32⟩
  | 116 => ⟨S320000, .i1⟩
  | 117 => ⟨S_, .i32⟩
  | 118 => ⟨S320000, .i32⟩
  | 119 => ⟨S320000, .i32⟩
  | 120 => ⟨S320000, .i32⟩
  | 121 => ⟨S320000x1, .i32⟩
  | 122 => ⟨S320000, .f32⟩
  | 123 => ⟨S320000, .f32⟩
  | 124 => ⟨S320000, .f32⟩
  | 125 => ⟨S320000x1, .f32⟩
  | 126 => ⟨S_, .i32⟩
  | 127 => ⟨S320000, .i32⟩
  | _ => ⟨S10000x128, .f32⟩

abbrev hbmTy0_3 (i : Nat) : BufTy := match i % 128 with
  | 0 => ⟨S320000, .i1⟩
  | 1 => ⟨S_, .i32⟩
  | 2 => ⟨S320000, .i32⟩
  | 3 => ⟨S320000, .i32⟩
  | 4 => ⟨S320000, .i32⟩
  | 5 => ⟨S320000x1, .i32⟩
  | 6 => ⟨S320000x128, .f32⟩
  | 7 => ⟨S320000x128, .f32⟩
  | 8 => ⟨S320000x128, .f32⟩
  | 9 => ⟨S_, .f32⟩
  | 10 => ⟨S10000x128, .f32⟩
  | 11 => ⟨S320000x1, .i32⟩
  | 12 => ⟨S10000x128, .f32⟩
  | 13 => ⟨S1x128, .f32⟩
  | 14 => ⟨S10000x128, .f32⟩
  | 15 => ⟨S10000x128, .f32⟩
  | 16 => ⟨S_, .f32⟩
  | 17 => ⟨S10000x128, .f32⟩
  | 18 => ⟨S10000x128, .f32⟩
  | 19 => ⟨S10000x128, .f32⟩
  | 20 => ⟨S10000, .f32⟩
  | 21 => ⟨S10000, .f32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S320000, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000, .f32⟩
  | 40 => ⟨S320000, .f32⟩
  | 41 => ⟨S_, .f32⟩
  | 42 => ⟨S_, .f32⟩
  | 43 => ⟨S320000, .f32⟩
  | 44 => ⟨S320000, .i1⟩
  | 45 => ⟨S_, .f32⟩
  | 46 => ⟨S320000, .f32⟩
  | 47 => ⟨S320000, .f32⟩
  | 48 => ⟨S320000, .f32⟩
  | 49 => ⟨S1x320000, .i32⟩
  | 50 => ⟨S10000, .i32⟩
  | 51 => ⟨S10000x1, .i32⟩
  | 52 => ⟨S10000x320000, .i32⟩
  | 53 => ⟨S10000x320000, .i32⟩
  | 54 => ⟨S10000x320000, .i1⟩
  | 55 => ⟨S1x320000, .f32⟩
  | 56 => ⟨S_, .f32⟩
  | 57 => ⟨S_, .f32⟩
  | 58 => ⟨S10000x320000, .f32⟩
  | 59 => ⟨S10000x320000, .f32⟩
  | 60 => ⟨S10000x320000, .f32⟩
  | 61 => ⟨S_, .f32⟩
  | 62 => ⟨S10000, .f32⟩
  | 63 => ⟨S10000, .f32⟩
  | 64 => ⟨S_, .f32⟩
  | 65 => ⟨S10000, .f32⟩
  | 66 => ⟨S10000, .i1⟩
  | 67 => ⟨S_, .f32⟩
  | 68 => ⟨S_, .f32⟩
  | 69 => ⟨S10000, .f32⟩
  | 70 => ⟨S10000, .f32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S320000, .f32⟩
  | 80 => ⟨S320000, .f32⟩
  | 81 => ⟨S320000, .f32⟩
  | 82 => ⟨S_, .f32⟩
  | 83 => ⟨S10000, .f32⟩
  | 84 => ⟨S320000x1, .i32⟩
  | 85 => ⟨S10000, .f32⟩
  | 86 => ⟨S_, .f32⟩
  | 87 => ⟨S_, .f32⟩
  | 88 => ⟨S10000, .f32⟩
  | 89 => ⟨S10000, .f32⟩
  | 90 => ⟨S_, .f32⟩
  | 91 => ⟨S_, .f32⟩
  | 92 => ⟨S10000, .f32⟩
  | 93 => ⟨S10000, .i1⟩
  | 94 => ⟨S_, .f32⟩
  | 95 => ⟨S10000, .f32⟩
  | 96 => ⟨S10000, .f32⟩
  | 97 => ⟨S10000, .f32⟩
  | 98 => ⟨S10000, .f32⟩
  | 99 => ⟨S10000, .f32⟩
  | 100 => ⟨S_, .f32⟩
  | 101 => ⟨S10000, .f32⟩
  | 102 => ⟨S10000, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S320000, .f32⟩
  | 112 => ⟨S_, .i32⟩
  | 113 => ⟨S320000, .i32⟩
  | 114 => ⟨S320000, .i1⟩
  | 115 => ⟨S_, .i32⟩
  | 116 => ⟨S320000, .i32⟩
  | 117 => ⟨S320000, .i32⟩
  | 118 => ⟨S320000, .i32⟩
  | 119 => ⟨S320000x1, .i32⟩
  | 120 => ⟨S320000, .f32⟩
  | 121 => ⟨S320000, .f32⟩
  | 122 => ⟨S320000, .f32⟩
  | 123 => ⟨S320000x1, .f32⟩
  | 124 => ⟨S_, .i32⟩
  | 125 => ⟨S320000, .i32⟩
  | 126 => ⟨S320000, .i1⟩
  | 127 => ⟨S_, .i32⟩
  | _ => ⟨S10000x128, .f32⟩

abbrev hbmTy0_4 (i : Nat) : BufTy := match i % 128 with
  | 0 => ⟨S320000, .i32⟩
  | 1 => ⟨S320000, .i32⟩
  | 2 => ⟨S320000, .i32⟩
  | 3 => ⟨S320000x1, .i32⟩
  | 4 => ⟨S320000x128, .f32⟩
  | 5 => ⟨S320000x128, .f32⟩
  | 6 => ⟨S320000x128, .f32⟩
  | 7 => ⟨S_, .f32⟩
  | 8 => ⟨S10000x128, .f32⟩
  | 9 => ⟨S320000x1, .i32⟩
  | 10 => ⟨S10000x128, .f32⟩
  | 11 => ⟨S1x128, .f32⟩
  | 12 => ⟨S10000x128, .f32⟩
  | 13 => ⟨S10000x128, .f32⟩
  | 14 => ⟨S_, .f32⟩
  | 15 => ⟨S10000x128, .f32⟩
  | 16 => ⟨S10000x128, .f32⟩
  | 17 => ⟨S_, .f32⟩
  | 18 => ⟨S64x128, .f32⟩
  | 19 => ⟨S10000x1, .i32⟩
  | 20 => ⟨S64x128, .f32⟩
  | 21 => ⟨S_, .f32⟩
  | 22 => ⟨S10000, .f32⟩
  | 23 => ⟨S_, .f32⟩
  | 24 => ⟨S64, .f32⟩
  | 25 => ⟨S10000x1, .i32⟩
  | 26 => ⟨S64, .f32⟩
  | 27 => ⟨S_, .f32⟩
  | 28 => ⟨S64, .f32⟩
  | 29 => ⟨S64, .f32⟩
  | 30 => ⟨S64x1, .f32⟩
  | 31 => ⟨S64x128, .f32⟩
  | 32 => ⟨S64x128, .f32⟩
  | 33 => ⟨S64x1, .f32⟩
  | 34 => ⟨S1x1, .f32⟩
  | 35 => ⟨S64x1, .f32⟩
  | 36 => ⟨S64x1, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_1 : Ref sig .tc := ⟨.hbm, 37, rfl⟩
abbrev main_v14 : Ref sig .tc := ⟨.hbm, 38, rfl⟩
abbrev main_v15 : Ref sig .tc := ⟨.hbm, 39, rfl⟩
abbrev main_c_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_3 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v30 : Ref sig .tc := ⟨.hbm, 66, rfl⟩
abbrev main_cst_4 : Ref sig .tc := ⟨.hbm, 67, rfl⟩
abbrev main_v31 : Ref sig .tc := ⟨.hbm, 68, rfl⟩
abbrev main_v32 : Ref sig .tc := ⟨.hbm, 69, rfl⟩
abbrev main_cst_5 : Ref sig .tc := ⟨.hbm, 70, rfl⟩
abbrev main_v33 : Ref sig .tc := ⟨.hbm, 71, rfl⟩
abbrev main_v34 : Ref sig .tc := ⟨.hbm, 72, rfl⟩
abbrev main_cst_6 : Ref sig .tc := ⟨.hbm, 73, rfl⟩
abbrev main_call2_v0 : Ref sig .tc := ⟨.hbm, 74, rfl⟩
abbrev main_call2_v1 : Ref sig .tc := ⟨.hbm, 75, rfl⟩
abbrev main_v35 : Ref sig .tc := ⟨.hbm, 76, rfl⟩
abbrev main_c_7 : Ref sig .tc := ⟨.hbm, 77, rfl⟩
abbrev main_v36 : Ref sig .tc := ⟨.hbm, 78, rfl⟩
abbrev main_v37 : Ref sig .tc := ⟨.hbm, 79, rfl⟩
abbrev main_c_8 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_9 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_10 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_11 : Ref sig .tc := ⟨.hbm, 96, rfl⟩
abbrev main_call3_cst : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_12 : Ref sig .tc := ⟨.hbm, 106, rfl⟩
abbrev main_v54 : Ref sig .tc := ⟨.hbm, 107, rfl⟩
abbrev main_v55 : Ref sig .tc := ⟨.hbm, 108, rfl⟩
abbrev main_c_13 : Ref sig .tc := ⟨.hbm, 109, rfl⟩
abbrev main_v56 : Ref sig .tc := ⟨.hbm, 110, rfl⟩
abbrev main_v57 : Ref sig .tc := ⟨.hbm, 111, rfl⟩
abbrev main_c_14 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_c_15 : Ref sig .tc := ⟨.hbm, 118, rfl⟩
abbrev main_v63 : Ref sig .tc := ⟨.hbm, 119, rfl⟩
abbrev main_v64 : Ref sig .tc := ⟨.hbm, 120, rfl⟩
abbrev main_c_16 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_c_17 : Ref sig .tc := ⟨.hbm, 130, rfl⟩
abbrev main_v73 : Ref sig .tc := ⟨.hbm, 131, rfl⟩
abbrev main_v74 : Ref sig .tc := ⟨.hbm, 132, rfl⟩
abbrev main_c_18 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_cst_19 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_call4_cst : Ref sig .tc := ⟨.hbm, 148, rfl⟩
abbrev main_call4_v0 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_c_20 : Ref sig .tc := ⟨.hbm, 154, rfl⟩
abbrev main_v92 : Ref sig .tc := ⟨.hbm, 155, rfl⟩
abbrev main_v93 : Ref sig .tc := ⟨.hbm, 156, rfl⟩
abbrev main_c_21 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_c_22 : Ref sig .tc := ⟨.hbm, 163, rfl⟩
abbrev main_v99 : Ref sig .tc := ⟨.hbm, 164, rfl⟩
abbrev main_v100 : Ref sig .tc := ⟨.hbm, 165, rfl⟩
abbrev main_c_23 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_cst_24 : Ref sig .tc := ⟨.hbm, 173, rfl⟩
abbrev main_call5_cst : Ref sig .tc := ⟨.hbm, 174, rfl⟩
abbrev main_call5_v0 : Ref sig .tc := ⟨.hbm, 175, rfl⟩
abbrev main_call5_v1 : Ref sig .tc := ⟨.hbm, 176, rfl⟩
abbrev main_call5_v2 : Ref sig .tc := ⟨.hbm, 177, rfl⟩
abbrev main_call5_v3 : Ref sig .tc := ⟨.hbm, 178, rfl⟩
abbrev main_call5_v4 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_cst_25 : Ref sig .tc := ⟨.hbm, 188, rfl⟩
abbrev main_call6_v0 : Ref sig .tc := ⟨.hbm, 189, rfl⟩
abbrev main_call6_v1 : Ref sig .tc := ⟨.hbm, 190, rfl⟩
abbrev main_call6_v2 : Ref sig .tc := ⟨.hbm, 191, rfl⟩
abbrev main_v115 : Ref sig .tc := ⟨.hbm, 192, rfl⟩
abbrev main_cst_26 : Ref sig .tc := ⟨.hbm, 193, rfl⟩
abbrev main_v116 : Ref sig .tc := ⟨.hbm, 194, rfl⟩
abbrev main_v117 : Ref sig .tc := ⟨.hbm, 195, rfl⟩
abbrev main_cst_27 : Ref sig .tc := ⟨.hbm, 196, rfl⟩
abbrev main_v118 : Ref sig .tc := ⟨.hbm, 197, rfl⟩
abbrev main_v119 : Ref sig .tc := ⟨.hbm, 198, rfl⟩
abbrev main_cst_28 : Ref sig .tc := ⟨.hbm, 199, rfl⟩
abbrev main_call7_v0 : Ref sig .tc := ⟨.hbm, 200, rfl⟩
abbrev main_call7_v1 : Ref sig .tc := ⟨.hbm, 201, rfl⟩
abbrev main_v120 : Ref sig .tc := ⟨.hbm, 202, rfl⟩
abbrev main_c_29 : Ref sig .tc := ⟨.hbm, 203, rfl⟩
abbrev main_v121 : Ref sig .tc := ⟨.hbm, 204, rfl⟩
abbrev main_v122 : Ref sig .tc := ⟨.hbm, 205, rfl⟩
abbrev main_c_30 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_cst_31 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_cst_32 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_cst_33 : Ref sig .tc := ⟨.hbm, 222, rfl⟩
abbrev main_call8_cst : Ref sig .tc := ⟨.hbm, 223, rfl⟩
abbrev main_call8_v0 : Ref sig .tc := ⟨.hbm, 224, rfl⟩
abbrev main_call8_v1 : Ref sig .tc := ⟨.hbm, 225, rfl⟩
abbrev main_call8_v2 : Ref sig .tc := ⟨.hbm, 226, rfl⟩
abbrev main_call8_v3 : Ref sig .tc := ⟨.hbm, 227, rfl⟩
abbrev main_call8_v4 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_cst_34 : Ref sig .tc := ⟨.hbm, 232, rfl⟩
abbrev main_v139 : Ref sig .tc := ⟨.hbm, 233, rfl⟩
abbrev main_v140 : Ref sig .tc := ⟨.hbm, 234, rfl⟩
abbrev main_c_35 : Ref sig .tc := ⟨.hbm, 235, rfl⟩
abbrev main_v141 : Ref sig .tc := ⟨.hbm, 236, rfl⟩
abbrev main_v142 : Ref sig .tc := ⟨.hbm, 237, rfl⟩
abbrev main_c_36 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_c_37 : Ref sig .tc := ⟨.hbm, 244, rfl⟩
abbrev main_v148 : Ref sig .tc := ⟨.hbm, 245, rfl⟩
abbrev main_v149 : Ref sig .tc := ⟨.hbm, 246, rfl⟩
abbrev main_c_38 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_c_39 : Ref sig .tc := ⟨.hbm, 256, rfl⟩
abbrev main_v158 : Ref sig .tc := ⟨.hbm, 257, rfl⟩
abbrev main_v159 : Ref sig .tc := ⟨.hbm, 258, rfl⟩
abbrev main_c_40 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_cst_41 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_call9_cst : Ref sig .tc := ⟨.hbm, 274, rfl⟩
abbrev main_call9_v0 : Ref sig .tc := ⟨.hbm, 275, rfl⟩
abbrev main_v173 : Ref sig .tc := ⟨.hbm, 276, rfl⟩
abbrev main_v174 : Ref sig .tc := ⟨.hbm, 277, rfl⟩
abbrev main_v175 : Ref sig .tc := ⟨.hbm, 278, rfl⟩
abbrev main_v176 : Ref sig .tc := ⟨.hbm, 279, rfl⟩
abbrev main_c_42 : Ref sig .tc := ⟨.hbm, 280, rfl⟩
abbrev main_v177 : Ref sig .tc := ⟨.hbm, 281, rfl⟩
abbrev main_v178 : Ref sig .tc := ⟨.hbm, 282, rfl⟩
abbrev main_c_43 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_c_44 : Ref sig .tc := ⟨.hbm, 289, rfl⟩
abbrev main_v184 : Ref sig .tc := ⟨.hbm, 290, rfl⟩
abbrev main_v185 : Ref sig .tc := ⟨.hbm, 291, rfl⟩
abbrev main_c_45 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_cst_46 : Ref sig .tc := ⟨.hbm, 299, rfl⟩
abbrev main_call10_cst : Ref sig .tc := ⟨.hbm, 300, rfl⟩
abbrev main_call10_v0 : Ref sig .tc := ⟨.hbm, 301, rfl⟩
abbrev main_call10_v1 : Ref sig .tc := ⟨.hbm, 302, rfl⟩
abbrev main_call10_v2 : Ref sig .tc := ⟨.hbm, 303, rfl⟩
abbrev main_call10_v3 : Ref sig .tc := ⟨.hbm, 304, rfl⟩
abbrev main_call10_v4 : Ref sig .tc := ⟨.hbm, 305, rfl⟩
abbrev main_v192 : Ref sig .tc := ⟨.hbm, 306, rfl⟩
abbrev main_v193 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_v197 : Ref sig .tc := ⟨.hbm, 311, rfl⟩
abbrev main_v198 : Ref sig .tc := ⟨.hbm, 312, rfl⟩
abbrev main_v199 : Ref sig .tc := ⟨.hbm, 313, rfl⟩
abbrev main_cst_47 : Ref sig .tc := ⟨.hbm, 314, rfl⟩
abbrev main_call11_v0 : Ref sig .tc := ⟨.hbm, 315, rfl⟩
abbrev main_call11_v1 : Ref sig .tc := ⟨.hbm, 316, rfl⟩
abbrev main_call11_v2 : Ref sig .tc := ⟨.hbm, 317, rfl⟩
abbrev main_v200 : Ref sig .tc := ⟨.hbm, 318, rfl⟩
abbrev main_cst_48 : Ref sig .tc := ⟨.hbm, 319, rfl⟩
abbrev main_v201 : Ref sig .tc := ⟨.hbm, 320, rfl⟩
abbrev main_v202 : Ref sig .tc := ⟨.hbm, 321, rfl⟩
abbrev main_cst_49 : Ref sig .tc := ⟨.hbm, 322, rfl⟩
abbrev main_v203 : Ref sig .tc := ⟨.hbm, 323, rfl⟩
abbrev main_v204 : Ref sig .tc := ⟨.hbm, 324, rfl⟩
abbrev main_cst_50 : Ref sig .tc := ⟨.hbm, 325, rfl⟩
abbrev main_call12_v0 : Ref sig .tc := ⟨.hbm, 326, rfl⟩
abbrev main_call12_v1 : Ref sig .tc := ⟨.hbm, 327, rfl⟩
abbrev main_v205 : Ref sig .tc := ⟨.hbm, 328, rfl⟩
abbrev main_c_51 : Ref sig .tc := ⟨.hbm, 329, rfl⟩
abbrev main_v206 : Ref sig .tc := ⟨.hbm, 330, rfl⟩
abbrev main_v207 : Ref sig .tc := ⟨.hbm, 331, rfl⟩
abbrev main_c_52 : Ref sig .tc := ⟨.hbm, 332, rfl⟩
abbrev main_v208 : Ref sig .tc := ⟨.hbm, 333, rfl⟩
abbrev main_v209 : Ref sig .tc := ⟨.hbm, 334, rfl⟩
abbrev main_v210 : Ref sig .tc := ⟨.hbm, 335, rfl⟩
abbrev main_v211 : Ref sig .tc := ⟨.hbm, 336, rfl⟩
abbrev main_v212 : Ref sig .tc := ⟨.hbm, 337, rfl⟩
abbrev main_v213 : Ref sig .tc := ⟨.hbm, 338, rfl⟩
abbrev main_v214 : Ref sig .tc := ⟨.hbm, 339, rfl⟩
abbrev main_cst_53 : Ref sig .tc := ⟨.hbm, 340, rfl⟩
abbrev main_v215 : Ref sig .tc := ⟨.hbm, 341, rfl⟩
abbrev main_v216 : Ref sig .tc := ⟨.hbm, 342, rfl⟩
abbrev main_v217 : Ref sig .tc := ⟨.hbm, 343, rfl⟩
abbrev main_cst_54 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_55 : Ref sig .tc := ⟨.hbm, 348, rfl⟩
abbrev main_call13_cst : Ref sig .tc := ⟨.hbm, 349, rfl⟩
abbrev main_call13_v0 : Ref sig .tc := ⟨.hbm, 350, rfl⟩
abbrev main_call13_v1 : Ref sig .tc := ⟨.hbm, 351, rfl⟩
abbrev main_call13_v2 : Ref sig .tc := ⟨.hbm, 352, rfl⟩
abbrev main_call13_v3 : Ref sig .tc := ⟨.hbm, 353, rfl⟩
abbrev main_call13_v4 : Ref sig .tc := ⟨.hbm, 354, rfl⟩
abbrev main_v221 : Ref sig .tc := ⟨.hbm, 355, rfl⟩
abbrev main_v222 : Ref sig .tc := ⟨.hbm, 356, rfl⟩
abbrev main_v223 : Ref sig .tc := ⟨.hbm, 357, rfl⟩
abbrev main_cst_56 : Ref sig .tc := ⟨.hbm, 358, rfl⟩
abbrev main_v224 : Ref sig .tc := ⟨.hbm, 359, rfl⟩
abbrev main_v225 : Ref sig .tc := ⟨.hbm, 360, rfl⟩
abbrev main_c_57 : Ref sig .tc := ⟨.hbm, 361, rfl⟩
abbrev main_v226 : Ref sig .tc := ⟨.hbm, 362, rfl⟩
abbrev main_v227 : Ref sig .tc := ⟨.hbm, 363, rfl⟩
abbrev main_c_58 : Ref sig .tc := ⟨.hbm, 364, rfl⟩
abbrev main_v228 : Ref sig .tc := ⟨.hbm, 365, rfl⟩
abbrev main_v229 : Ref sig .tc := ⟨.hbm, 366, rfl⟩
abbrev main_v230 : Ref sig .tc := ⟨.hbm, 367, rfl⟩
abbrev main_v231 : Ref sig .tc := ⟨.hbm, 368, rfl⟩
abbrev main_v232 : Ref sig .tc := ⟨.hbm, 369, rfl⟩
abbrev main_c_59 : Ref sig .tc := ⟨.hbm, 370, rfl⟩
abbrev main_v233 : Ref sig .tc := ⟨.hbm, 371, rfl⟩
abbrev main_v234 : Ref sig .tc := ⟨.hbm, 372, rfl⟩
abbrev main_c_60 : Ref sig .tc := ⟨.hbm, 373, rfl⟩
abbrev main_v235 : Ref sig .tc := ⟨.hbm, 374, rfl⟩
abbrev main_v236 : Ref sig .tc := ⟨.hbm, 375, rfl⟩
abbrev main_v237 : Ref sig .tc := ⟨.hbm, 376, rfl⟩
abbrev main_v238 : Ref sig .tc := ⟨.hbm, 377, rfl⟩
abbrev main_v239 : Ref sig .tc := ⟨.hbm, 378, rfl⟩
abbrev main_v240 : Ref sig .tc := ⟨.hbm, 379, rfl⟩
abbrev main_v241 : Ref sig .tc := ⟨.hbm, 380, rfl⟩
abbrev main_v242 : Ref sig .tc := ⟨.hbm, 381, rfl⟩
abbrev main_c_61 : Ref sig .tc := ⟨.hbm, 382, rfl⟩
abbrev main_v243 : Ref sig .tc := ⟨.hbm, 383, rfl⟩
abbrev main_v244 : Ref sig .tc := ⟨.hbm, 384, rfl⟩
abbrev main_c_62 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_v248 : Ref sig .tc := ⟨.hbm, 389, rfl⟩
abbrev main_v249 : Ref sig .tc := ⟨.hbm, 390, rfl⟩
abbrev main_v250 : Ref sig .tc := ⟨.hbm, 391, rfl⟩
abbrev main_v251 : Ref sig .tc := ⟨.hbm, 392, rfl⟩
abbrev main_cst_63 : Ref sig .tc := ⟨.hbm, 393, rfl⟩
abbrev main_v252 : Ref sig .tc := ⟨.hbm, 394, rfl⟩
abbrev main_v253 : Ref sig .tc := ⟨.hbm, 395, rfl⟩
abbrev main_v254 : Ref sig .tc := ⟨.hbm, 396, rfl⟩
abbrev main_v255 : Ref sig .tc := ⟨.hbm, 397, rfl⟩
abbrev main_v256 : Ref sig .tc := ⟨.hbm, 398, rfl⟩
abbrev main_v257 : Ref sig .tc := ⟨.hbm, 399, rfl⟩
abbrev main_call14_cst : Ref sig .tc := ⟨.hbm, 400, rfl⟩
abbrev main_call14_v0 : Ref sig .tc := ⟨.hbm, 401, rfl⟩
abbrev main_v258 : Ref sig .tc := ⟨.hbm, 402, rfl⟩
abbrev main_v259 : Ref sig .tc := ⟨.hbm, 403, rfl⟩
abbrev main_v260 : Ref sig .tc := ⟨.hbm, 404, rfl⟩
abbrev main_v261 : Ref sig .tc := ⟨.hbm, 405, rfl⟩
abbrev main_c_64 : Ref sig .tc := ⟨.hbm, 406, rfl⟩
abbrev main_v262 : Ref sig .tc := ⟨.hbm, 407, rfl⟩
abbrev main_v263 : Ref sig .tc := ⟨.hbm, 408, rfl⟩
abbrev main_c_65 : Ref sig .tc := ⟨.hbm, 409, rfl⟩
abbrev main_v264 : Ref sig .tc := ⟨.hbm, 410, rfl⟩
abbrev main_v265 : Ref sig .tc := ⟨.hbm, 411, rfl⟩
abbrev main_v266 : Ref sig .tc := ⟨.hbm, 412, rfl⟩
abbrev main_v267 : Ref sig .tc := ⟨.hbm, 413, rfl⟩
abbrev main_v268 : Ref sig .tc := ⟨.hbm, 414, rfl⟩
abbrev main_c_66 : Ref sig .tc := ⟨.hbm, 415, rfl⟩
abbrev main_v269 : Ref sig .tc := ⟨.hbm, 416, rfl⟩
abbrev main_v270 : Ref sig .tc := ⟨.hbm, 417, rfl⟩
abbrev main_c_67 : Ref sig .tc := ⟨.hbm, 418, rfl⟩
abbrev main_v271 : Ref sig .tc := ⟨.hbm, 419, rfl⟩
abbrev main_v272 : Ref sig .tc := ⟨.hbm, 420, rfl⟩
abbrev main_v273 : Ref sig .tc := ⟨.hbm, 421, rfl⟩
abbrev main_v274 : Ref sig .tc := ⟨.hbm, 422, rfl⟩
abbrev main_v275 : Ref sig .tc := ⟨.hbm, 423, rfl⟩
abbrev main_v276 : Ref sig .tc := ⟨.hbm, 424, rfl⟩
abbrev main_cst_68 : Ref sig .tc := ⟨.hbm, 425, rfl⟩
abbrev main_call15_cst : Ref sig .tc := ⟨.hbm, 426, rfl⟩
abbrev main_call15_v0 : Ref sig .tc := ⟨.hbm, 427, rfl⟩
abbrev main_call15_v1 : Ref sig .tc := ⟨.hbm, 428, rfl⟩
abbrev main_call15_v2 : Ref sig .tc := ⟨.hbm, 429, rfl⟩
abbrev main_call15_v3 : Ref sig .tc := ⟨.hbm, 430, rfl⟩
abbrev main_call15_v4 : Ref sig .tc := ⟨.hbm, 431, rfl⟩
abbrev main_v277 : Ref sig .tc := ⟨.hbm, 432, rfl⟩
abbrev main_v278 : Ref sig .tc := ⟨.hbm, 433, rfl⟩
abbrev main_v279 : Ref sig .tc := ⟨.hbm, 434, rfl⟩
abbrev main_v280 : Ref sig .tc := ⟨.hbm, 435, rfl⟩
abbrev main_v281 : Ref sig .tc := ⟨.hbm, 436, rfl⟩
abbrev main_v282 : Ref sig .tc := ⟨.hbm, 437, rfl⟩
abbrev main_v283 : Ref sig .tc := ⟨.hbm, 438, rfl⟩
abbrev main_v284 : Ref sig .tc := ⟨.hbm, 439, rfl⟩
abbrev main_cst_69 : Ref sig .tc := ⟨.hbm, 440, rfl⟩
abbrev main_call16_v0 : Ref sig .tc := ⟨.hbm, 441, rfl⟩
abbrev main_call16_v1 : Ref sig .tc := ⟨.hbm, 442, rfl⟩
abbrev main_call16_v2 : Ref sig .tc := ⟨.hbm, 443, rfl⟩
abbrev main_v285 : Ref sig .tc := ⟨.hbm, 444, rfl⟩
abbrev main_cst_70 : Ref sig .tc := ⟨.hbm, 445, rfl⟩
abbrev main_v286 : Ref sig .tc := ⟨.hbm, 446, rfl⟩
abbrev main_v287 : Ref sig .tc := ⟨.hbm, 447, rfl⟩
abbrev main_cst_71 : Ref sig .tc := ⟨.hbm, 448, rfl⟩
abbrev main_v288 : Ref sig .tc := ⟨.hbm, 449, rfl⟩
abbrev main_v289 : Ref sig .tc := ⟨.hbm, 450, rfl⟩
abbrev main_cst_72 : Ref sig .tc := ⟨.hbm, 451, rfl⟩
abbrev main_call17_v0 : Ref sig .tc := ⟨.hbm, 452, rfl⟩
abbrev main_call17_v1 : Ref sig .tc := ⟨.hbm, 453, rfl⟩
abbrev main_v290 : Ref sig .tc := ⟨.hbm, 454, rfl⟩
abbrev main_c_73 : Ref sig .tc := ⟨.hbm, 455, rfl⟩
abbrev main_v291 : Ref sig .tc := ⟨.hbm, 456, rfl⟩
abbrev main_v292 : Ref sig .tc := ⟨.hbm, 457, rfl⟩
abbrev main_c_74 : Ref sig .tc := ⟨.hbm, 458, rfl⟩
abbrev main_v293 : Ref sig .tc := ⟨.hbm, 459, rfl⟩
abbrev main_v294 : Ref sig .tc := ⟨.hbm, 460, rfl⟩
abbrev main_v295 : Ref sig .tc := ⟨.hbm, 461, rfl⟩
abbrev main_v296 : Ref sig .tc := ⟨.hbm, 462, rfl⟩
abbrev main_v297 : Ref sig .tc := ⟨.hbm, 463, rfl⟩
abbrev main_v298 : Ref sig .tc := ⟨.hbm, 464, rfl⟩
abbrev main_v299 : Ref sig .tc := ⟨.hbm, 465, rfl⟩
abbrev main_cst_75 : Ref sig .tc := ⟨.hbm, 466, rfl⟩
abbrev main_v300 : Ref sig .tc := ⟨.hbm, 467, rfl⟩
abbrev main_v301 : Ref sig .tc := ⟨.hbm, 468, rfl⟩
abbrev main_v302 : Ref sig .tc := ⟨.hbm, 469, rfl⟩
abbrev main_cst_76 : Ref sig .tc := ⟨.hbm, 470, rfl⟩
abbrev main_v303 : Ref sig .tc := ⟨.hbm, 471, rfl⟩
abbrev main_v304 : Ref sig .tc := ⟨.hbm, 472, rfl⟩
abbrev main_v305 : Ref sig .tc := ⟨.hbm, 473, rfl⟩
abbrev main_cst_77 : Ref sig .tc := ⟨.hbm, 474, rfl⟩
abbrev main_call18_cst : Ref sig .tc := ⟨.hbm, 475, rfl⟩
abbrev main_call18_v0 : Ref sig .tc := ⟨.hbm, 476, rfl⟩
abbrev main_call18_v1 : Ref sig .tc := ⟨.hbm, 477, rfl⟩
abbrev main_call18_v2 : Ref sig .tc := ⟨.hbm, 478, rfl⟩
abbrev main_call18_v3 : Ref sig .tc := ⟨.hbm, 479, rfl⟩
abbrev main_call18_v4 : Ref sig .tc := ⟨.hbm, 480, rfl⟩
abbrev main_v306 : Ref sig .tc := ⟨.hbm, 481, rfl⟩
abbrev main_v307 : Ref sig .tc := ⟨.hbm, 482, rfl⟩
abbrev main_v308 : Ref sig .tc := ⟨.hbm, 483, rfl⟩
abbrev main_cst_78 : Ref sig .tc := ⟨.hbm, 484, rfl⟩
abbrev main_v309 : Ref sig .tc := ⟨.hbm, 485, rfl⟩
abbrev main_v310 : Ref sig .tc := ⟨.hbm, 486, rfl⟩
abbrev main_c_79 : Ref sig .tc := ⟨.hbm, 487, rfl⟩
abbrev main_v311 : Ref sig .tc := ⟨.hbm, 488, rfl⟩
abbrev main_v312 : Ref sig .tc := ⟨.hbm, 489, rfl⟩
abbrev main_c_80 : Ref sig .tc := ⟨.hbm, 490, rfl⟩
abbrev main_v313 : Ref sig .tc := ⟨.hbm, 491, rfl⟩
abbrev main_v314 : Ref sig .tc := ⟨.hbm, 492, rfl⟩
abbrev main_v315 : Ref sig .tc := ⟨.hbm, 493, rfl⟩
abbrev main_v316 : Ref sig .tc := ⟨.hbm, 494, rfl⟩
abbrev main_v317 : Ref sig .tc := ⟨.hbm, 495, rfl⟩
abbrev main_c_81 : Ref sig .tc := ⟨.hbm, 496, rfl⟩
abbrev main_v318 : Ref sig .tc := ⟨.hbm, 497, rfl⟩
abbrev main_v319 : Ref sig .tc := ⟨.hbm, 498, rfl⟩
abbrev main_c_82 : Ref sig .tc := ⟨.hbm, 499, rfl⟩
abbrev main_v320 : Ref sig .tc := ⟨.hbm, 500, rfl⟩
abbrev main_v321 : Ref sig .tc := ⟨.hbm, 501, rfl⟩
abbrev main_v322 : Ref sig .tc := ⟨.hbm, 502, rfl⟩
abbrev main_v323 : Ref sig .tc := ⟨.hbm, 503, rfl⟩
abbrev main_v324 : Ref sig .tc := ⟨.hbm, 504, rfl⟩
abbrev main_v325 : Ref sig .tc := ⟨.hbm, 505, rfl⟩
abbrev main_v326 : Ref sig .tc := ⟨.hbm, 506, rfl⟩
abbrev main_v327 : Ref sig .tc := ⟨.hbm, 507, rfl⟩
abbrev main_c_83 : Ref sig .tc := ⟨.hbm, 508, rfl⟩
abbrev main_v328 : Ref sig .tc := ⟨.hbm, 509, rfl⟩
abbrev main_v329 : Ref sig .tc := ⟨.hbm, 510, rfl⟩
abbrev main_c_84 : Ref sig .tc := ⟨.hbm, 511, rfl⟩
abbrev main_v330 : Ref sig .tc := ⟨.hbm, 512, rfl⟩
abbrev main_v331 : Ref sig .tc := ⟨.hbm, 513, rfl⟩
abbrev main_v332 : Ref sig .tc := ⟨.hbm, 514, rfl⟩
abbrev main_v333 : Ref sig .tc := ⟨.hbm, 515, rfl⟩
abbrev main_v334 : Ref sig .tc := ⟨.hbm, 516, rfl⟩
abbrev main_v335 : Ref sig .tc := ⟨.hbm, 517, rfl⟩
abbrev main_v336 : Ref sig .tc := ⟨.hbm, 518, rfl⟩
abbrev main_cst_85 : Ref sig .tc := ⟨.hbm, 519, rfl⟩
abbrev main_v337 : Ref sig .tc := ⟨.hbm, 520, rfl⟩
abbrev main_v338 : Ref sig .tc := ⟨.hbm, 521, rfl⟩
abbrev main_v339 : Ref sig .tc := ⟨.hbm, 522, rfl⟩
abbrev main_v340 : Ref sig .tc := ⟨.hbm, 523, rfl⟩
abbrev main_v341 : Ref sig .tc := ⟨.hbm, 524, rfl⟩
abbrev main_v342 : Ref sig .tc := ⟨.hbm, 525, rfl⟩
abbrev main_call19_cst : Ref sig .tc := ⟨.hbm, 526, rfl⟩
abbrev main_call19_v0 : Ref sig .tc := ⟨.hbm, 527, rfl⟩
abbrev main_v343 : Ref sig .tc := ⟨.hbm, 528, rfl⟩
abbrev main_cst_86 : Ref sig .tc := ⟨.hbm, 529, rfl⟩
abbrev main_v344 : Ref sig .tc := ⟨.hbm, 530, rfl⟩
abbrev main_v345 : Ref sig .tc := ⟨.hbm, 531, rfl⟩
abbrev main_v346 : Ref sig .tc := ⟨.hbm, 532, rfl⟩
abbrev main_cst_87 : Ref sig .tc := ⟨.hbm, 533, rfl⟩
abbrev main_v347 : Ref sig .tc := ⟨.hbm, 534, rfl⟩
abbrev main_cst_88 : Ref sig .tc := ⟨.hbm, 535, rfl⟩
abbrev main_v348 : Ref sig .tc := ⟨.hbm, 536, rfl⟩
abbrev main_v349 : Ref sig .tc := ⟨.hbm, 537, rfl⟩
abbrev main_v350 : Ref sig .tc := ⟨.hbm, 538, rfl⟩
abbrev main_cst_89 : Ref sig .tc := ⟨.hbm, 539, rfl⟩
abbrev main_v351 : Ref sig .tc := ⟨.hbm, 540, rfl⟩
abbrev main_v352 : Ref sig .tc := ⟨.hbm, 541, rfl⟩
abbrev main_v353 : Ref sig .tc := ⟨.hbm, 542, rfl⟩
abbrev main_v354 : Ref sig .tc := ⟨.hbm, 543, rfl⟩
abbrev main_v355 : Ref sig .tc := ⟨.hbm, 544, rfl⟩
abbrev main_v356 : Ref sig .tc := ⟨.hbm, 545, rfl⟩
abbrev main_v357 : Ref sig .tc := ⟨.hbm, 546, rfl⟩
abbrev main_v358 : Ref sig .tc := ⟨.hbm, 547, rfl⟩
abbrev main_v359 : Ref sig .tc := ⟨.hbm, 548, rfl⟩

abbrev nD : Nat := 1
abbrev τ : Topo := Topo.v7x

variable {F : FTy → Type} [FloatOps F]
-- ==== Proof.Bodies.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The bodies of the dense stages, at one grid point -/

/-! ## Whole-block loads -/

/-- A load of a whole `S1000x128` block reads the block. -/
theorem readAt_S1000x128 (v : View sig .tc .vmem S1000x128 .f32) (f : v.ty.Contents (Elt F)) (inb) :
    v.readAt (Elt F) (Rect.unit (s := S1000x128) ![0, 0] ![1000, 128] inb).toLoadRect f = v.read (Elt F) f :=
  View.readAt_full v f inb

/-- A load of a whole `S128x128` block reads the block. -/
theorem readAt_S128x128 (v : View sig .tc .vmem S128x128 .f32) (f : v.ty.Contents (Elt F)) (inb) :
    v.readAt (Elt F) (Rect.unit (s := S128x128) ![0, 0] ![128, 128] inb).toLoadRect f = v.read (Elt F) f :=
  View.readAt_full v f inb

/-- A load of a whole `S128x1` block reads the block. -/
theorem readAt_S128x1 (v : View sig .tc .vmem S128x1 .f32) (f : v.ty.Contents (Elt F)) (inb) :
    v.readAt (Elt F) (Rect.unit (s := S128x1) ![0, 0] ![128, 1] inb).toLoadRect f = v.read (Elt F) f :=
  View.readAt_full v f inb

/-- A load of a whole `S1x128` block reads the block. -/
theorem readAt_S1x128 (v : View sig .tc .vmem S1x128 .f32) (f : v.ty.Contents (Elt F)) (inb) :
    v.readAt (Elt F) (Rect.unit (s := S1x128) ![0, 0] ![1, 128] inb).toLoadRect f = v.read (Elt F) f :=
  View.readAt_full v f inb

/-- A load of a whole `S1x1` block reads the block. -/
theorem readAt_S1x1 (v : View sig .tc .vmem S1x1 .f32) (f : v.ty.Contents (Elt F)) (inb) :
    v.readAt (Elt F) (Rect.unit (s := S1x1) ![0, 0] ![1, 1] inb).toLoadRect f = v.read (Elt F) f :=
  View.readAt_full v f inb

/-- A load of a whole `S1x1` block after a store of the whole block reads the stored value. -/
theorem readCov_S1x1 (v : View sig .tc .vmem S1x1 .f32) (inb) (w : S1x1.Idx → Elt F .f32) (L : List (View.Piece (Elt F) S1x1 .f32)) :
    v.readCov (⟨Rect.unit (s := S1x1) ![0, 0] ![1, 1] inb, w⟩ :: L) (Rect.unit (s := S1x1) ![0, 0] ![1, 1] inb).toLoadRect = w :=
  View.readCov_full v inb inb w L

set_option maxHeartbeats 1000000 in
/-- The first layer's dense body at its first point, where the running maximum is reset to minus infinity before the block is taken in: every output buffer ends at a
    closed value of the input blocks. -/
theorem head_first_first (c : Dev nD) (i : grid0.Coords) (arg1 : Memref sig .tc .vmem S1000x128 .f32) (harg1 : arg1.IsWhole) (arg2 : Memref sig .tc .vmem S128x128 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1000x128 .f32) (harg5 : arg5.IsWhole) (arg6 : Memref sig .tc .vmem S1000x1 .f32) (harg6 : arg6.IsWhole) (arg7 : Memref sig .tc .vmem S1000x1 .f32) (harg7 : arg7.IsWhole) (arg8 : Memref sig .tc .vmem S1x1 .f32) (harg8 : arg8.IsWhole)
    (hc : ((Scalar.cmpi .ne (Scalar.extui (Scalar.cmpi .eq (BitVec.ofNat 32 (i 0).val) 0#32)) 0#32) = 1#1)) (x0 : Vec F S1000x128 .f32) (x1 : Vec F S128x128 .f32) (x2 : Vec F S128x1 .f32) (x3 : Vec F S128x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay1 x0 x1) ∗ owns (c : Thread nD τ) arg6 fullShare (k0_pay2 x0 x1 x2) ∗ owns (c : Thread nD τ) arg7 fullShare (k0_pay3 x0 x1 x3) ∗ owns (c : Thread nD τ) arg8 fullShare (k0_pay5 x0 x1 x2 k0_pay4)) -∗ K ⟨⟩))
      ⊢ wp frame (wpE (defs₀ (F := F)) Variants.none c none) E (cc0__head_first_body i arg1 harg1 arg2 harg2 arg3 harg3 arg4 harg4 arg5 harg5 arg6 harg6 arg7 harg7 arg8 harg8) K := by
  simp only [cc0__head_first_body_eq_skeleton]; unfold cc0__head_first_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_full _ _ _ _ _).trans ?_
    simp only [readAt_S1000x128, readAt_S128x128, readAt_S128x1, readAt_S1x128, readAt_S1x1, readCov_S1x1, Memref.IsWhole.read_unread]
  isplitl [H5]
  · iexists _; isplitr; swap; · iexact H5
    ipureintro
    refine (View.read_writes_full _ _ _ _ _).trans ?_
    simp only [readAt_S1000x128, readAt_S128x128, readAt_S128x1, readAt_S1x128, readAt_S1x1, readCov_S1x1, Memref.IsWhole.read_unread]
  isplitl [H6]
  · iexists _; isplitr; swap; · iexact H6
    ipureintro
    refine (View.read_writes_full _ _ _ _ _).trans ?_
    simp only [readAt_S1000x128, readAt_S128x128, readAt_S128x1, readAt_S1x128, readAt_S1x1, readCov_S1x1, Memref.IsWhole.read_unread]
  iexists _; isplitr; swap; · iexact H7
  ipureintro
  refine (View.read_writes_full _ _ _ _ _).trans ?_
  unfold head_first_first.sl.v15 head_first_first.sl.H7_1
  simp only [readAt_S1000x128, readAt_S128x128, readAt_S128x1, readAt_S1x128, readAt_S1x1, readCov_S1x1, Memref.IsWhole.read_unread]

set_option maxHeartbeats 1000000 in
/-- The first layer's dense body at a later point, where the running maximum already holds the earlier blocks: every output buffer ends at a
    closed value of the input blocks. -/
theorem head_first_later (c : Dev nD) (i : grid0.Coords) (arg1 : Memref sig .tc .vmem S1000x128 .f32) (harg1 : arg1.IsWhole) (arg2 : Memref sig .tc .vmem S128x128 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1000x128 .f32) (harg5 : arg5.IsWhole) (arg6 : Memref sig .tc .vmem S1000x1 .f32) (harg6 : arg6.IsWhole) (arg7 : Memref sig .tc .vmem S1000x1 .f32) (harg7 : arg7.IsWhole) (arg8 : Memref sig .tc .vmem S1x1 .f32) (harg8 : arg8.IsWhole)
    (hc : ¬ ((Scalar.cmpi .ne (Scalar.extui (Scalar.cmpi .eq (BitVec.ofNat 32 (i 0).val) 0#32)) 0#32) = 1#1)) (x0 : Vec F S1000x128 .f32) (x1 : Vec F S128x128 .f32) (x2 : Vec F S128x1 .f32) (x3 : Vec F S128x1 .f32) (d : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay1 x0 x1) ∗ owns (c : Thread nD τ) arg6 fullShare (k0_pay2 x0 x1 x2) ∗ owns (c : Thread nD τ) arg7 fullShare (k0_pay3 x0 x1 x3) ∗ owns (c : Thread nD τ) arg8 fullShare (k0_pay5 x0 x1 x2 d)) -∗ K ⟨⟩))
      ⊢ wp frame (wpE (defs₀ (F := F)) Variants.none c none) E (cc0__head_first_body i arg1 harg1 arg2 harg2 arg3 harg3 arg4 harg4 arg5 harg5 arg6 harg6 arg7 harg7 arg8 harg8) K := by
  simp only [cc0__head_first_body_eq_skeleton]; unfold cc0__head_first_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, Hk⟩
  obtain rfl := harg1.eq_unread hf0; obtain rfl := harg2.eq_unread hf1; obtain rfl := harg3.eq_unread hf2; obtain rfl := harg4.eq_unread hf3; obtain rfl := harg8.eq_unread hf7
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_full _ _ _ _ _).trans ?_
    simp only [readAt_S1000x128, readAt_S128x128, readAt_S128x1, readAt_S1x128, readAt_S1x1, readCov_S1x1, Memref.IsWhole.read_unread]
  isplitl [H5]
  · iexists _; isplitr; swap; · iexact H5
    ipureintro
    refine (View.read_writes_full _ _ _ _ _).trans ?_
    simp only [readAt_S1000x128, readAt_S128x128, readAt_S128x1, readAt_S1x128, readAt_S1x1, readCov_S1x1, Memref.IsWhole.read_unread]
  isplitl [H6]
  · iexists _; isplitr; swap; · iexact H6
    ipureintro
    refine (View.read_writes_full _ _ _ _ _).trans ?_
    simp only [readAt_S1000x128, readAt_S128x128, readAt_S128x1, readAt_S1x128, readAt_S1x1, readCov_S1x1, Memref.IsWhole.read_unread]
  iexists _; isplitr; swap; · iexact H7
  ipureintro
  refine (View.read_writes_full _ _ _ _ _).trans ?_
  simp only [readAt_S1000x128, readAt_S128x128, readAt_S128x1, readAt_S1x128, readAt_S1x1, readCov_S1x1, Memref.IsWhole.read_unread]

set_option maxHeartbeats 1000000 in
/-- A later layer's dense body at its first point, where the running maximum is reset to minus infinity before the block is taken in: every output buffer ends at a
    closed value of the input blocks. -/
theorem head_rest_first (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1000x128 .f32) (harg7 : arg7.IsWhole) (arg8 : Memref sig .tc .vmem S1000x1 .f32) (harg8 : arg8.IsWhole) (arg9 : Memref sig .tc .vmem S1000x1 .f32) (harg9 : arg9.IsWhole) (arg10 : Memref sig .tc .vmem S1x1 .f32) (harg10 : arg10.IsWhole)
    (hc : ((Scalar.cmpi .ne (Scalar.extui (Scalar.cmpi .eq (BitVec.ofNat 32 (i 0).val) 0#32)) 0#32) = 1#1)) (x0 : Vec F S1000x128 .f32) (x1 : Vec F S1000x128 .f32) (x2 : Vec F S1x128 .f32) (x3 : Vec F S128x128 .f32) (x4 : Vec F S128x1 .f32) (x5 : Vec F S128x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay2 x0 x1 x2 x3) ∗ owns (c : Thread nD τ) arg8 fullShare (k1_pay3 x0 x1 x2 x3 x4) ∗ owns (c : Thread nD τ) arg9 fullShare (k1_pay4 x0 x1 x2 x3 x5) ∗ owns (c : Thread nD τ) arg10 fullShare (k1_pay1 (k1_pay6 k1_pay5) (k1_pay7 x0 x1 x2 x3 x4))) -∗ K ⟨⟩))
      ⊢ wp frame (wpE (defs₀ (F := F)) Variants.none c none) E (cc1__head_rest_body i arg1 harg1 arg2 harg2 arg3 harg3 arg4 harg4 arg5 harg5 arg6 harg6 arg7 harg7 arg8 harg8 arg9 harg9 arg10 harg10) K := by
  simp only [cc1__head_rest_body_eq_skeleton]; unfold cc1__head_rest_body_skel
  rw [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_full _ _ _ _ _).trans ?_
    simp only [readAt_S1000x128, readAt_S128x128, readAt_S128x1, readAt_S1x128, readAt_S1x1, readCov_S1x1, Memref.IsWhole.read_unread]
  isplitl [H7]
  · iexists _; isplitr; swap; · iexact H7
    ipureintro
    refine (View.read_writes_full _ _ _ _ _).trans ?_
    simp only [readAt_S1000x128, readAt_S128x128, readAt_S128x1, readAt_S1x128, readAt_S1x1, readCov_S1x1, Memref.IsWhole.read_unread]
  isplitl [H8]
  · iexists _; isplitr; swap; · iexact H8
    ipureintro
    refine (View.read_writes_full _ _ _ _ _).trans ?_
    simp only [readAt_S1000x128, readAt_S128x128, readAt_S128x1, readAt_S1x128, readAt_S1x1, readCov_S1x1, Memref.IsWhole.read_unread]
  iexists _; isplitr; swap; · iexact H9
  ipureintro
  refine (View.read_writes_full _ _ _ _ _).trans ?_
  unfold head_rest_first.sl.v25 head_rest_first.sl.H9_1
  simp only [readAt_S1000x128, readAt_S128x128, readAt_S128x1, readAt_S1x128, readAt_S1x1, readCov_S1x1, Memref.IsWhole.read_unread]

set_option maxHeartbeats 1000000 in
/-- A later layer's dense body at a later point, where the running maximum already holds the earlier blocks: every output buffer ends at a
    closed value of the input blocks. -/
theorem head_rest_later (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1000x128 .f32) (harg7 : arg7.IsWhole) (arg8 : Memref sig .tc .vmem S1000x1 .f32) (harg8 : arg8.IsWhole) (arg9 : Memref sig .tc .vmem S1000x1 .f32) (harg9 : arg9.IsWhole) (arg10 : Memref sig .tc .vmem S1x1 .f32) (harg10 : arg10.IsWhole)
    (hc : ¬ ((Scalar.cmpi .ne (Scalar.extui (Scalar.cmpi .eq (BitVec.ofNat 32 (i 0).val) 0#32)) 0#32) = 1#1)) (x0 : Vec F S1000x128 .f32) (x1 : Vec F S1000x128 .f32) (x2 : Vec F S1x128 .f32) (x3 : Vec F S128x128 .f32) (x4 : Vec F S128x1 .f32) (x5 : Vec F S128x1 .f32) (d : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay2 x0 x1 x2 x3) ∗ owns (c : Thread nD τ) arg8 fullShare (k1_pay3 x0 x1 x2 x3 x4) ∗ owns (c : Thread nD τ) arg9 fullShare (k1_pay4 x0 x1 x2 x3 x5) ∗ owns (c : Thread nD τ) arg10 fullShare (k1_pay1 (k1_pay6 d) (k1_pay7 x0 x1 x2 x3 x4))) -∗ K ⟨⟩))
      ⊢ wp frame (wpE (defs₀ (F := F)) Variants.none c none) E (cc1__head_rest_body i arg1 harg1 arg2 harg2 arg3 harg3 arg4 harg4 arg5 harg5 arg6 harg6 arg7 harg7 arg8 harg8 arg9 harg9 arg10 harg10) K := by
  simp only [cc1__head_rest_body_eq_skeleton]; unfold cc1__head_rest_body_skel
  rw [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hf9
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_full _ _ _ _ _).trans ?_
    simp only [readAt_S1000x128, readAt_S128x128, readAt_S128x1, readAt_S1x128, readAt_S1x1, readCov_S1x1, Memref.IsWhole.read_unread]
  isplitl [H7]
  · iexists _; isplitr; swap; · iexact H7
    ipureintro
    refine (View.read_writes_full _ _ _ _ _).trans ?_
    simp only [readAt_S1000x128, readAt_S128x128, readAt_S128x1, readAt_S1x128, readAt_S1x1, readCov_S1x1, Memref.IsWhole.read_unread]
  isplitl [H8]
  · iexists _; isplitr; swap; · iexact H8
    ipureintro
    refine (View.read_writes_full _ _ _ _ _).trans ?_
    simp only [readAt_S1000x128, readAt_S128x128, readAt_S128x1, readAt_S1x128, readAt_S1x1, readCov_S1x1, Memref.IsWhole.read_unread]
  iexists _; isplitr; swap; · iexact H9
  ipureintro
  refine (View.read_writes_full _ _ _ _ _).trans ?_
  simp only [readAt_S1000x128, readAt_S128x128, readAt_S128x1, readAt_S1x128, readAt_S1x1, readCov_S1x1, Memref.IsWhole.read_unread]

end Cert.KernelIdeal.Own
-- ==== Proof.PoolBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import proofs.«01_k».proof.Proof.Bodies

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the pooling stage, at one grid point -/

/-- A load of a whole `S1000x1` block reads the block. -/
theorem readAt_S1000x1 (v : View sig .tc .vmem S1000x1 .i32) (f : v.ty.Contents (Elt F)) (inb) :
    v.readAt (Elt F) (Rect.unit (s := S1000x1) ![0, 0] ![1000, 1] inb).toLoadRect f = v.read (Elt F) f :=
  View.readAt_full v f inb

/-- A load of a whole `S64x128` block reads the block. -/
theorem readAt_S64x128 (v : View sig .tc .vmem S64x128 .f32) (f : v.ty.Contents (Elt F)) (inb) :
    v.readAt (Elt F) (Rect.unit (s := S64x128) ![0, 0] ![64, 128] inb).toLoadRect f = v.read (Elt F) f :=
  View.readAt_full v f inb

/-- A load of a whole `S64x1` block reads the block. -/
theorem readAt_S64x1 (v : View sig .tc .vmem S64x1 .f32) (f : v.ty.Contents (Elt F)) (inb) :
    v.readAt (Elt F) (Rect.unit (s := S64x1) ![0, 0] ![64, 1] inb).toLoadRect f = v.read (Elt F) f :=
  View.readAt_full v f inb

/-- A load of a whole `S64x128` block after a store of the whole block reads the stored value. -/
theorem readCov_S64x128 (v : View sig .tc .vmem S64x128 .f32) (inb) (w : S64x128.Idx → Elt F .f32) (L : List (View.Piece (Elt F) S64x128 .f32)) :
    v.readCov (⟨Rect.unit (s := S64x128) ![0, 0] ![64, 128] inb, w⟩ :: L) (Rect.unit (s := S64x128) ![0, 0] ![64, 128] inb).toLoadRect = w :=
  View.readCov_full v inb inb w L

/-- A load of a whole `S64x1` block after a store of the whole block reads the stored value. -/
theorem readCov_S64x1 (v : View sig .tc .vmem S64x1 .f32) (inb) (w : S64x1.Idx → Elt F .f32) (L : List (View.Piece (Elt F) S64x1 .f32)) :
    v.readCov (⟨Rect.unit (s := S64x1) ![0, 0] ![64, 1] inb, w⟩ :: L) (Rect.unit (s := S64x1) ![0, 0] ![64, 1] inb).toLoadRect = w :=
  View.readCov_full v inb inb w L

set_option maxHeartbeats 2000000 in
/-- The pooling body at its first point: the sums and the counts start from zero. -/
theorem pool_first (c : Dev nD) (i : grid4.Coords) (arg1 : Memref sig .tc .vmem S1000x128 .f32) (harg1 : arg1.IsWhole) (arg2 : Memref sig .tc .vmem S1000x128 .f32) (harg2 : arg2.IsWhole) (arg3 : Memref sig .tc .vmem S1x128 .f32) (harg3 : arg3.IsWhole) (arg4 : Memref sig .tc .vmem S1000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x128 .f32) (harg8 : arg8.IsWhole) (arg9 : Memref sig .tc .vmem S64x1 .f32) (harg9 : arg9.IsWhole)
    (hc0 : ((Scalar.cmpi .ne (Scalar.extui (Scalar.cmpi .eq (BitVec.ofNat 32 (i 0).val) 0#32)) 0#32) = 1#1)) (hc1 : ¬ k4_cond2 i = 1#1) (x0 : Vec F S1000x128 .f32) (x1 : Vec F S1000x128 .f32) (x2 : Vec F S1x128 .f32) (x3 : Vec F S1000x1 .i32) (x4 : Vec F S128x1 .f32) (x5 : Vec F S1x1 .f32) (d : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d ∗ owns (c : Thread nD τ) arg8 fullShare (k4_pay5 x0 x1 x2 x3 k4_pay2) ∗ owns (c : Thread nD τ) arg9 fullShare (k4_pay6 x3 k4_pay3)) -∗ K ⟨⟩))
      ⊢ wp frame (wpE (defs₀ (F := F)) Variants.none c none) E (cc4__pool_body i arg1 harg1 arg2 harg2 arg3 harg3 arg4 harg4 arg5 harg5 arg6 harg6 arg7 harg7 arg8 harg8 arg9 harg9) K := by
  simp only [cc4__pool_body_eq_skeleton]; unfold cc4__pool_body_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (View.read_writes_full _ _ _ _ _).trans ?_
    (try sl_unfold_run_names)
    simp only [readAt_S1000x128, readAt_S1x128, readAt_S128x1, readAt_S1x1, readAt_S1000x1, readAt_S64x128, readAt_S64x1, readCov_S64x128, readCov_S64x1, Memref.IsWhole.read_unread]
  iexists _; isplitr; swap; · iexact H8
  ipureintro
  refine (View.read_writes_full _ _ _ _ _).trans ?_
  (try sl_unfold_run_names)
  simp only [readAt_S1000x128, readAt_S1x128, readAt_S128x1, readAt_S1x1, readAt_S1000x1, readAt_S64x128, readAt_S64x1, readCov_S64x128, readCov_S64x1, Memref.IsWhole.read_unread]

set_option maxHeartbeats 2000000 in
/-- The pooling body at its middle point: the sums and the counts go on from what the point before left. -/
theorem pool_mid (c : Dev nD) (i : grid4.Coords) (arg1 : Memref sig .tc .vmem S1000x128 .f32) (harg1 : arg1.IsWhole) (arg2 : Memref sig .tc .vmem S1000x128 .f32) (harg2 : arg2.IsWhole) (arg3 : Memref sig .tc .vmem S1x128 .f32) (harg3 : arg3.IsWhole) (arg4 : Memref sig .tc .vmem S1000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x128 .f32) (harg8 : arg8.IsWhole) (arg9 : Memref sig .tc .vmem S64x1 .f32) (harg9 : arg9.IsWhole)
    (hc0 : ¬ ((Scalar.cmpi .ne (Scalar.extui (Scalar.cmpi .eq (BitVec.ofNat 32 (i 0).val) 0#32)) 0#32) = 1#1)) (hc1 : ¬ k4_cond2 i = 1#1) (x0 : Vec F S1000x128 .f32) (x1 : Vec F S1000x128 .f32) (x2 : Vec F S1x128 .f32) (x3 : Vec F S1000x1 .i32) (x4 : Vec F S128x1 .f32) (x5 : Vec F S1x1 .f32) (d : Vec F S64x1 .f32) (s : Vec F S64x128 .f32) (n : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d ∗ owns (c : Thread nD τ) arg8 fullShare s ∗ owns (c : Thread nD τ) arg9 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d ∗ owns (c : Thread nD τ) arg8 fullShare (k4_pay5 x0 x1 x2 x3 s) ∗ owns (c : Thread nD τ) arg9 fullShare (k4_pay6 x3 n)) -∗ K ⟨⟩))
      ⊢ wp frame (wpE (defs₀ (F := F)) Variants.none c none) E (cc4__pool_body i arg1 harg1 arg2 harg2 arg3 harg3 arg4 harg4 arg5 harg5 arg6 harg6 arg7 harg7 arg8 harg8 arg9 harg9) K := by
  simp only [cc4__pool_body_eq_skeleton]; unfold cc4__pool_body_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (View.read_writes_full _ _ _ _ _).trans ?_
    (try sl_unfold_run_names)
    simp only [readAt_S1000x128, readAt_S1x128, readAt_S128x1, readAt_S1x1, readAt_S1000x1, readAt_S64x128, readAt_S64x1, readCov_S64x128, readCov_S64x1, Memref.IsWhole.read_unread]
  iexists _; isplitr; swap; · iexact H8
  ipureintro
  refine (View.read_writes_full _ _ _ _ _).trans ?_
  (try sl_unfold_run_names)
  simp only [readAt_S1000x128, readAt_S1x128, readAt_S128x1, readAt_S1x1, readAt_S1000x1, readAt_S64x128, readAt_S64x1, readCov_S64x128, readCov_S64x1, Memref.IsWhole.read_unread]

set_option maxHeartbeats 2000000 in
/-- The pooling body at its last point: the sums and the counts are completed and the output written. -/
theorem pool_last (c : Dev nD) (i : grid4.Coords) (arg1 : Memref sig .tc .vmem S1000x128 .f32) (harg1 : arg1.IsWhole) (arg2 : Memref sig .tc .vmem S1000x128 .f32) (harg2 : arg2.IsWhole) (arg3 : Memref sig .tc .vmem S1x128 .f32) (harg3 : arg3.IsWhole) (arg4 : Memref sig .tc .vmem S1000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x128 .f32) (harg8 : arg8.IsWhole) (arg9 : Memref sig .tc .vmem S64x1 .f32) (harg9 : arg9.IsWhole)
    (hc0 : ¬ ((Scalar.cmpi .ne (Scalar.extui (Scalar.cmpi .eq (BitVec.ofNat 32 (i 0).val) 0#32)) 0#32) = 1#1)) (hc1 : k4_cond2 i = 1#1) (x0 : Vec F S1000x128 .f32) (x1 : Vec F S1000x128 .f32) (x2 : Vec F S1x128 .f32) (x3 : Vec F S1000x1 .i32) (x4 : Vec F S128x1 .f32) (x5 : Vec F S1x1 .f32)  (s : Vec F S64x128 .f32) (n : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s ∗ owns (c : Thread nD τ) arg9 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k4_pay1 (k4_pay5 x0 x1 x2 x3 s) x4 (k4_pay6 x3 n) x5) ∗ owns (c : Thread nD τ) arg8 fullShare (k4_pay5 x0 x1 x2 x3 s) ∗ owns (c : Thread nD τ) arg9 fullShare (k4_pay6 x3 n)) -∗ K ⟨⟩))
      ⊢ wp frame (wpE (defs₀ (F := F)) Variants.none c none) E (cc4__pool_body i arg1 harg1 arg2 harg2 arg3 harg3 arg4 harg4 arg5 harg5 arg6 harg6 arg7 harg7 arg8 harg8 arg9 harg9) K := by
  simp only [cc4__pool_body_eq_skeleton]; unfold cc4__pool_body_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_full _ _ _ _ _).trans ?_
    (try sl_unfold_run_names)
    simp only [readAt_S1000x128, readAt_S1x128, readAt_S128x1, readAt_S1x1, readAt_S1000x1, readAt_S64x128, readAt_S64x1, readCov_S64x128, readCov_S64x1, Memref.IsWhole.read_unread]
  isplitl [H7]
  · iexists _; isplitr; swap; · iexact H7
    ipureintro
    refine (View.read_writes_full _ _ _ _ _).trans ?_
    (try sl_unfold_run_names)
    simp only [readAt_S1000x128, readAt_S1x128, readAt_S128x1, readAt_S1x1, readAt_S1000x1, readAt_S64x128, readAt_S64x1, readCov_S64x128, readCov_S64x1, Memref.IsWhole.read_unread]
  iexists _; isplitr; swap; · iexact H8
  ipureintro
  refine (View.read_writes_full _ _ _ _ _).trans ?_
  (try sl_unfold_run_names)
  simp only [readAt_S1000x128, readAt_S1x128, readAt_S128x1, readAt_S1x1, readAt_S1000x1, readAt_S64x128, readAt_S64x1, readCov_S64x128, readCov_S64x1, Memref.IsWhole.read_unread]

end Cert.KernelIdeal.Own
-- ==== Proof.Stages.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import proofs.«01_k».proof.Proof.Bodies
public import proofs.«01_k».proof.Proof.PoolBody

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The five stages: what each leaves, point by point, and its body obligation -/

/-- The condition under which a dense body resets its running maximum. -/
abbrev isFirst (n : ℕ) : Prop := (Scalar.cmpi .ne (Scalar.extui (Scalar.cmpi .eq (BitVec.ofNat 32 n) 0#32)) 0#32) = 1#1

/-- Below ten points the condition holds at point zero only. -/
theorem isFirst_iff (n : ℕ) (h : n < 10) : isFirst n ↔ n = 0 := by
  exact (by decide +kernel : ∀ n : Fin 10, isFirst n.val ↔ n.val = 0) ⟨n, h⟩

/-- The first dense body at any point, beside whatever rides along: the inputs are left as found, the
    outputs at the closed values, the running maximum taken one block further. -/
theorem head_first_step (c : Dev nD) (i : grid0.Coords) (arg1 : Memref sig .tc .vmem S1000x128 .f32) (harg1 : arg1.IsWhole) (arg2 : Memref sig .tc .vmem S128x128 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S1000x128 .f32) (harg5 : arg5.IsWhole) (arg6 : Memref sig .tc .vmem S1000x1 .f32) (harg6 : arg6.IsWhole) (arg7 : Memref sig .tc .vmem S1000x1 .f32) (harg7 : arg7.IsWhole) (arg8 : Memref sig .tc .vmem S1x1 .f32) (harg8 : arg8.IsWhole) {δ0 : Type} {δ1 : Type} {δ2 : Type} {δ3 : Type} {δ4 : Type} {δ5 : Type} {δ6 : Type} {δ7 : Type}
    (x0 : Vec F S1000x128 .f32) (b0 : δ0 → Vec F S1000x128 .f32) (hb0 : ∀ d, b0 d = x0) (x1 : Vec F S128x128 .f32) (b1 : δ1 → Vec F S128x128 .f32) (hb1 : ∀ d, b1 d = x1) (x2 : Vec F S128x1 .f32) (b2 : δ2 → Vec F S128x1 .f32) (hb2 : ∀ d, b2 d = x2) (x3 : Vec F S128x1 .f32) (b3 : δ3 → Vec F S128x1 .f32) (hb3 : ∀ d, b3 d = x3) (b4 : δ4 → Vec F S1000x128 .f32) (b5 : δ5 → Vec F S1000x1 .f32) (b6 : δ6 → Vec F S1000x1 .f32) (b7 : δ7 → Vec F S1x1 .f32) (y p : Vec F S1x1 .f32)
    (hfirst : isFirst (i 0).val → y = k0_pay5 x0 x1 x2 k0_pay4)
    (hlater : ¬ isFirst (i 0).val → (∀ d, b7 d = p) ∧ y = k0_pay5 x0 x1 x2 p) (A B : sProp 𝕄) :
    iprop(A ∗ B ∗ (∃ d, owns (c : Thread nD τ) arg1 fullShare (b0 d)) ∗ (∃ d, owns (c : Thread nD τ) arg2 fullShare (b1 d)) ∗ (∃ d, owns (c : Thread nD τ) arg3 fullShare (b2 d)) ∗ (∃ d, owns (c : Thread nD τ) arg4 fullShare (b3 d)) ∗ (∃ d, owns (c : Thread nD τ) arg5 fullShare (b4 d)) ∗ (∃ d, owns (c : Thread nD τ) arg6 fullShare (b5 d)) ∗ (∃ d, owns (c : Thread nD τ) arg7 fullShare (b6 d)) ∗ (∃ d, owns (c : Thread nD τ) arg8 fullShare (b7 d)))
      ⊢ wp frame (wpE (defs₀ (F := F)) Variants.none c none) Set.univ (cc0__head_first_body i arg1 harg1 arg2 harg2 arg3 harg3 arg4 harg4 arg5 harg5 arg6 harg6 arg7 harg7 arg8 harg8)
        (fun _ => iprop(A ∗ B ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay1 x0 x1) ∗ owns (c : Thread nD τ) arg6 fullShare (k0_pay2 x0 x1 x2) ∗ owns (c : Thread nD τ) arg7 fullShare (k0_pay3 x0 x1 x3) ∗ owns (c : Thread nD τ) arg8 fullShare y)) := by
  simp only [hb0, hb1, hb2, hb3]
  by_cases hc : isFirst (i 0).val
  · rw [hfirst hc]
    iintro ⟨HA, HB, ⟨%d0, H0⟩, ⟨%d1, H1⟩, ⟨%d2, H2⟩, ⟨%d3, H3⟩, ⟨%d4, H4⟩, ⟨%d5, H5⟩, ⟨%d6, H6⟩, ⟨%d7, H7⟩⟩
    iapply (head_first_first c i arg1 harg1 arg2 harg2 arg3 harg3 arg4 harg4 arg5 harg5 arg6 harg6 arg7 harg7 arg8 harg8 hc x0 x1 x2 x3 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    isplitl [HA]; · iexact HA
    isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [(hlater hc).1, (hlater hc).2]
    iintro ⟨HA, HB, ⟨%d0, H0⟩, ⟨%d1, H1⟩, ⟨%d2, H2⟩, ⟨%d3, H3⟩, ⟨%d4, H4⟩, ⟨%d5, H5⟩, ⟨%d6, H6⟩, ⟨%d7, H7⟩⟩
    iapply (head_first_later c i arg1 harg1 arg2 harg2 arg3 harg3 arg4 harg4 arg5 harg5 arg6 harg6 arg7 harg7 arg8 harg8 hc x0 x1 x2 x3 p Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexact H7
    iintro ⟨H0, H1, H2, H3, H4, H5, H6, H7⟩
    isplitl [HA]; · iexact HA
    isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- A later dense body at any point, beside whatever rides along: the inputs are left as found, the
    outputs at the closed values, the running maximum taken one block further. -/
theorem head_rest_step (c : Dev nD) (i : grid1.Coords) (arg1 : Memref sig .tc .vmem S1000x128 .f32) (harg1 : arg1.IsWhole) (arg2 : Memref sig .tc .vmem S1000x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1000x128 .f32) (harg7 : arg7.IsWhole) (arg8 : Memref sig .tc .vmem S1000x1 .f32) (harg8 : arg8.IsWhole) (arg9 : Memref sig .tc .vmem S1000x1 .f32) (harg9 : arg9.IsWhole) (arg10 : Memref sig .tc .vmem S1x1 .f32) (harg10 : arg10.IsWhole) {δ0 : Type} {δ1 : Type} {δ2 : Type} {δ3 : Type} {δ4 : Type} {δ5 : Type} {δ6 : Type} {δ7 : Type} {δ8 : Type} {δ9 : Type}
    (x0 : Vec F S1000x128 .f32) (b0 : δ0 → Vec F S1000x128 .f32) (hb0 : ∀ d, b0 d = x0) (x1 : Vec F S1000x128 .f32) (b1 : δ1 → Vec F S1000x128 .f32) (hb1 : ∀ d, b1 d = x1) (x2 : Vec F S1x128 .f32) (b2 : δ2 → Vec F S1x128 .f32) (hb2 : ∀ d, b2 d = x2) (x3 : Vec F S128x128 .f32) (b3 : δ3 → Vec F S128x128 .f32) (hb3 : ∀ d, b3 d = x3) (x4 : Vec F S128x1 .f32) (b4 : δ4 → Vec F S128x1 .f32) (hb4 : ∀ d, b4 d = x4) (x5 : Vec F S128x1 .f32) (b5 : δ5 → Vec F S128x1 .f32) (hb5 : ∀ d, b5 d = x5) (b6 : δ6 → Vec F S1000x128 .f32) (b7 : δ7 → Vec F S1000x1 .f32) (b8 : δ8 → Vec F S1000x1 .f32) (b9 : δ9 → Vec F S1x1 .f32) (y p : Vec F S1x1 .f32)
    (hfirst : isFirst (i 0).val → y = k1_pay1 (k1_pay6 k1_pay5) (k1_pay7 x0 x1 x2 x3 x4))
    (hlater : ¬ isFirst (i 0).val → (∀ d, b9 d = p) ∧ y = k1_pay1 (k1_pay6 p) (k1_pay7 x0 x1 x2 x3 x4)) (A B : sProp 𝕄) :
    iprop(A ∗ B ∗ (∃ d, owns (c : Thread nD τ) arg1 fullShare (b0 d)) ∗ (∃ d, owns (c : Thread nD τ) arg2 fullShare (b1 d)) ∗ (∃ d, owns (c : Thread nD τ) arg3 fullShare (b2 d)) ∗ (∃ d, owns (c : Thread nD τ) arg4 fullShare (b3 d)) ∗ (∃ d, owns (c : Thread nD τ) arg5 fullShare (b4 d)) ∗ (∃ d, owns (c : Thread nD τ) arg6 fullShare (b5 d)) ∗ (∃ d, owns (c : Thread nD τ) arg7 fullShare (b6 d)) ∗ (∃ d, owns (c : Thread nD τ) arg8 fullShare (b7 d)) ∗ (∃ d, owns (c : Thread nD τ) arg9 fullShare (b8 d)) ∗ (∃ d, owns (c : Thread nD τ) arg10 fullShare (b9 d)))
      ⊢ wp frame (wpE (defs₀ (F := F)) Variants.none c none) Set.univ (cc1__head_rest_body i arg1 harg1 arg2 harg2 arg3 harg3 arg4 harg4 arg5 harg5 arg6 harg6 arg7 harg7 arg8 harg8 arg9 harg9 arg10 harg10)
        (fun _ => iprop(A ∗ B ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay2 x0 x1 x2 x3) ∗ owns (c : Thread nD τ) arg8 fullShare (k1_pay3 x0 x1 x2 x3 x4) ∗ owns (c : Thread nD τ) arg9 fullShare (k1_pay4 x0 x1 x2 x3 x5) ∗ owns (c : Thread nD τ) arg10 fullShare y)) := by
  simp only [hb0, hb1, hb2, hb3, hb4, hb5]
  by_cases hc : isFirst (i 0).val
  · rw [hfirst hc]
    iintro ⟨HA, HB, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (head_rest_first c i arg1 harg1 arg2 harg2 arg3 harg3 arg4 harg4 arg5 harg5 arg6 harg6 arg7 harg7 arg8 harg8 arg9 harg9 arg10 harg10 hc x0 x1 x2 x3 x4 x5 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iintro ⟨H0, H1, H2, H3, H4, H5, H6, H7, H8, H9⟩
    isplitl [HA]; · iexact HA
    isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [(hlater hc).1, (hlater hc).2]
    iintro ⟨HA, HB, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (head_rest_later c i arg1 harg1 arg2 harg2 arg3 harg3 arg4 harg4 arg5 harg5 arg6 harg6 arg7 harg7 arg8 harg8 arg9 harg9 arg10 harg10 hc x0 x1 x2 x3 x4 x5 p Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexact H9
    iintro ⟨H0, H1, H2, H3, H4, H5, H6, H7, H8, H9⟩
    isplitl [HA]; · iexact HA
    isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The dense bodies of the later layers are one and the same. -/
theorem rest_body_eq2 : cc2__head_rest_body (F := F) = cc1__head_rest_body (F := F) := rfl

/-- The dense bodies of the later layers are one and the same. -/
theorem rest_body_eq3 : cc3__head_rest_body (F := F) = cc1__head_rest_body (F := F) := rfl

section Stages

variable (V : (c : Dev nD) → (b : Ref sig .tc) → Buf (Elt F) ((c : Thread nD τ).loc b))

/-! ## Stage 0 -/

/-- Window `w`'s block at point `t` of stage 0. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running maximum of stage 0 after point `n`. -/
def run0 (c : Dev nD) : (n : ℕ) → n < cfg0.N → Vec F S1x1 .f32
  | 0, h => k0_pay5 (blk0 V c 0 ⟨0, h⟩) (blk0 V c 1 ⟨0, h⟩) (blk0 V c 2 ⟨0, h⟩) k0_pay4
  | n + 1, h => k0_pay5 (blk0 V c 0 ⟨n + 1, h⟩) (blk0 V c 1 ⟨n + 1, h⟩) (blk0 V c 2 ⟨n + 1, h⟩) (run0 c n (Nat.lt_of_succ_lt h))

/-- The proof data of stage 0: inputs in place, outputs at the closed values. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => k0_pay1 (blk0 V c 0 t) (blk0 V c 1 t)
    | ⟨5, _⟩ => k0_pay2 (blk0 V c 0 t) (blk0 V c 1 t) (blk0 V c 2 t)
    | ⟨6, _⟩ => k0_pay3 (blk0 V c 0 t) (blk0 V c 1 t) (blk0 V c 3 t)
    | ⟨7, _⟩ => run0 V c t.val t.isLt
  Φ _ := Pipeline.ΦA spec0 c
  q _ := fullShare
  owed _ := 0

/-- The arrays of stage 0 are the contents it is entered at. -/
theorem A_eq0 (c : Dev nD) (w : Fin cfg0.W) : (dat0 V c).A w = V c (Pipeline.arrRef spec0 w) := by
  dsimp only [dat0]

/-- What window 0 of call 0 holds after a block. -/
theorem after0_0 (c : Dev nD) (t : Fin cfg0.N) : (dat0 V c).after 0 t = (blk0 V c 0 t) := by dsimp only [dat0]
/-- What window 1 of call 0 holds after a block. -/
theorem after0_1 (c : Dev nD) (t : Fin cfg0.N) : (dat0 V c).after 1 t = (blk0 V c 1 t) := by dsimp only [dat0]
/-- What window 2 of call 0 holds after a block. -/
theorem after0_2 (c : Dev nD) (t : Fin cfg0.N) : (dat0 V c).after 2 t = (blk0 V c 2 t) := by dsimp only [dat0]
/-- What window 3 of call 0 holds after a block. -/
theorem after0_3 (c : Dev nD) (t : Fin cfg0.N) : (dat0 V c).after 3 t = (blk0 V c 3 t) := by dsimp only [dat0]
/-- What window 4 of call 0 holds after a block. -/
theorem after0_4 (c : Dev nD) (t : Fin cfg0.N) : (dat0 V c).after 4 t = k0_pay1 (blk0 V c 0 t) (blk0 V c 1 t) := by dsimp only [dat0]
/-- What window 5 of call 0 holds after a block. -/
theorem after0_5 (c : Dev nD) (t : Fin cfg0.N) : (dat0 V c).after 5 t = k0_pay2 (blk0 V c 0 t) (blk0 V c 1 t) (blk0 V c 2 t) := by dsimp only [dat0]
/-- What window 6 of call 0 holds after a block. -/
theorem after0_6 (c : Dev nD) (t : Fin cfg0.N) : (dat0 V c).after 6 t = k0_pay3 (blk0 V c 0 t) (blk0 V c 1 t) (blk0 V c 3 t) := by dsimp only [dat0]
/-- What window 7 of call 0 holds after a block. -/
theorem after0_7 (c : Dev nD) (t : Fin cfg0.N) : (dat0 V c).after 7 t = run0 V c t.val t.isLt := by dsimp only [dat0]

/-- What window 0 of call 0 holds before a block. -/
theorem before0_0 (c : Dev nD) (t : Fin cfg0.N) (d) : (dat0 V c).before 0 t d = blk0 V c 0 t :=
  ((dat0 V c).before_in_eq_fetched 0 rfl (fun _ => rfl) (fun _ _ _ => rfl) (fun t => by
    dsimp only [dat0]; unfold Dat.blockOf blk0; rfl) t d).trans (by unfold Dat.fetched Dat.blockOf blk0; rfl)
/-- What window 1 of call 0 holds before a block. -/
theorem before0_1 (c : Dev nD) (t : Fin cfg0.N) (d) : (dat0 V c).before 1 t d = blk0 V c 1 t :=
  ((dat0 V c).before_in_eq_fetched 1 rfl (fun _ => rfl) (fun _ _ _ => rfl) (fun t => by
    dsimp only [dat0]; unfold Dat.blockOf blk0; rfl) t d).trans (by unfold Dat.fetched Dat.blockOf blk0; rfl)
/-- What window 2 of call 0 holds before a block. -/
theorem before0_2 (c : Dev nD) (t : Fin cfg0.N) (d) : (dat0 V c).before 2 t d = blk0 V c 2 t :=
  ((dat0 V c).before_in_eq_fetched 2 rfl (fun _ => rfl) (fun _ _ _ => rfl) (fun t => by
    dsimp only [dat0]; unfold Dat.blockOf blk0; rfl) t d).trans (by unfold Dat.fetched Dat.blockOf blk0; rfl)
/-- What window 3 of call 0 holds before a block. -/
theorem before0_3 (c : Dev nD) (t : Fin cfg0.N) (d) : (dat0 V c).before 3 t d = blk0 V c 3 t :=
  ((dat0 V c).before_in_eq_fetched 3 rfl (fun _ => rfl) (fun _ _ _ => rfl) (fun t => by
    dsimp only [dat0]; unfold Dat.blockOf blk0; rfl) t d).trans (by unfold Dat.fetched Dat.blockOf blk0; rfl)

/-- After the first point the running maximum's buffer holds what the point before left. -/
theorem before0_7 (c : Dev nD) (t : Fin cfg0.N) (h0 : t.val ≠ 0) (d) :
    (dat0 V c).before 7 t d = run0 V c (t.val - 1) (Nat.lt_of_le_of_lt (Nat.sub_le _ _) t.isLt) := by
  have hN : t.val < 10 := lt_of_lt_of_eq t.isLt (show cfg0.N = 10 from N_0)
  rw [Dat.before_out_kept _ 7 rfl t (by omega) (Bool.eq_false_iff.mpr fun h => by have := (flush0_7 _).mp h; dsimp only at this; omega)
    (fun _ => rfl) (fun _ _ => rfl)]
  dsimp only [dat0]

/-- The running maximum at the first point. -/
theorem run0_first (c : Dev nD) (t : Fin cfg0.N) (h : t.val = 0) : run0 V c t.val t.isLt = k0_pay5 (blk0 V c 0 t) (blk0 V c 1 t) (blk0 V c 2 t) k0_pay4 := by
  obtain ⟨n, hn⟩ := t; dsimp only at h; subst h; rfl

/-- The running maximum at a later point. -/
theorem run0_later (c : Dev nD) (t : Fin cfg0.N) (h : t.val ≠ 0) :
    run0 V c t.val t.isLt = k0_pay5 (blk0 V c 0 t) (blk0 V c 1 t) (blk0 V c 2 t) (run0 V c (t.val - 1) (Nat.lt_of_le_of_lt (Nat.sub_le _ _) t.isLt)) := by
  obtain ⟨n, hn⟩ := t
  cases n with
  | zero => exact absurd rfl h
  | succ n => rfl

/-- The grid coordinate of a point of stage 0 is the point. -/
theorem coord0 (t : Fin cfg0.N) : (grid0.coords t 0).val = t.val := by
  have ht : t.val < 10 := Nat.lt_of_lt_of_eq t.isLt N_0
  have e0 : (grid0.coords t 0).val = t.val / 1 % 10 := Pipeline.Grid.coords_val t 0 (by decide) rfl
  rw [e0]; omega

/-- The body of stage 0 at a point, from what the point finds to what it leaves. -/
theorem sound0 (c : Dev nD) (t : Fin cfg0.N) :
    iprop((dat0 V c).Φ t.castSucc ∗ (dat0 V c).owesAt () t.castSucc
      ∗ (∃ d, owns (c : Thread nD τ) (win0_0.stage (cfg0.slots t 0)) fullShare ((dat0 V c).before 0 t d))
      ∗ (∃ d, owns (c : Thread nD τ) (win0_1.stage (cfg0.slots t 1)) fullShare ((dat0 V c).before 1 t d))
      ∗ (∃ d, owns (c : Thread nD τ) (win0_2.stage (cfg0.slots t 2)) fullShare ((dat0 V c).before 2 t d))
      ∗ (∃ d, owns (c : Thread nD τ) (win0_3.stage (cfg0.slots t 3)) fullShare ((dat0 V c).before 3 t d))
      ∗ (∃ d, owns (c : Thread nD τ) (win0_4.stage (cfg0.slots t 4)) fullShare ((dat0 V c).before 4 t d))
      ∗ (∃ d, owns (c : Thread nD τ) (win0_5.stage (cfg0.slots t 5)) fullShare ((dat0 V c).before 5 t d))
      ∗ (∃ d, owns (c : Thread nD τ) (win0_6.stage (cfg0.slots t 6)) fullShare ((dat0 V c).before 6 t d))
      ∗ (∃ d, owns (c : Thread nD τ) (win0_7.stage (cfg0.slots t 7)) fullShare ((dat0 V c).before 7 t d)))
    ⊢ wp frame (wpE (defs₀ (F := F)) Variants.none c none) Set.univ (bodyAt0 t) (fun _ =>
      iprop((dat0 V c).Φ t.succ ∗ (dat0 V c).owesAt () t.succ
        ∗ owns (c : Thread nD τ) (win0_0.stage (cfg0.slots t 0)) fullShare ((dat0 V c).after 0 t)
        ∗ owns (c : Thread nD τ) (win0_1.stage (cfg0.slots t 1)) fullShare ((dat0 V c).after 1 t)
        ∗ owns (c : Thread nD τ) (win0_2.stage (cfg0.slots t 2)) fullShare ((dat0 V c).after 2 t)
        ∗ owns (c : Thread nD τ) (win0_3.stage (cfg0.slots t 3)) fullShare ((dat0 V c).after 3 t)
        ∗ owns (c : Thread nD τ) (win0_4.stage (cfg0.slots t 4)) fullShare ((dat0 V c).after 4 t)
        ∗ owns (c : Thread nD τ) (win0_5.stage (cfg0.slots t 5)) fullShare ((dat0 V c).after 5 t)
        ∗ owns (c : Thread nD τ) (win0_6.stage (cfg0.slots t 6)) fullShare ((dat0 V c).after 6 t)
        ∗ owns (c : Thread nD τ) (win0_7.stage (cfg0.slots t 7)) fullShare ((dat0 V c).after 7 t))) := by
  have hN : t.val < 10 := lt_of_lt_of_eq t.isLt (show cfg0.N = 10 from N_0)
  rw [show (dat0 V c).Φ t.succ = (dat0 V c).Φ t.castSucc from rfl,
    show (dat0 V c).owesAt () t.succ = (dat0 V c).owesAt () t.castSucc from rfl]
  unfold bodyAt0
  skip
  rw [after0_0, after0_1, after0_2, after0_3, after0_4, after0_5, after0_6, after0_7]
  exact head_first_step c (grid0.coords t) _ _ _ _ _ _ _ _ _ _ _ _ _ _ _ _
    (blk0 V c 0 t) ((dat0 V c).before 0 t) (before0_0 V c t) (blk0 V c 1 t) ((dat0 V c).before 1 t) (before0_1 V c t) (blk0 V c 2 t) ((dat0 V c).before 2 t) (before0_2 V c t) (blk0 V c 3 t) ((dat0 V c).before 3 t) (before0_3 V c t)
    ((dat0 V c).before 4 t) ((dat0 V c).before 5 t) ((dat0 V c).before 6 t) ((dat0 V c).before 7 t)
    (run0 V c t.val t.isLt) (run0 V c (t.val - 1) (Nat.lt_of_le_of_lt (Nat.sub_le _ _) t.isLt))
    (fun h => run0_first V c t (by rw [coord0] at h; exact (isFirst_iff _ hN).mp h))
    (fun h => by
      have h' : t.val ≠ 0 := by rw [coord0] at h; exact fun e => h ((isFirst_iff _ hN).mpr e)
      exact ⟨before0_7 V c t h', run0_later V c t h'⟩)
    ((dat0 V c).Φ t.castSucc) ((dat0 V c).owesAt () t.castSucc)

/-- The body obligation of stage 0. -/
theorem body_ok0 (c : Dev nD) : BodyObligation (dat0 (F := F) V c) (defs₀ (F := F)) Variants.none () Set.univ := fun t => by
  have e : defs₀ (F := F) .tc cfg0.body (cfg0.bodyArgs t (cfg0.slots t)) = bodyAt0 t := by unfold defs₀; rw [Defs.onTc_tc]
  rw [bigSep_W0, bigSep_W0, e]
  exact triple_restated (sound0 V c t) rfl .rfl fun _ => .rfl

/-! ## Stage 1 -/

/-- Window `w`'s block at point `t` of stage 1. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running maximum of stage 1 after point `n`. -/
def run1 (c : Dev nD) : (n : ℕ) → n < cfg1.N → Vec F S1x1 .f32
  | 0, h => k1_pay1 (k1_pay6 k1_pay5) (k1_pay7 (blk1 V c 0 ⟨0, h⟩) (blk1 V c 1 ⟨0, h⟩) (blk1 V c 2 ⟨0, h⟩) (blk1 V c 3 ⟨0, h⟩) (blk1 V c 4 ⟨0, h⟩))
  | n + 1, h => k1_pay1 (k1_pay6 (run1 c n (Nat.lt_of_succ_lt h))) (k1_pay7 (blk1 V c 0 ⟨n + 1, h⟩) (blk1 V c 1 ⟨n + 1, h⟩) (blk1 V c 2 ⟨n + 1, h⟩) (blk1 V c 3 ⟨n + 1, h⟩) (blk1 V c 4 ⟨n + 1, h⟩))

/-- The proof data of stage 1: inputs in place, outputs at the closed values. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => k1_pay2 (blk1 V c 0 t) (blk1 V c 1 t) (blk1 V c 2 t) (blk1 V c 3 t)
    | ⟨7, _⟩ => k1_pay3 (blk1 V c 0 t) (blk1 V c 1 t) (blk1 V c 2 t) (blk1 V c 3 t) (blk1 V c 4 t)
    | ⟨8, _⟩ => k1_pay4 (blk1 V c 0 t) (blk1 V c 1 t) (blk1 V c 2 t) (blk1 V c 3 t) (blk1 V c 5 t)
    | ⟨9, _⟩ => run1 V c t.val t.isLt
  Φ _ := Pipeline.ΦA spec1 c
  q _ := fullShare
  owed _ := 0

/-- The arrays of stage 1 are the contents it is entered at. -/
theorem A_eq1 (c : Dev nD) (w : Fin cfg1.W) : (dat1 V c).A w = V c (Pipeline.arrRef spec1 w) := by
  dsimp only [dat1]

/-- What window 0 of call 1 holds after a block. -/
theorem after1_0 (c : Dev nD) (t : Fin cfg1.N) : (dat1 V c).after 0 t = (blk1 V c 0 t) := by dsimp only [dat1]
/-- What window 1 of call 1 holds after a block. -/
theorem after1_1 (c : Dev nD) (t : Fin cfg1.N) : (dat1 V c).after 1 t = (blk1 V c 1 t) := by dsimp only [dat1]
/-- What window 2 of call 1 holds after a block. -/
theorem after1_2 (c : Dev nD) (t : Fin cfg1.N) : (dat1 V c).after 2 t = (blk1 V c 2 t) := by dsimp only [dat1]
/-- What window 3 of call 1 holds after a block. -/
theorem after1_3 (c : Dev nD) (t : Fin cfg1.N) : (dat1 V c).after 3 t = (blk1 V c 3 t) := by dsimp only [dat1]
/-- What window 4 of call 1 holds after a block. -/
theorem after1_4 (c : Dev nD) (t : Fin cfg1.N) : (dat1 V c).after 4 t = (blk1 V c 4 t) := by dsimp only [dat1]
/-- What window 5 of call 1 holds after a block. -/
theorem after1_5 (c : Dev nD) (t : Fin cfg1.N) : (dat1 V c).after 5 t = (blk1 V c 5 t) := by dsimp only [dat1]
/-- What window 6 of call 1 holds after a block. -/
theorem after1_6 (c : Dev nD) (t : Fin cfg1.N) : (dat1 V c).after 6 t = k1_pay2 (blk1 V c 0 t) (blk1 V c 1 t) (blk1 V c 2 t) (blk1 V c 3 t) := by dsimp only [dat1]
/-- What window 7 of call 1 holds after a block. -/
theorem after1_7 (c : Dev nD) (t : Fin cfg1.N) : (dat1 V c).after 7 t = k1_pay3 (blk1 V c 0 t) (blk1 V c 1 t) (blk1 V c 2 t) (blk1 V c 3 t) (blk1 V c 4 t) := by dsimp only [dat1]
/-- What window 8 of call 1 holds after a block. -/
theorem after1_8 (c : Dev nD) (t : Fin cfg1.N) : (dat1 V c).after 8 t = k1_pay4 (blk1 V c 0 t) (blk1 V c 1 t) (blk1 V c 2 t) (blk1 V c 3 t) (blk1 V c 5 t) := by dsimp only [dat1]
/-- What window 9 of call 1 holds after a block. -/
theorem after1_9 (c : Dev nD) (t : Fin cfg1.N) : (dat1 V c).after 9 t = run1 V c t.val t.isLt := by dsimp only [dat1]

/-- What window 0 of call 1 holds before a block. -/
theorem before1_0 (c : Dev nD) (t : Fin cfg1.N) (d) : (dat1 V c).before 0 t d = blk1 V c 0 t :=
  ((dat1 V c).before_in_eq_fetched 0 rfl (fun _ => rfl) (fun _ _ _ => rfl) (fun t => by
    dsimp only [dat1]; unfold Dat.blockOf blk1; rfl) t d).trans (by unfold Dat.fetched Dat.blockOf blk1; rfl)
/-- What window 1 of call 1 holds before a block. -/
theorem before1_1 (c : Dev nD) (t : Fin cfg1.N) (d) : (dat1 V c).before 1 t d = blk1 V c 1 t :=
  ((dat1 V c).before_in_eq_fetched 1 rfl (fun _ => rfl) (fun _ _ _ => rfl) (fun t => by
    dsimp only [dat1]; unfold Dat.blockOf blk1; rfl) t d).trans (by unfold Dat.fetched Dat.blockOf blk1; rfl)
/-- What window 2 of call 1 holds before a block. -/
theorem before1_2 (c : Dev nD) (t : Fin cfg1.N) (d) : (dat1 V c).before 2 t d = blk1 V c 2 t :=
  ((dat1 V c).before_in_eq_fetched 2 rfl (fun _ => rfl) (fun _ _ _ => rfl) (fun t => by
    dsimp only [dat1]; unfold Dat.blockOf blk1; rfl) t d).trans (by unfold Dat.fetched Dat.blockOf blk1; rfl)
/-- What window 3 of call 1 holds before a block. -/
theorem before1_3 (c : Dev nD) (t : Fin cfg1.N) (d) : (dat1 V c).before 3 t d = blk1 V c 3 t :=
  ((dat1 V c).before_in_eq_fetched 3 rfl (fun _ => rfl) (fun _ _ _ => rfl) (fun t => by
    dsimp only [dat1]; unfold Dat.blockOf blk1; rfl) t d).trans (by unfold Dat.fetched Dat.blockOf blk1; rfl)
/-- What window 4 of call 1 holds before a block. -/
theorem before1_4 (c : Dev nD) (t : Fin cfg1.N) (d) : (dat1 V c).before 4 t d = blk1 V c 4 t :=
  ((dat1 V c).before_in_eq_fetched 4 rfl (fun _ => rfl) (fun _ _ _ => rfl) (fun t => by
    dsimp only [dat1]; unfold Dat.blockOf blk1; rfl) t d).trans (by unfold Dat.fetched Dat.blockOf blk1; rfl)
/-- What window 5 of call 1 holds before a block. -/
theorem before1_5 (c : Dev nD) (t : Fin cfg1.N) (d) : (dat1 V c).before 5 t d = blk1 V c 5 t :=
  ((dat1 V c).before_in_eq_fetched 5 rfl (fun _ => rfl) (fun _ _ _ => rfl) (fun t => by
    dsimp only [dat1]; unfold Dat.blockOf blk1; rfl) t d).trans (by unfold Dat.fetched Dat.blockOf blk1; rfl)

/-- After the first point the running maximum's buffer holds what the point before left. -/
theorem before1_9 (c : Dev nD) (t : Fin cfg1.N) (h0 : t.val ≠ 0) (d) :
    (dat1 V c).before 9 t d = run1 V c (t.val - 1) (Nat.lt_of_le_of_lt (Nat.sub_le _ _) t.isLt) := by
  have hN : t.val < 10 := lt_of_lt_of_eq t.isLt (show cfg1.N = 10 from N_1)
  rw [Dat.before_out_kept _ 9 rfl t (by omega) (Bool.eq_false_iff.mpr fun h => by have := (flush1_9 _).mp h; dsimp only at this; omega)
    (fun _ => rfl) (fun _ _ => rfl)]
  dsimp only [dat1]

/-- The running maximum at the first point. -/
theorem run1_first (c : Dev nD) (t : Fin cfg1.N) (h : t.val = 0) : run1 V c t.val t.isLt = k1_pay1 (k1_pay6 k1_pay5) (k1_pay7 (blk1 V c 0 t) (blk1 V c 1 t) (blk1 V c 2 t) (blk1 V c 3 t) (blk1 V c 4 t)) := by
  obtain ⟨n, hn⟩ := t; dsimp only at h; subst h; rfl

/-- The running maximum at a later point. -/
theorem run1_later (c : Dev nD) (t : Fin cfg1.N) (h : t.val ≠ 0) :
    run1 V c t.val t.isLt = k1_pay1 (k1_pay6 (run1 V c (t.val - 1) (Nat.lt_of_le_of_lt (Nat.sub_le _ _) t.isLt))) (k1_pay7 (blk1 V c 0 t) (blk1 V c 1 t) (blk1 V c 2 t) (blk1 V c 3 t) (blk1 V c 4 t)) := by
  obtain ⟨n, hn⟩ := t
  cases n with
  | zero => exact absurd rfl h
  | succ n => rfl

/-- The grid coordinate of a point of stage 1 is the point. -/
theorem coord1 (t : Fin cfg1.N) : (grid1.coords t 0).val = t.val := by
  have ht : t.val < 10 := Nat.lt_of_lt_of_eq t.isLt N_1
  have e0 : (grid1.coords t 0).val = t.val / 1 % 10 := Pipeline.Grid.coords_val t 0 (by decide) rfl
  rw [e0]; omega

/-- The body of stage 1 at a point, from what the point finds to what it leaves. -/
theorem sound1 (c : Dev nD) (t : Fin cfg1.N) :
    iprop((dat1 V c).Φ t.castSucc ∗ (dat1 V c).owesAt () t.castSucc
      ∗ (∃ d, owns (c : Thread nD τ) (win1_0.stage (cfg1.slots t 0)) fullShare ((dat1 V c).before 0 t d))
      ∗ (∃ d, owns (c : Thread nD τ) (win1_1.stage (cfg1.slots t 1)) fullShare ((dat1 V c).before 1 t d))
      ∗ (∃ d, owns (c : Thread nD τ) (win1_2.stage (cfg1.slots t 2)) fullShare ((dat1 V c).before 2 t d))
      ∗ (∃ d, owns (c : Thread nD τ) (win1_3.stage (cfg1.slots t 3)) fullShare ((dat1 V c).before 3 t d))
      ∗ (∃ d, owns (c : Thread nD τ) (win1_4.stage (cfg1.slots t 4)) fullShare ((dat1 V c).before 4 t d))
      ∗ (∃ d, owns (c : Thread nD τ) (win1_5.stage (cfg1.slots t 5)) fullShare ((dat1 V c).before 5 t d))
      ∗ (∃ d, owns (c : Thread nD τ) (win1_6.stage (cfg1.slots t 6)) fullShare ((dat1 V c).before 6 t d))
      ∗ (∃ d, owns (c : Thread nD τ) (win1_7.stage (cfg1.slots t 7)) fullShare ((dat1 V c).before 7 t d))
      ∗ (∃ d, owns (c : Thread nD τ) (win1_8.stage (cfg1.slots t 8)) fullShare ((dat1 V c).before 8 t d))
      ∗ (∃ d, owns (c : Thread nD τ) (win1_9.stage (cfg1.slots t 9)) fullShare ((dat1 V c).before 9 t d)))
    ⊢ wp frame (wpE (defs₀ (F := F)) Variants.none c none) Set.univ (bodyAt1 t) (fun _ =>
      iprop((dat1 V c).Φ t.succ ∗ (dat1 V c).owesAt () t.succ
        ∗ owns (c : Thread nD τ) (win1_0.stage (cfg1.slots t 0)) fullShare ((dat1 V c).after 0 t)
        ∗ owns (c : Thread nD τ) (win1_1.stage (cfg1.slots t 1)) fullShare ((dat1 V c).after 1 t)
        ∗ owns (c : Thread nD τ) (win1_2.stage (cfg1.slots t 2)) fullShare ((dat1 V c).after 2 t)
        ∗ owns (c : Thread nD τ) (win1_3.stage (cfg1.slots t 3)) fullShare ((dat1 V c).after 3 t)
        ∗ owns (c : Thread nD τ) (win1_4.stage (cfg1.slots t 4)) fullShare ((dat1 V c).after 4 t)
        ∗ owns (c : Thread nD τ) (win1_5.stage (cfg1.slots t 5)) fullShare ((dat1 V c).after 5 t)
        ∗ owns (c : Thread nD τ) (win1_6.stage (cfg1.slots t 6)) fullShare ((dat1 V c).after 6 t)
        ∗ owns (c : Thread nD τ) (win1_7.stage (cfg1.slots t 7)) fullShare ((dat1 V c).after 7 t)
        ∗ owns (c : Thread nD τ) (win1_8.stage (cfg1.slots t 8)) fullShare ((dat1 V c).after 8 t)
        ∗ owns (c : Thread nD τ) (win1_9.stage (cfg1.slots t 9)) fullShare ((dat1 V c).after 9 t))) := by
  have hN : t.val < 10 := lt_of_lt_of_eq t.isLt (show cfg1.N = 10 from N_1)
  rw [show (dat1 V c).Φ t.succ = (dat1 V c).Φ t.castSucc from rfl,
    show (dat1 V c).owesAt () t.succ = (dat1 V c).owesAt () t.castSucc from rfl]
  unfold bodyAt1
  skip
  rw [after1_0, after1_1, after1_2, after1_3, after1_4, after1_5, after1_6, after1_7, after1_8, after1_9]
  exact head_rest_step c (grid1.coords t) _ _ _ _ _ _ _ _ _ _ _ _ _ _ _ _ _ _ _ _
    (blk1 V c 0 t) ((dat1 V c).before 0 t) (before1_0 V c t) (blk1 V c 1 t) ((dat1 V c).before 1 t) (before1_1 V c t) (blk1 V c 2 t) ((dat1 V c).before 2 t) (before1_2 V c t) (blk1 V c 3 t) ((dat1 V c).before 3 t) (before1_3 V c t) (blk1 V c 4 t) ((dat1 V c).before 4 t) (before1_4 V c t) (blk1 V c 5 t) ((dat1 V c).before 5 t) (before1_5 V c t)
    ((dat1 V c).before 6 t) ((dat1 V c).before 7 t) ((dat1 V c).before 8 t) ((dat1 V c).before 9 t)
    (run1 V c t.val t.isLt) (run1 V c (t.val - 1) (Nat.lt_of_le_of_lt (Nat.sub_le _ _) t.isLt))
    (fun h => run1_first V c t (by rw [coord1] at h; exact (isFirst_iff _ hN).mp h))
    (fun h => by
      have h' : t.val ≠ 0 := by rw [coord1] at h; exact fun e => h ((isFirst_iff _ hN).mpr e)
      exact ⟨before1_9 V c t h', run1_later V c t h'⟩)
    ((dat1 V c).Φ t.castSucc) ((dat1 V c).owesAt () t.castSucc)

/-- The body obligation of stage 1. -/
theorem body_ok1 (c : Dev nD) : BodyObligation (dat1 (F := F) V c) (defs₀ (F := F)) Variants.none () Set.univ := fun t => by
  have e : defs₀ (F := F) .tc cfg1.body (cfg1.bodyArgs t (cfg1.slots t)) = bodyAt1 t := by unfold defs₀; rw [Defs.onTc_tc]
  rw [bigSep_W1, bigSep_W1, e]
  exact triple_restated (sound1 V c t) rfl .rfl fun _ => .rfl

/-! ## Stage 2 -/

/-- Window `w`'s block at point `t` of stage 2. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running maximum of stage 2 after point `n`. -/
def run2 (c : Dev nD) : (n : ℕ) → n < cfg2.N → Vec F S1x1 .f32
  | 0, h => k1_pay1 (k1_pay6 k1_pay5) (k1_pay7 (blk2 V c 0 ⟨0, h⟩) (blk2 V c 1 ⟨0, h⟩) (blk2 V c 2 ⟨0, h⟩) (blk2 V c 3 ⟨0, h⟩) (blk2 V c 4 ⟨0, h⟩))
  | n + 1, h => k1_pay1 (k1_pay6 (run2 c n (Nat.lt_of_succ_lt h))) (k1_pay7 (blk2 V c 0 ⟨n + 1, h⟩) (blk2 V c 1 ⟨n + 1, h⟩) (blk2 V c 2 ⟨n + 1, h⟩) (blk2 V c 3 ⟨n + 1, h⟩) (blk2 V c 4 ⟨n + 1, h⟩))

/-- The proof data of stage 2: inputs in place, outputs at the closed values. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => k1_pay2 (blk2 V c 0 t) (blk2 V c 1 t) (blk2 V c 2 t) (blk2 V c 3 t)
    | ⟨7, _⟩ => k1_pay3 (blk2 V c 0 t) (blk2 V c 1 t) (blk2 V c 2 t) (blk2 V c 3 t) (blk2 V c 4 t)
    | ⟨8, _⟩ => k1_pay4 (blk2 V c 0 t) (blk2 V c 1 t) (blk2 V c 2 t) (blk2 V c 3 t) (blk2 V c 5 t)
    | ⟨9, _⟩ => run2 V c t.val t.isLt
  Φ _ := Pipeline.ΦA spec2 c
  q _ := fullShare
  owed _ := 0

/-- The arrays of stage 2 are the contents it is entered at. -/
theorem A_eq2 (c : Dev nD) (w : Fin cfg2.W) : (dat2 V c).A w = V c (Pipeline.arrRef spec2 w) := by
  dsimp only [dat2]

/-- What window 0 of call 2 holds after a block. -/
theorem after2_0 (c : Dev nD) (t : Fin cfg2.N) : (dat2 V c).after 0 t = (blk2 V c 0 t) := by dsimp only [dat2]
/-- What window 1 of call 2 holds after a block. -/
theorem after2_1 (c : Dev nD) (t : Fin cfg2.N) : (dat2 V c).after 1 t = (blk2 V c 1 t) := by dsimp only [dat2]
/-- What window 2 of call 2 holds after a block. -/
theorem after2_2 (c : Dev nD) (t : Fin cfg2.N) : (dat2 V c).after 2 t = (blk2 V c 2 t) := by dsimp only [dat2]
/-- What window 3 of call 2 holds after a block. -/
theorem after2_3 (c : Dev nD) (t : Fin cfg2.N) : (dat2 V c).after 3 t = (blk2 V c 3 t) := by dsimp only [dat2]
/-- What window 4 of call 2 holds after a block. -/
theorem after2_4 (c : Dev nD) (t : Fin cfg2.N) : (dat2 V c).after 4 t = (blk2 V c 4 t) := by dsimp only [dat2]
/-- What window 5 of call 2 holds after a block. -/
theorem after2_5 (c : Dev nD) (t : Fin cfg2.N) : (dat2 V c).after 5 t = (blk2 V c 5 t) := by dsimp only [dat2]
/-- What window 6 of call 2 holds after a block. -/
theorem after2_6 (c : Dev nD) (t : Fin cfg2.N) : (dat2 V c).after 6 t = k1_pay2 (blk2 V c 0 t) (blk2 V c 1 t) (blk2 V c 2 t) (blk2 V c 3 t) := by dsimp only [dat2]
/-- What window 7 of call 2 holds after a block. -/
theorem after2_7 (c : Dev nD) (t : Fin cfg2.N) : (dat2 V c).after 7 t = k1_pay3 (blk2 V c 0 t) (blk2 V c 1 t) (blk2 V c 2 t) (blk2 V c 3 t) (blk2 V c 4 t) := by dsimp only [dat2]
/-- What window 8 of call 2 holds after a block. -/
theorem after2_8 (c : Dev nD) (t : Fin cfg2.N) : (dat2 V c).after 8 t = k1_pay4 (blk2 V c 0 t) (blk2 V c 1 t) (blk2 V c 2 t) (blk2 V c 3 t) (blk2 V c 5 t) := by dsimp only [dat2]
/-- What window 9 of call 2 holds after a block. -/
theorem after2_9 (c : Dev nD) (t : Fin cfg2.N) : (dat2 V c).after 9 t = run2 V c t.val t.isLt := by dsimp only [dat2]

/-- What window 0 of call 2 holds before a block. -/
theorem before2_0 (c : Dev nD) (t : Fin cfg2.N) (d) : (dat2 V c).before 0 t d = blk2 V c 0 t :=
  ((dat2 V c).before_in_eq_fetched 0 rfl (fun _ => rfl) (fun _ _ _ => rfl) (fun t => by
    dsimp only [dat2]; unfold Dat.blockOf blk2; rfl) t d).trans (by unfold Dat.fetched Dat.blockOf blk2; rfl)
/-- What window 1 of call 2 holds before a block. -/
theorem before2_1 (c : Dev nD) (t : Fin cfg2.N) (d) : (dat2 V c).before 1 t d = blk2 V c 1 t :=
  ((dat2 V c).before_in_eq_fetched 1 rfl (fun _ => rfl) (fun _ _ _ => rfl) (fun t => by
    dsimp only [dat2]; unfold Dat.blockOf blk2; rfl) t d).trans (by unfold Dat.fetched Dat.blockOf blk2; rfl)
/-- What window 2 of call 2 holds before a block. -/
theorem before2_2 (c : Dev nD) (t : Fin cfg2.N) (d) : (dat2 V c).before 2 t d = blk2 V c 2 t :=
  ((dat2 V c).before_in_eq_fetched 2 rfl (fun _ => rfl) (fun _ _ _ => rfl) (fun t => by
    dsimp only [dat2]; unfold Dat.blockOf blk2; rfl) t d).trans (by unfold Dat.fetched Dat.blockOf blk2; rfl)
/-- What window 3 of call 2 holds before a block. -/
theorem before2_3 (c : Dev nD) (t : Fin cfg2.N) (d) : (dat2 V c).before 3 t d = blk2 V c 3 t :=
  ((dat2 V c).before_in_eq_fetched 3 rfl (fun _ => rfl) (fun _ _ _ => rfl) (fun t => by
    dsimp only [dat2]; unfold Dat.blockOf blk2; rfl) t d).trans (by unfold Dat.fetched Dat.blockOf blk2; rfl)
/-- What window 4 of call 2 holds before a block. -/
theorem before2_4 (c : Dev nD) (t : Fin cfg2.N) (d) : (dat2 V c).before 4 t d = blk2 V c 4 t :=
  ((dat2 V c).before_in_eq_fetched 4 rfl (fun _ => rfl) (fun _ _ _ => rfl) (fun t => by
    dsimp only [dat2]; unfold Dat.blockOf blk2; rfl) t d).trans (by unfold Dat.fetched Dat.blockOf blk2; rfl)
/-- What window 5 of call 2 holds before a block. -/
theorem before2_5 (c : Dev nD) (t : Fin cfg2.N) (d) : (dat2 V c).before 5 t d = blk2 V c 5 t :=
  ((dat2 V c).before_in_eq_fetched 5 rfl (fun _ => rfl) (fun _ _ _ => rfl) (fun t => by
    dsimp only [dat2]; unfold Dat.blockOf blk2; rfl) t d).trans (by unfold Dat.fetched Dat.blockOf blk2; rfl)

/-- After the first point the running maximum's buffer holds what the point before left. -/
theorem before2_9 (c : Dev nD) (t : Fin cfg2.N) (h0 : t.val ≠ 0) (d) :
    (dat2 V c).before 9 t d = run2 V c (t.val - 1) (Nat.lt_of_le_of_lt (Nat.sub_le _ _) t.isLt) := by
  have hN : t.val < 10 := lt_of_lt_of_eq t.isLt (show cfg2.N = 10 from N_2)
  rw [Dat.before_out_kept _ 9 rfl t (by omega) (Bool.eq_false_iff.mpr fun h => by have := (flush2_9 _).mp h; dsimp only at this; omega)
    (fun _ => rfl) (fun _ _ => rfl)]
  dsimp only [dat2]

/-- The running maximum at the first point. -/
theorem run2_first (c : Dev nD) (t : Fin cfg2.N) (h : t.val = 0) : run2 V c t.val t.isLt = k1_pay1 (k1_pay6 k1_pay5) (k1_pay7 (blk2 V c 0 t) (blk2 V c 1 t) (blk2 V c 2 t) (blk2 V c 3 t) (blk2 V c 4 t)) := by
  obtain ⟨n, hn⟩ := t; dsimp only at h; subst h; rfl

/-- The running maximum at a later point. -/
theorem run2_later (c : Dev nD) (t : Fin cfg2.N) (h : t.val ≠ 0) :
    run2 V c t.val t.isLt = k1_pay1 (k1_pay6 (run2 V c (t.val - 1) (Nat.lt_of_le_of_lt (Nat.sub_le _ _) t.isLt))) (k1_pay7 (blk2 V c 0 t) (blk2 V c 1 t) (blk2 V c 2 t) (blk2 V c 3 t) (blk2 V c 4 t)) := by
  obtain ⟨n, hn⟩ := t
  cases n with
  | zero => exact absurd rfl h
  | succ n => rfl

/-- The grid coordinate of a point of stage 2 is the point. -/
theorem coord2 (t : Fin cfg2.N) : (grid2.coords t 0).val = t.val := by
  have ht : t.val < 10 := Nat.lt_of_lt_of_eq t.isLt N_2
  have e0 : (grid2.coords t 0).val = t.val / 1 % 10 := Pipeline.Grid.coords_val t 0 (by decide) rfl
  rw [e0]; omega

/-- The body of stage 2 at a point, from what the point finds to what it leaves. -/
theorem sound2 (c : Dev nD) (t : Fin cfg2.N) :
    iprop((dat2 V c).Φ t.castSucc ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d))
      ∗ (∃ d, owns (c : Thread nD τ) (win2_2.stage (cfg2.slots t 2)) fullShare ((dat2 V c).before 2 t d))
      ∗ (∃ d, owns (c : Thread nD τ) (win2_3.stage (cfg2.slots t 3)) fullShare ((dat2 V c).before 3 t d))
      ∗ (∃ d, owns (c : Thread nD τ) (win2_4.stage (cfg2.slots t 4)) fullShare ((dat2 V c).before 4 t d))
      ∗ (∃ d, owns (c : Thread nD τ) (win2_5.stage (cfg2.slots t 5)) fullShare ((dat2 V c).before 5 t d))
      ∗ (∃ d, owns (c : Thread nD τ) (win2_6.stage (cfg2.slots t 6)) fullShare ((dat2 V c).before 6 t d))
      ∗ (∃ d, owns (c : Thread nD τ) (win2_7.stage (cfg2.slots t 7)) fullShare ((dat2 V c).before 7 t d))
      ∗ (∃ d, owns (c : Thread nD τ) (win2_8.stage (cfg2.slots t 8)) fullShare ((dat2 V c).before 8 t d))
      ∗ (∃ d, owns (c : Thread nD τ) (win2_9.stage (cfg2.slots t 9)) fullShare ((dat2 V c).before 9 t d)))
    ⊢ wp frame (wpE (defs₀ (F := F)) Variants.none c none) Set.univ (bodyAt2 t) (fun _ =>
      iprop((dat2 V c).Φ t.succ ∗ (dat2 V c).owesAt () t.succ
        ∗ owns (c : Thread nD τ) (win2_0.stage (cfg2.slots t 0)) fullShare ((dat2 V c).after 0 t)
        ∗ owns (c : Thread nD τ) (win2_1.stage (cfg2.slots t 1)) fullShare ((dat2 V c).after 1 t)
        ∗ owns (c : Thread nD τ) (win2_2.stage (cfg2.slots t 2)) fullShare ((dat2 V c).after 2 t)
        ∗ owns (c : Thread nD τ) (win2_3.stage (cfg2.slots t 3)) fullShare ((dat2 V c).after 3 t)
        ∗ owns (c : Thread nD τ) (win2_4.stage (cfg2.slots t 4)) fullShare ((dat2 V c).after 4 t)
        ∗ owns (c : Thread nD τ) (win2_5.stage (cfg2.slots t 5)) fullShare ((dat2 V c).after 5 t)
        ∗ owns (c : Thread nD τ) (win2_6.stage (cfg2.slots t 6)) fullShare ((dat2 V c).after 6 t)
        ∗ owns (c : Thread nD τ) (win2_7.stage (cfg2.slots t 7)) fullShare ((dat2 V c).after 7 t)
        ∗ owns (c : Thread nD τ) (win2_8.stage (cfg2.slots t 8)) fullShare ((dat2 V c).after 8 t)
        ∗ owns (c : Thread nD τ) (win2_9.stage (cfg2.slots t 9)) fullShare ((dat2 V c).after 9 t))) := by
  have hN : t.val < 10 := lt_of_lt_of_eq t.isLt (show cfg2.N = 10 from N_2)
  rw [show (dat2 V c).Φ t.succ = (dat2 V c).Φ t.castSucc from rfl,
    show (dat2 V c).owesAt () t.succ = (dat2 V c).owesAt () t.castSucc from rfl]
  unfold bodyAt2
  rw [rest_body_eq2]
  rw [after2_0, after2_1, after2_2, after2_3, after2_4, after2_5, after2_6, after2_7, after2_8, after2_9]
  exact head_rest_step c (grid2.coords t) _ _ _ _ _ _ _ _ _ _ _ _ _ _ _ _ _ _ _ _
    (blk2 V c 0 t) ((dat2 V c).before 0 t) (before2_0 V c t) (blk2 V c 1 t) ((dat2 V c).before 1 t) (before2_1 V c t) (blk2 V c 2 t) ((dat2 V c).before 2 t) (before2_2 V c t) (blk2 V c 3 t) ((dat2 V c).before 3 t) (before2_3 V c t) (blk2 V c 4 t) ((dat2 V c).before 4 t) (before2_4 V c t) (blk2 V c 5 t) ((dat2 V c).before 5 t) (before2_5 V c t)
    ((dat2 V c).before 6 t) ((dat2 V c).before 7 t) ((dat2 V c).before 8 t) ((dat2 V c).before 9 t)
    (run2 V c t.val t.isLt) (run2 V c (t.val - 1) (Nat.lt_of_le_of_lt (Nat.sub_le _ _) t.isLt))
    (fun h => run2_first V c t (by rw [coord2] at h; exact (isFirst_iff _ hN).mp h))
    (fun h => by
      have h' : t.val ≠ 0 := by rw [coord2] at h; exact fun e => h ((isFirst_iff _ hN).mpr e)
      exact ⟨before2_9 V c t h', run2_later V c t h'⟩)
    ((dat2 V c).Φ t.castSucc) ((dat2 V c).owesAt () t.castSucc)

/-- The body obligation of stage 2. -/
theorem body_ok2 (c : Dev nD) : BodyObligation (dat2 (F := F) V c) (defs₀ (F := F)) Variants.none () Set.univ := fun t => by
  have e : defs₀ (F := F) .tc cfg2.body (cfg2.bodyArgs t (cfg2.slots t)) = bodyAt2 t := by unfold defs₀; rw [Defs.onTc_tc]
  rw [bigSep_W2, bigSep_W2, e]
  exact triple_restated (sound2 V c t) rfl .rfl fun _ => .rfl

/-! ## Stage 3 -/

/-- Window `w`'s block at point `t` of stage 3. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The running maximum of stage 3 after point `n`. -/
def run3 (c : Dev nD) : (n : ℕ) → n < cfg3.N → Vec F S1x1 .f32
  | 0, h => k1_pay1 (k1_pay6 k1_pay5) (k1_pay7 (blk3 V c 0 ⟨0, h⟩) (blk3 V c 1 ⟨0, h⟩) (blk3 V c 2 ⟨0, h⟩) (blk3 V c 3 ⟨0, h⟩) (blk3 V c 4 ⟨0, h⟩))
  | n + 1, h => k1_pay1 (k1_pay6 (run3 c n (Nat.lt_of_succ_lt h))) (k1_pay7 (blk3 V c 0 ⟨n + 1, h⟩) (blk3 V c 1 ⟨n + 1, h⟩) (blk3 V c 2 ⟨n + 1, h⟩) (blk3 V c 3 ⟨n + 1, h⟩) (blk3 V c 4 ⟨n + 1, h⟩))

/-- The proof data of stage 3: inputs in place, outputs at the closed values. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => k1_pay2 (blk3 V c 0 t) (blk3 V c 1 t) (blk3 V c 2 t) (blk3 V c 3 t)
    | ⟨7, _⟩ => k1_pay3 (blk3 V c 0 t) (blk3 V c 1 t) (blk3 V c 2 t) (blk3 V c 3 t) (blk3 V c 4 t)
    | ⟨8, _⟩ => k1_pay4 (blk3 V c 0 t) (blk3 V c 1 t) (blk3 V c 2 t) (blk3 V c 3 t) (blk3 V c 5 t)
    | ⟨9, _⟩ => run3 V c t.val t.isLt
  Φ _ := Pipeline.ΦA spec3 c
  q _ := fullShare
  owed _ := 0

/-- The arrays of stage 3 are the contents it is entered at. -/
theorem A_eq3 (c : Dev nD) (w : Fin cfg3.W) : (dat3 V c).A w = V c (Pipeline.arrRef spec3 w) := by
  dsimp only [dat3]

/-- What window 0 of call 3 holds after a block. -/
theorem after3_0 (c : Dev nD) (t : Fin cfg3.N) : (dat3 V c).after 0 t = (blk3 V c 0 t) := by dsimp only [dat3]
/-- What window 1 of call 3 holds after a block. -/
theorem after3_1 (c : Dev nD) (t : Fin cfg3.N) : (dat3 V c).after 1 t = (blk3 V c 1 t) := by dsimp only [dat3]
/-- What window 2 of call 3 holds after a block. -/
theorem after3_2 (c : Dev nD) (t : Fin cfg3.N) : (dat3 V c).after 2 t = (blk3 V c 2 t) := by dsimp only [dat3]
/-- What window 3 of call 3 holds after a block. -/
theorem after3_3 (c : Dev nD) (t : Fin cfg3.N) : (dat3 V c).after 3 t = (blk3 V c 3 t) := by dsimp only [dat3]
/-- What window 4 of call 3 holds after a block. -/
theorem after3_4 (c : Dev nD) (t : Fin cfg3.N) : (dat3 V c).after 4 t = (blk3 V c 4 t) := by dsimp only [dat3]
/-- What window 5 of call 3 holds after a block. -/
theorem after3_5 (c : Dev nD) (t : Fin cfg3.N) : (dat3 V c).after 5 t = (blk3 V c 5 t) := by dsimp only [dat3]
/-- What window 6 of call 3 holds after a block. -/
theorem after3_6 (c : Dev nD) (t : Fin cfg3.N) : (dat3 V c).after 6 t = k1_pay2 (blk3 V c 0 t) (blk3 V c 1 t) (blk3 V c 2 t) (blk3 V c 3 t) := by dsimp only [dat3]
/-- What window 7 of call 3 holds after a block. -/
theorem after3_7 (c : Dev nD) (t : Fin cfg3.N) : (dat3 V c).after 7 t = k1_pay3 (blk3 V c 0 t) (blk3 V c 1 t) (blk3 V c 2 t) (blk3 V c 3 t) (blk3 V c 4 t) := by dsimp only [dat3]
/-- What window 8 of call 3 holds after a block. -/
theorem after3_8 (c : Dev nD) (t : Fin cfg3.N) : (dat3 V c).after 8 t = k1_pay4 (blk3 V c 0 t) (blk3 V c 1 t) (blk3 V c 2 t) (blk3 V c 3 t) (blk3 V c 5 t) := by dsimp only [dat3]
/-- What window 9 of call 3 holds after a block. -/
theorem after3_9 (c : Dev nD) (t : Fin cfg3.N) : (dat3 V c).after 9 t = run3 V c t.val t.isLt := by dsimp only [dat3]

/-- What window 0 of call 3 holds before a block. -/
theorem before3_0 (c : Dev nD) (t : Fin cfg3.N) (d) : (dat3 V c).before 0 t d = blk3 V c 0 t :=
  ((dat3 V c).before_in_eq_fetched 0 rfl (fun _ => rfl) (fun _ _ _ => rfl) (fun t => by
    dsimp only [dat3]; unfold Dat.blockOf blk3; rfl) t d).trans (by unfold Dat.fetched Dat.blockOf blk3; rfl)
/-- What window 1 of call 3 holds before a block. -/
theorem before3_1 (c : Dev nD) (t : Fin cfg3.N) (d) : (dat3 V c).before 1 t d = blk3 V c 1 t :=
  ((dat3 V c).before_in_eq_fetched 1 rfl (fun _ => rfl) (fun _ _ _ => rfl) (fun t => by
    dsimp only [dat3]; unfold Dat.blockOf blk3; rfl) t d).trans (by unfold Dat.fetched Dat.blockOf blk3; rfl)
/-- What window 2 of call 3 holds before a block. -/
theorem before3_2 (c : Dev nD) (t : Fin cfg3.N) (d) : (dat3 V c).before 2 t d = blk3 V c 2 t :=
  ((dat3 V c).before_in_eq_fetched 2 rfl (fun _ => rfl) (fun _ _ _ => rfl) (fun t => by
    dsimp only [dat3]; unfold Dat.blockOf blk3; rfl) t d).trans (by unfold Dat.fetched Dat.blockOf blk3; rfl)
/-- What window 3 of call 3 holds before a block. -/
theorem before3_3 (c : Dev nD) (t : Fin cfg3.N) (d) : (dat3 V c).before 3 t d = blk3 V c 3 t :=
  ((dat3 V c).before_in_eq_fetched 3 rfl (fun _ => rfl) (fun _ _ _ => rfl) (fun t => by
    dsimp only [dat3]; unfold Dat.blockOf blk3; rfl) t d).trans (by unfold Dat.fetched Dat.blockOf blk3; rfl)
/-- What window 4 of call 3 holds before a block. -/
theorem before3_4 (c : Dev nD) (t : Fin cfg3.N) (d) : (dat3 V c).before 4 t d = blk3 V c 4 t :=
  ((dat3 V c).before_in_eq_fetched 4 rfl (fun _ => rfl) (fun _ _ _ => rfl) (fun t => by
    dsimp only [dat3]; unfold Dat.blockOf blk3; rfl) t d).trans (by unfold Dat.fetched Dat.blockOf blk3; rfl)
/-- What window 5 of call 3 holds before a block. -/
theorem before3_5 (c : Dev nD) (t : Fin cfg3.N) (d) : (dat3 V c).before 5 t d = blk3 V c 5 t :=
  ((dat3 V c).before_in_eq_fetched 5 rfl (fun _ => rfl) (fun _ _ _ => rfl) (fun t => by
    dsimp only [dat3]; unfold Dat.blockOf blk3; rfl) t d).trans (by unfold Dat.fetched Dat.blockOf blk3; rfl)

/-- After the first point the running maximum's buffer holds what the point before left. -/
theorem before3_9 (c : Dev nD) (t : Fin cfg3.N) (h0 : t.val ≠ 0) (d) :
    (dat3 V c).before 9 t d = run3 V c (t.val - 1) (Nat.lt_of_le_of_lt (Nat.sub_le _ _) t.isLt) := by
  have hN : t.val < 10 := lt_of_lt_of_eq t.isLt (show cfg3.N = 10 from N_3)
  rw [Dat.before_out_kept _ 9 rfl t (by omega) (Bool.eq_false_iff.mpr fun h => by have := (flush3_9 _).mp h; dsimp only at this; omega)
    (fun _ => rfl) (fun _ _ => rfl)]
  dsimp only [dat3]

/-- The running maximum at the first point. -/
theorem run3_first (c : Dev nD) (t : Fin cfg3.N) (h : t.val = 0) : run3 V c t.val t.isLt = k1_pay1 (k1_pay6 k1_pay5) (k1_pay7 (blk3 V c 0 t) (blk3 V c 1 t) (blk3 V c 2 t) (blk3 V c 3 t) (blk3 V c 4 t)) := by
  obtain ⟨n, hn⟩ := t; dsimp only at h; subst h; rfl

/-- The running maximum at a later point. -/
theorem run3_later (c : Dev nD) (t : Fin cfg3.N) (h : t.val ≠ 0) :
    run3 V c t.val t.isLt = k1_pay1 (k1_pay6 (run3 V c (t.val - 1) (Nat.lt_of_le_of_lt (Nat.sub_le _ _) t.isLt))) (k1_pay7 (blk3 V c 0 t) (blk3 V c 1 t) (blk3 V c 2 t) (blk3 V c 3 t) (blk3 V c 4 t)) := by
  obtain ⟨n, hn⟩ := t
  cases n with
  | zero => exact absurd rfl h
  | succ n => rfl

/-- The grid coordinate of a point of stage 3 is the point. -/
theorem coord3 (t : Fin cfg3.N) : (grid3.coords t 0).val = t.val := by
  have ht : t.val < 10 := Nat.lt_of_lt_of_eq t.isLt N_3
  have e0 : (grid3.coords t 0).val = t.val / 1 % 10 := Pipeline.Grid.coords_val t 0 (by decide) rfl
  rw [e0]; omega

/-- The body of stage 3 at a point, from what the point finds to what it leaves. -/
theorem sound3 (c : Dev nD) (t : Fin cfg3.N) :
    iprop((dat3 V c).Φ t.castSucc ∗ (dat3 V c).owesAt () t.castSucc
      ∗ (∃ d, owns (c : Thread nD τ) (win3_0.stage (cfg3.slots t 0)) fullShare ((dat3 V c).before 0 t d))
      ∗ (∃ d, owns (c : Thread nD τ) (win3_1.stage (cfg3.slots t 1)) fullShare ((dat3 V c).before 1 t d))
      ∗ (∃ d, owns (c : Thread nD τ) (win3_2.stage (cfg3.slots t 2)) fullShare ((dat3 V c).before 2 t d))
      ∗ (∃ d, owns (c : Thread nD τ) (win3_3.stage (cfg3.slots t 3)) fullShare ((dat3 V c).before 3 t d))
      ∗ (∃ d, owns (c : Thread nD τ) (win3_4.stage (cfg3.slots t 4)) fullShare ((dat3 V c).before 4 t d))
      ∗ (∃ d, owns (c : Thread nD τ) (win3_5.stage (cfg3.slots t 5)) fullShare ((dat3 V c).before 5 t d))
      ∗ (∃ d, owns (c : Thread nD τ) (win3_6.stage (cfg3.slots t 6)) fullShare ((dat3 V c).before 6 t d))
      ∗ (∃ d, owns (c : Thread nD τ) (win3_7.stage (cfg3.slots t 7)) fullShare ((dat3 V c).before 7 t d))
      ∗ (∃ d, owns (c : Thread nD τ) (win3_8.stage (cfg3.slots t 8)) fullShare ((dat3 V c).before 8 t d))
      ∗ (∃ d, owns (c : Thread nD τ) (win3_9.stage (cfg3.slots t 9)) fullShare ((dat3 V c).before 9 t d)))
    ⊢ wp frame (wpE (defs₀ (F := F)) Variants.none c none) Set.univ (bodyAt3 t) (fun _ =>
      iprop((dat3 V c).Φ t.succ ∗ (dat3 V c).owesAt () t.succ
        ∗ owns (c : Thread nD τ) (win3_0.stage (cfg3.slots t 0)) fullShare ((dat3 V c).after 0 t)
        ∗ owns (c : Thread nD τ) (win3_1.stage (cfg3.slots t 1)) fullShare ((dat3 V c).after 1 t)
        ∗ owns (c : Thread nD τ) (win3_2.stage (cfg3.slots t 2)) fullShare ((dat3 V c).after 2 t)
        ∗ owns (c : Thread nD τ) (win3_3.stage (cfg3.slots t 3)) fullShare ((dat3 V c).after 3 t)
        ∗ owns (c : Thread nD τ) (win3_4.stage (cfg3.slots t 4)) fullShare ((dat3 V c).after 4 t)
        ∗ owns (c : Thread nD τ) (win3_5.stage (cfg3.slots t 5)) fullShare ((dat3 V c).after 5 t)
        ∗ owns (c : Thread nD τ) (win3_6.stage (cfg3.slots t 6)) fullShare ((dat3 V c).after 6 t)
        ∗ owns (c : Thread nD τ) (win3_7.stage (cfg3.slots t 7)) fullShare ((dat3 V c).after 7 t)
        ∗ owns (c : Thread nD τ) (win3_8.stage (cfg3.slots t 8)) fullShare ((dat3 V c).after 8 t)
        ∗ owns (c : Thread nD τ) (win3_9.stage (cfg3.slots t 9)) fullShare ((dat3 V c).after 9 t))) := by
  have hN : t.val < 10 := lt_of_lt_of_eq t.isLt (show cfg3.N = 10 from N_3)
  rw [show (dat3 V c).Φ t.succ = (dat3 V c).Φ t.castSucc from rfl,
    show (dat3 V c).owesAt () t.succ = (dat3 V c).owesAt () t.castSucc from rfl]
  unfold bodyAt3
  rw [rest_body_eq3]
  rw [after3_0, after3_1, after3_2, after3_3, after3_4, after3_5, after3_6, after3_7, after3_8, after3_9]
  exact head_rest_step c (grid3.coords t) _ _ _ _ _ _ _ _ _ _ _ _ _ _ _ _ _ _ _ _
    (blk3 V c 0 t) ((dat3 V c).before 0 t) (before3_0 V c t) (blk3 V c 1 t) ((dat3 V c).before 1 t) (before3_1 V c t) (blk3 V c 2 t) ((dat3 V c).before 2 t) (before3_2 V c t) (blk3 V c 3 t) ((dat3 V c).before 3 t) (before3_3 V c t) (blk3 V c 4 t) ((dat3 V c).before 4 t) (before3_4 V c t) (blk3 V c 5 t) ((dat3 V c).before 5 t) (before3_5 V c t)
    ((dat3 V c).before 6 t) ((dat3 V c).before 7 t) ((dat3 V c).before 8 t) ((dat3 V c).before 9 t)
    (run3 V c t.val t.isLt) (run3 V c (t.val - 1) (Nat.lt_of_le_of_lt (Nat.sub_le _ _) t.isLt))
    (fun h => run3_first V c t (by rw [coord3] at h; exact (isFirst_iff _ hN).mp h))
    (fun h => by
      have h' : t.val ≠ 0 := by rw [coord3] at h; exact fun e => h ((isFirst_iff _ hN).mpr e)
      exact ⟨before3_9 V c t h', run3_later V c t h'⟩)
    ((dat3 V c).Φ t.castSucc) ((dat3 V c).owesAt () t.castSucc)

/-- The body obligation of stage 3. -/
theorem body_ok3 (c : Dev nD) : BodyObligation (dat3 (F := F) V c) (defs₀ (F := F)) Variants.none () Set.univ := fun t => by
  have e : defs₀ (F := F) .tc cfg3.body (cfg3.bodyArgs t (cfg3.slots t)) = bodyAt3 t := by unfold defs₀; rw [Defs.onTc_tc]
  rw [bigSep_W3, bigSep_W3, e]
  exact triple_restated (sound3 V c t) rfl .rfl fun _ => .rfl

end Stages

end Cert.KernelIdeal.Own
-- ==== Proof.PoolStage.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import proofs.«01_k».proof.Proof.Bodies
public import proofs.«01_k».proof.Proof.PoolBody
public import proofs.«01_k».proof.Proof.Stages

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Stages

variable (V : (c : Dev nD) → (b : Ref sig .tc) → Buf (Elt F) ((c : Thread nD τ).loc b))

/-! ## Stage 4: pooling -/

/-- Window `w`'s block at point `t` of stage 4. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The pooled sums after point `n`. -/
def sums4 (c : Dev nD) : (n : ℕ) → n < cfg4.N → Vec F S64x128 .f32
  | 0, h => k4_pay5 (blk4 V c 0 ⟨0, h⟩) (blk4 V c 1 ⟨0, h⟩) (blk4 V c 2 ⟨0, h⟩) (blk4 V c 3 ⟨0, h⟩) k4_pay2
  | n + 1, h => k4_pay5 (blk4 V c 0 ⟨n + 1, h⟩) (blk4 V c 1 ⟨n + 1, h⟩) (blk4 V c 2 ⟨n + 1, h⟩) (blk4 V c 3 ⟨n + 1, h⟩) (sums4 c n (Nat.lt_of_succ_lt h))

/-- The graphs' node counts after point `n`. -/
def counts4 (c : Dev nD) : (n : ℕ) → n < cfg4.N → Vec F S64x1 .f32
  | 0, h => k4_pay6 (blk4 V c 3 ⟨0, h⟩) k4_pay3
  | n + 1, h => k4_pay6 (blk4 V c 3 ⟨n + 1, h⟩) (counts4 c n (Nat.lt_of_succ_lt h))

/-- What the last point writes: the pooled head of the sums and the counts. -/
def out4 (c : Dev nD) (t : Fin cfg4.N) : Vec F S64x1 .f32 :=
  k4_pay1 (sums4 V c t.val t.isLt) (blk4 V c 4 t) (counts4 V c t.val t.isLt) (blk4 V c 5 t)

/-- The pooled sums and the counts, as whole scratch buffers. -/
abbrev scS : Memref sig .tc .vmem S64x128 .f32 := Memref.whole cc4_scratch0
/-- The scratch that counts the nodes. -/
abbrev scN : Memref sig .tc .vmem S64x1 .f32 := Memref.whole cc4_scratch1

/-- The scoped buffers stage 4 does not name. -/
abbrev rest4 (c : Dev nD) : sProp 𝕄 := Pipeline.scopedRestBut (Ix := Unit) (Name := ℕ) (U := UR sig nD τ) (Lvl := ℕ) (Val := Elt F) spec4 c [cc4_scratch0, cc4_scratch1]

/-- The invariant before point `n`: nothing known of the scratch before the first point, then the sums and counts so far. -/
def inv4 (c : Dev nD) : (n : ℕ) → n ≤ cfg4.N → sProp 𝕄
  | 0, _ => Pipeline.ΦA spec4 c
  | n + 1, h => iprop(((owns (c : Thread nD τ) scS fullShare (sums4 V c n h) ∗ owns (c : Thread nD τ) scN fullShare (counts4 V c n h))
      ∗ rest4 c) ∗ (∃ r, prngReg c r))

/-- The proof data of stage 4. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => blk4 V c 5 t
    | ⟨6, _⟩ => out4 V c t
  Φ t := inv4 V c t.val (Nat.le_of_lt_succ t.isLt)
  q _ := fullShare
  owed _ := 0

/-- The arrays of stage 4 are the contents it is entered at. -/
theorem A_eq4 (c : Dev nD) (w : Fin cfg4.W) : (dat4 V c).A w = V c (Pipeline.arrRef spec4 w) := by
  dsimp only [dat4]

/-- What window 0 of call 4 holds after a block. -/
theorem after4_0 (c : Dev nD) (t : Fin cfg4.N) : (dat4 V c).after 0 t = blk4 V c 0 t := by dsimp only [dat4]
/-- What window 1 of call 4 holds after a block. -/
theorem after4_1 (c : Dev nD) (t : Fin cfg4.N) : (dat4 V c).after 1 t = blk4 V c 1 t := by dsimp only [dat4]
/-- What window 2 of call 4 holds after a block. -/
theorem after4_2 (c : Dev nD) (t : Fin cfg4.N) : (dat4 V c).after 2 t = blk4 V c 2 t := by dsimp only [dat4]
/-- What window 3 of call 4 holds after a block. -/
theorem after4_3 (c : Dev nD) (t : Fin cfg4.N) : (dat4 V c).after 3 t = blk4 V c 3 t := by dsimp only [dat4]
/-- What window 4 of call 4 holds after a block. -/
theorem after4_4 (c : Dev nD) (t : Fin cfg4.N) : (dat4 V c).after 4 t = blk4 V c 4 t := by dsimp only [dat4]
/-- What window 5 of call 4 holds after a block. -/
theorem after4_5 (c : Dev nD) (t : Fin cfg4.N) : (dat4 V c).after 5 t = blk4 V c 5 t := by dsimp only [dat4]
/-- What window 6 of call 4 holds after a block. -/
theorem after4_6 (c : Dev nD) (t : Fin cfg4.N) : (dat4 V c).after 6 t = out4 V c t := by dsimp only [dat4]
/-- What window 0 of call 4 holds before a block. -/
theorem before4_0 (c : Dev nD) (t : Fin cfg4.N) (d) : (dat4 V c).before 0 t d = blk4 V c 0 t :=
  ((dat4 V c).before_in_eq_fetched 0 rfl (fun _ => rfl) (fun _ _ _ => rfl) (fun t => by
    dsimp only [dat4]; unfold Dat.blockOf blk4; rfl) t d).trans (by unfold Dat.fetched Dat.blockOf blk4; rfl)
/-- What window 1 of call 4 holds before a block. -/
theorem before4_1 (c : Dev nD) (t : Fin cfg4.N) (d) : (dat4 V c).before 1 t d = blk4 V c 1 t :=
  ((dat4 V c).before_in_eq_fetched 1 rfl (fun _ => rfl) (fun _ _ _ => rfl) (fun t => by
    dsimp only [dat4]; unfold Dat.blockOf blk4; rfl) t d).trans (by unfold Dat.fetched Dat.blockOf blk4; rfl)
/-- What window 2 of call 4 holds before a block. -/
theorem before4_2 (c : Dev nD) (t : Fin cfg4.N) (d) : (dat4 V c).before 2 t d = blk4 V c 2 t :=
  ((dat4 V c).before_in_eq_fetched 2 rfl (fun _ => rfl) (fun _ _ _ => rfl) (fun t => by
    dsimp only [dat4]; unfold Dat.blockOf blk4; rfl) t d).trans (by unfold Dat.fetched Dat.blockOf blk4; rfl)
/-- What window 3 of call 4 holds before a block. -/
theorem before4_3 (c : Dev nD) (t : Fin cfg4.N) (d) : (dat4 V c).before 3 t d = blk4 V c 3 t :=
  ((dat4 V c).before_in_eq_fetched 3 rfl (fun _ => rfl) (fun _ _ _ => rfl) (fun t => by
    dsimp only [dat4]; unfold Dat.blockOf blk4; rfl) t d).trans (by unfold Dat.fetched Dat.blockOf blk4; rfl)
/-- What window 4 of call 4 holds before a block. -/
theorem before4_4 (c : Dev nD) (t : Fin cfg4.N) (d) : (dat4 V c).before 4 t d = blk4 V c 4 t :=
  ((dat4 V c).before_in_eq_fetched 4 rfl (fun _ => rfl) (fun _ _ _ => rfl) (fun t => by
    dsimp only [dat4]; unfold Dat.blockOf blk4; rfl) t d).trans (by unfold Dat.fetched Dat.blockOf blk4; rfl)
/-- What window 5 of call 4 holds before a block. -/
theorem before4_5 (c : Dev nD) (t : Fin cfg4.N) (d) : (dat4 V c).before 5 t d = blk4 V c 5 t :=
  ((dat4 V c).before_in_eq_fetched 5 rfl (fun _ => rfl) (fun _ _ _ => rfl) (fun t => by
    dsimp only [dat4]; unfold Dat.blockOf blk4; rfl) t d).trans (by unfold Dat.fetched Dat.blockOf blk4; rfl)

/-- The grid coordinate of a point of stage 4 is the point. -/
theorem coord4 (t : Fin cfg4.N) : (grid4.coords t 0).val = t.val := by
  have ht : t.val < 10 := Nat.lt_of_lt_of_eq t.isLt N_4
  have e0 : (grid4.coords t 0).val = t.val / 1 % 10 := Pipeline.Grid.coords_val t 0 (by decide) rfl
  rw [e0]; omega

/-- The output is written at the last point only. -/
theorem isLast_iff (t : Fin cfg4.N) : k4_cond2 (grid4.coords t) = 1#1 ↔ t.val = 9 := by
  have hN : t.val < 10 := lt_of_lt_of_eq t.isLt (show cfg4.N = 10 from N_4)
  unfold k4_cond2
  simp only [coord4]
  exact (by decide +kernel : ∀ n : Fin 10, Scalar.cmpi .ne (Scalar.extui (Scalar.cmpi .eq (BitVec.ofNat 32 n.val) 9#32)) 0#32 = 1#1 ↔ n.val = 9) ⟨t.val, hN⟩

/-- Away from the last point the output window is idle and is not written back. -/
theorem idle4_6 : ∀ t : Fin cfg4.N, ¬ t.val = 9 → cfg4.idle 6 (grid4.coords t) = true := by decide +kernel
/-- The result is written back at no block but the last. -/
theorem noFlush4_6 : ∀ t : Fin cfg4.N, ¬ t.val = 9 → (cfg4.win 6).flush t = false := by decide +kernel
/-- At the last block the result's window is in use. -/
theorem live4_6 : ∀ t : Fin cfg4.N, t.val = 9 → cfg4.idle 6 (grid4.coords t) = false := by decide +kernel

/-- What a block of call 4 leaves in window 0. -/
theorem leaves4_0 (c : Dev nD) (t : Fin cfg4.N) :
    (dat4 V c).leavesExact 0 t = owns (c : Thread nD τ) (win4_0.stage (cfg4.slots t 0)) fullShare (blk4 V c 0 t) := by
  rw [← after4_0 V c t]
/-- What a block of call 4 leaves in window 1. -/
theorem leaves4_1 (c : Dev nD) (t : Fin cfg4.N) :
    (dat4 V c).leavesExact 1 t = owns (c : Thread nD τ) (win4_1.stage (cfg4.slots t 1)) fullShare (blk4 V c 1 t) := by
  rw [← after4_1 V c t]
/-- What a block of call 4 leaves in window 2. -/
theorem leaves4_2 (c : Dev nD) (t : Fin cfg4.N) :
    (dat4 V c).leavesExact 2 t = owns (c : Thread nD τ) (win4_2.stage (cfg4.slots t 2)) fullShare (blk4 V c 2 t) := by
  rw [← after4_2 V c t]
/-- What a block of call 4 leaves in window 3. -/
theorem leaves4_3 (c : Dev nD) (t : Fin cfg4.N) :
    (dat4 V c).leavesExact 3 t = owns (c : Thread nD τ) (win4_3.stage (cfg4.slots t 3)) fullShare (blk4 V c 3 t) := by
  rw [← after4_3 V c t]
/-- What a block of call 4 leaves in window 4. -/
theorem leaves4_4 (c : Dev nD) (t : Fin cfg4.N) :
    (dat4 V c).leavesExact 4 t = owns (c : Thread nD τ) (win4_4.stage (cfg4.slots t 4)) fullShare (blk4 V c 4 t) := by
  rw [← after4_4 V c t]
/-- What a block of call 4 leaves in window 5. -/
theorem leaves4_5 (c : Dev nD) (t : Fin cfg4.N) :
    (dat4 V c).leavesExact 5 t = owns (c : Thread nD τ) (win4_5.stage (cfg4.slots t 5)) fullShare (blk4 V c 5 t) := by
  rw [← after4_5 V c t]

/-- Before the first point the invariant is the scratch at anything, beside the rest. -/
theorem inv4_open (c : Dev nD) :
    (Pipeline.ΦA spec4 c : sProp 𝕄)
      = iprop((((∃ d, owns (c : Thread nD τ) scS fullShare d) ∗ (∃ d, owns (c : Thread nD τ) scN fullShare d)) ∗ rest4 c) ∗ (∃ r, prngReg c r)) := by
  unfold Pipeline.ΦA; rw [scopedRest4_split]; simp only [owns_whole]; try rfl

/-- The invariant before a first point. -/
theorem inv4_zero (c : Dev nD) (n : ℕ) (h : n ≤ cfg4.N) (hz : n = 0) : inv4 V c n h = Pipeline.ΦA spec4 c := by
  subst hz; rfl

/-- The invariant before a later point. -/
theorem inv4_pos (c : Dev nD) (n : ℕ) (h : n ≤ cfg4.N) (hz : n ≠ 0) :
    inv4 V c n h = iprop(((owns (c : Thread nD τ) scS fullShare (sums4 V c (n - 1) (by omega)) ∗ owns (c : Thread nD τ) scN fullShare (counts4 V c (n - 1) (by omega)))
      ∗ rest4 c) ∗ (∃ r, prngReg c r)) := by
  cases n with
  | zero => exact absurd rfl hz
  | succ n => rfl

/-- The invariant after a point. -/
theorem inv4_succ (c : Dev nD) (n : ℕ) (h : n < cfg4.N) :
    inv4 V c (n + 1) h = iprop(((owns (c : Thread nD τ) scS fullShare (sums4 V c n h) ∗ owns (c : Thread nD τ) scN fullShare (counts4 V c n h))
      ∗ rest4 c) ∗ (∃ r, prngReg c r)) := rfl

/-- The sums and the counts at the first point, and at a later one. -/
theorem sums4_first (c : Dev nD) (t : Fin cfg4.N) (h : t.val = 0) : sums4 V c t.val t.isLt = k4_pay5 (blk4 V c 0 t) (blk4 V c 1 t) (blk4 V c 2 t) (blk4 V c 3 t) k4_pay2 := by
  obtain ⟨n, hn⟩ := t; dsimp only at h; subst h; rfl
/-- The counts after the first block. -/
theorem counts4_first (c : Dev nD) (t : Fin cfg4.N) (h : t.val = 0) : counts4 V c t.val t.isLt = k4_pay6 (blk4 V c 3 t) k4_pay3 := by
  obtain ⟨n, hn⟩ := t; dsimp only at h; subst h; rfl
/-- The sums after a later block, of those before it. -/
theorem sums4_later (c : Dev nD) (t : Fin cfg4.N) (h : t.val ≠ 0) :
    sums4 V c t.val t.isLt = k4_pay5 (blk4 V c 0 t) (blk4 V c 1 t) (blk4 V c 2 t) (blk4 V c 3 t) (sums4 V c (t.val - 1) (Nat.lt_of_le_of_lt (Nat.sub_le _ _) t.isLt)) := by
  obtain ⟨n, hn⟩ := t
  cases n with
  | zero => exact absurd rfl h
  | succ n => rfl
/-- The counts after a later block, of those before it. -/
theorem counts4_later (c : Dev nD) (t : Fin cfg4.N) (h : t.val ≠ 0) :
    counts4 V c t.val t.isLt = k4_pay6 (blk4 V c 3 t) (counts4 V c (t.val - 1) (Nat.lt_of_le_of_lt (Nat.sub_le _ _) t.isLt)) := by
  obtain ⟨n, hn⟩ := t
  cases n with
  | zero => exact absurd rfl h
  | succ n => rfl

set_option maxHeartbeats 4000000 in
/-- The pooling body at a point, from what the point finds to what it leaves. -/
theorem sound4 (c : Dev nD) (t : Fin cfg4.N) :
    iprop((dat4 V c).Φ t.castSucc ∗ (dat4 V c).owesAt () t.castSucc
      ∗ (∃ d, owns (c : Thread nD τ) (win4_0.stage (cfg4.slots t 0)) fullShare ((dat4 V c).before 0 t d))
      ∗ (∃ d, owns (c : Thread nD τ) (win4_1.stage (cfg4.slots t 1)) fullShare ((dat4 V c).before 1 t d))
      ∗ (∃ d, owns (c : Thread nD τ) (win4_2.stage (cfg4.slots t 2)) fullShare ((dat4 V c).before 2 t d))
      ∗ (∃ d, owns (c : Thread nD τ) (win4_3.stage (cfg4.slots t 3)) fullShare ((dat4 V c).before 3 t d))
      ∗ (∃ d, owns (c : Thread nD τ) (win4_4.stage (cfg4.slots t 4)) fullShare ((dat4 V c).before 4 t d))
      ∗ (∃ d, owns (c : Thread nD τ) (win4_5.stage (cfg4.slots t 5)) fullShare ((dat4 V c).before 5 t d))
      ∗ (∃ d, owns (c : Thread nD τ) (win4_6.stage (cfg4.slots t 6)) fullShare ((dat4 V c).before 6 t d)))
    ⊢ wp frame (wpE (defs₀ (F := F)) Variants.none c none) Set.univ (bodyAt4 t) (fun _ =>
      iprop((dat4 V c).Φ t.succ ∗ (dat4 V c).owesAt () t.succ
        ∗ (dat4 V c).leavesExact 0 t
        ∗ (dat4 V c).leavesExact 1 t
        ∗ (dat4 V c).leavesExact 2 t
        ∗ (dat4 V c).leavesExact 3 t
        ∗ (dat4 V c).leavesExact 4 t
        ∗ (dat4 V c).leavesExact 5 t
        ∗ (dat4 V c).leavesExact 6 t)) := by
  have hN : t.val < 10 := lt_of_lt_of_eq t.isLt (show cfg4.N = 10 from N_4)
  rw [show (dat4 V c).owesAt () t.succ = (dat4 V c).owesAt () t.castSucc from rfl,
    show (dat4 V c).Φ t.castSucc = inv4 V c t.val (Nat.le_of_lt t.isLt) from rfl,
    show (dat4 V c).Φ t.succ = inv4 V c (t.val + 1) t.isLt from rfl, inv4_succ V c t.val t.isLt]
  simp only [before4_0, before4_1, before4_2, before4_3, before4_4, before4_5, leaves4_0, leaves4_1, leaves4_2, leaves4_3, leaves4_4, leaves4_5]
  unfold bodyAt4
  have hfst : isFirst (grid4.coords t 0).val ↔ t.val = 0 := by rw [coord4]; exact isFirst_iff _ hN
  by_cases h9 : t.val = 9
  · have h0 : ¬ t.val = 0 := by omega
    rw [show (dat4 V c).leavesExact 6 t = owns (c : Thread nD τ) (win4_6.stage (cfg4.slots t 6)) fullShare (out4 V c t) from by
      rw [← after4_6 V c t]; unfold Dat.leavesExact; rw [live4_6 t h9]]
    unfold out4
    rw [inv4_pos V c _ _ h0, sums4_later V c t h0, counts4_later V c t h0]
    iintro ⟨⟨⟨⟨HS, HC⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (pool_last c (grid4.coords t) _ _ _ _ _ _ _ _ _ _ _ _ _ _ _ _ _ _ (fun h => h0 (hfst.mp h)) ((isLast_iff t).mpr h9) (blk4 V c 0 t) (blk4 V c 1 t) (blk4 V c 2 t) (blk4 V c 3 t) (blk4 V c 4 t) (blk4 V c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    isplitl [HC]; · iexact HC
    iintro ⟨H0, H1, H2, H3, H4, H5, H6, HS, HC⟩
    isplitl [HS HC HR Hg]
    · isplitl [HS HC HR]
      · isplitl [HS HC]
        · isplitl [HS]; · iexact HS
          iexact HC
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat4 V c) 6 t (idle4_6 t h9) (noFlush4_6 t h9)]
    by_cases h0 : t.val = 0
    · rw [inv4_zero V c _ _ h0, inv4_open, sums4_first V c t h0, counts4_first V c t h0]
      iintro ⟨⟨⟨⟨HS, HC⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (pool_first c (grid4.coords t) _ _ _ _ _ _ _ _ _ _ _ _ _ _ _ _ _ _ (hfst.mpr h0) (fun h => h9 ((isLast_iff t).mp h)) (blk4 V c 0 t) (blk4 V c 1 t) (blk4 V c 2 t) (blk4 V c 3 t) (blk4 V c 4 t) (blk4 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HC]; · iexact HC
      iintro ⟨H0, H1, H2, H3, H4, H5, H6, HS, HC⟩
      isplitl [HS HC HR Hg]
      · isplitl [HS HC HR]
        · isplitl [HS HC]
          · isplitl [HS]; · iexact HS
            iexact HC
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [inv4_pos V c _ _ h0, sums4_later V c t h0, counts4_later V c t h0]
      iintro ⟨⟨⟨⟨HS, HC⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (pool_mid c (grid4.coords t) _ _ _ _ _ _ _ _ _ _ _ _ _ _ _ _ _ _ (fun h => h0 (hfst.mp h)) (fun h => h9 ((isLast_iff t).mp h)) (blk4 V c 0 t) (blk4 V c 1 t) (blk4 V c 2 t) (blk4 V c 3 t) (blk4 V c 4 t) (blk4 V c 5 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HC]; · iexact HC
      iintro ⟨H0, H1, H2, H3, H4, H5, H6, HS, HC⟩
      isplitl [HS HC HR Hg]
      · isplitl [HS HC HR]
        · isplitl [HS HC]
          · isplitl [HS]; · iexact HS
            iexact HC
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of stage 4. -/
theorem body_ok4 (c : Dev nD) : BodyObligation (dat4 (F := F) V c) (defs₀ (F := F)) Variants.none () Set.univ := fun t => by
  have e : defs₀ (F := F) .tc cfg4.body (cfg4.bodyArgs t (cfg4.slots t)) = bodyAt4 t := by unfold defs₀; rw [Defs.onTc_tc]
  rw [bigSep_W4, bigSep_W4, e]
  exact triple_restated (sound4 V c t) rfl .rfl fun _ => .rfl

/-- What the region hands stage 4 is its invariant before the first point. -/
theorem inv4_in (c : Dev nD) : (Pipeline.ΦA spec4 c : sProp 𝕄) ⊢ (dat4 V c).Φ 0 := by
  rw [show (dat4 V c).Φ 0 = inv4 V c 0 (Nat.zero_le _) from rfl, inv4_zero V c 0 _ rfl]

/-- After the last point the invariant gives back the scratch at anything. -/
theorem inv4_out (c : Dev nD) : (dat4 V c).Φ (Fin.last cfg4.N) ⊢ (Pipeline.ΦA spec4 c : sProp 𝕄) := by
  rw [show (dat4 V c).Φ (Fin.last cfg4.N) = inv4 V c cfg4.N (le_refl _) from rfl,
    inv4_pos V c _ _ (by rw [show cfg4.N = 10 from N_4]; decide), inv4_open]
  iintro ⟨⟨⟨HS, HC⟩, HR⟩, Hg⟩
  isplitl [HS HC HR]
  · isplitl [HS HC]
    · isplitl [HS]
      · iexists _; iexact HS
      iexists _; iexact HC
    iexact HR
  iexact Hg

end Stages

end Cert.KernelIdeal.Own
-- ==== Proof.Run.lean ====
module

public import proofs.«01_k».proof.Proof.Gen.KernelIdeal.Regions
public import proofs.«01_k».proof.Proof.Stages
public import proofs.«01_k».proof.Proof.PoolStage
public import Idealize.ShloMosaic.Lib.Pipeline.RegionsLoop
public import Idealize.ShloMosaic.Lib.Pipeline.FrameSuffix

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen hiding V0 V1 V2 V3 V4 V5 V6 V7 V8 V9 V10 V11 V12 V13 V14 V15 V16 V17 V18 V19 V20 V21 V22 V23 V24 V25 V26 segs

variable {F : FTy → Type} [FloatOps F]

local notation "𝕄" => MT nD τ sig Unit (Elt F) ℕ (UR sig nD τ) ℕ

/-! # The run of the whole program: its memory, item by item, and every execution's end -/

/-- The arguments' arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

/-! ## One region, whichever it is -/

section Region

variable (pd : (p : Fin 5) → (c : Dev nD) → Dat τ (Elt F) Unit ℕ (UR sig nD τ) ℕ (Pipeline.pin (pcfgs (F := F)) adm p) c)

/-- No core owes another anything. -/
abbrev Lv : GSem nD τ sig → Finset Unit := fun _ => ∅
/-- Every counter lies on one level. -/
abbrev lv : GSem nD τ sig → Unit → ℕ := fun _ _ => 0

/-- What rides beside the buffers between two items: the generator register at some state, and nothing owed. -/
abbrev Rest (c : Dev nD) : sProp 𝕄 := iprop((∃ r, prngReg c r) ∗ ∃ W, owes (c : Thread nD τ) (0 : CellTallies nD τ sig Unit) W)

/-- The state of the thread between two items: every unscoped buffer at `W`, beside the rest. -/
abbrev At (W : Dev nD → Valuation τ sig (Elt F)) (c : Dev nD) : sProp 𝕄 :=
  iprop(StableHlo.held (c : Thread nD τ) (Pipeline.ucRefs τ sig) (W c) ∗ Rest c)

set_option backward.isDefEq.respectTransparency.types false in
/-- Region `p` as a segment from the contents `W` to the contents `W'`: its arrays are read off `W` and put back at `W'`,
    every other buffer is kept, and its invariant is made from and gives back the scoped buffers no window stages. -/
def region (p : Fin 5) (hl : Pipeline.LaunchFacts (nD := nD) (τ := τ) cfgs p)
    (hq : ∀ c w, (pd p c).share w = fullShare) (howed : ∀ c t, (pd p c).owed t = 0)
    (hrec : ∀ c, (pd p c).recorded 0 = Set.univ)
    (W W' : Dev nD → Valuation τ sig (Elt F))
    (hA : ∀ c w, (pd p c).A w = W c (Proc.devRef .tc (Pipeline.arrRef (Pipeline.pin (pcfgs (F := F)) adm p).spec w)))
    (hF : ∀ c w, (pd p c).arrAt w (Pipeline.pin (pcfgs (F := F)) adm p).N
      = W' c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec) →
      W' c (Proc.devRef .tc b) = W c (Proc.devRef .tc b))
    (hbody : ∀ c, BodyObligation (pd p c) (defs₀ (F := F)) Variants.none () Set.univ)
    (hin : ∀ c, (Pipeline.ΦA (Pipeline.pin (pcfgs (F := F)) adm p).spec c : sProp 𝕄) ⊢ (pd p c).Φ 0)
    (hout : ∀ c, (pd p c).Φ (Fin.last _) ⊢ (Pipeline.ΦA (Pipeline.pin (pcfgs (F := F)) adm p).spec c : sProp 𝕄)) :
    Pipeline.RegionSeg (pcfgs (F := F)) adm pd () defs₀ Variants.none Lv lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ Lv lv p howed
  pre := At W
  post := At W'
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => W c (Proc.devRef .tc b))
  hentry c := by
    rw [Pipeline.ownSems0_none]
    have hsplit := Pipeline.arrays_of_unscopedBufs (p := p) (pcfgs (F := F)) adm pd hl.win hl.arr_whole c (hq c)
      (fun b => W c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]; iempintro
    isplitl [HO]
    · unfold Pipeline.Dat.owesAt Pipeline.owesWithin
      rw [howed]
      icases HO with ⟨%w, HO⟩; iexists w; isplitr; · ipureintro; exact fun _ _ => Or.inl (by rw [hrec]; trivial)
      iexact HO
    isplitl [Hp]; · iexact Hp
    iexact Hrest
  hin c := by
    refine BI.BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c pd (hq c) (fun b => W c (Proc.devRef .tc b)) (fun b => W' c (Proc.devRef .tc b))
      ((pd p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%w, -, HO⟩; iexists w; iexact HO

end Region

/-- A host stretch as a segment. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- The contents a region leaves: its arrays at what the pipeline makes of them, every other buffer as entered. -/
def leave (p : Fin 5) (W : Dev nD → Valuation τ sig (Elt F))
    (d : (c : Dev nD) → Dat τ (Elt F) Unit ℕ (UR sig nD τ) ℕ (cfgs p) c) : Dev nD → Valuation τ sig (Elt F) :=
  fun c => Pipeline.withArrays (cfgs p).spec c (W c) fun w => (d c).arrAt w (cfgs p).N

section Leave

variable (p : Fin 5) (hinj : Function.Injective (Pipeline.arrRef (cfgs p).spec)) (W : Dev nD → Valuation τ sig (Elt F))
  (d : (c : Dev nD) → Dat τ (Elt F) Unit ℕ (UR sig nD τ) ℕ (cfgs p) c)

include hinj in
/-- What a call leaves in the array of a window. -/
theorem leave_arr (c : Dev nD) (w : Fin (cfgs p).W) :
    leave p W d c (Proc.devRef .tc (Pipeline.arrRef (cfgs p).spec w)) = (d c).arrAt w (cfgs p).N := by
  unfold leave; exact Pipeline.withArrays_arr (cfgs p).spec hinj c _ _ w

/-- A call leaves an array that is no window's alone. -/
theorem leave_of_ne (c : Dev nD) (b : Ref sig .tc) (hb : ∀ w, Pipeline.arrRef (cfgs p).spec w ≠ b) :
    leave p W d c (Proc.devRef .tc b) = W c (Proc.devRef .tc b) := by
  unfold leave; exact Pipeline.withArrays_of_ne (cfgs p).spec c _ _ b hb

/-- A call leaves every array outside its windows' alone. -/
theorem leave_rest (c : Dev nD) (b : Ref sig .tc) (hb : b ∉ Finset.univ.image (Pipeline.arrRef (cfgs p).spec)) :
    leave p W d c (Proc.devRef .tc b) = W c (Proc.devRef .tc b) :=
  leave_of_ne p W d c b fun w e => hb (Finset.mem_image.mpr ⟨w, Finset.mem_univ _, e⟩)

include hinj in
/-- A buffer that is no output's array keeps its contents across the region. -/
theorem leave_of (hA : ∀ c w, (d c).A w = W c (Proc.devRef .tc (Pipeline.arrRef (cfgs p).spec w))) (c : Dev nD) (r : Ref sig .tc)
    (h : ∀ w : Fin (cfgs p).W, Pipeline.arrRef (cfgs p).spec w = r → ((cfgs p).win w).isOut = false) :
    leave p W d c (Proc.devRef .tc r) = W c (Proc.devRef .tc r) := by
  by_cases hw : ∃ w : Fin (cfgs p).W, Pipeline.arrRef (cfgs p).spec w = r
  · obtain ⟨w, rfl⟩ := hw
    exact (leave_arr p hinj W d c w).trans (((d c).arrAt_in w (h w rfl) _).trans (hA c w))
  · exact leave_of_ne p W d c r fun w e => hw ⟨w, e⟩

end Leave

/-! ## The contents between items -/

variable (m : (ℓ : Loc nD τ sig) → Buf (Elt F) ℓ) (ρ : Dev nD → PrngReg)

/-- The contents at launch. -/
abbrev M0 : Dev nD → Valuation τ sig (Elt F) := fun c b => m (c, b)
/-- After `hostOps0`. -/
def M1 : Dev nD → Valuation τ sig (Elt F) := fun c => StableHlo.after hostOps0 (M0 m c)
/-- After region 0. -/
def M2 : Dev nD → Valuation τ sig (Elt F) := leave 0 (M1 m) (dat0 fun c b => M1 m c (Proc.devRef .tc b))
/-- After `hostOps1`. -/
def M3 : Dev nD → Valuation τ sig (Elt F) := fun c => StableHlo.after hostOps1 (M2 m c)
/-- After `hostOps1_1`. -/
def M4 : Dev nD → Valuation τ sig (Elt F) := fun c => StableHlo.after hostOps1_1 (M3 m c)
/-- After `hostOps1_2`. -/
def M5 : Dev nD → Valuation τ sig (Elt F) := fun c => StableHlo.after hostOps1_2 (M4 m c)
/-- After `hostOps1_3`. -/
def M6 : Dev nD → Valuation τ sig (Elt F) := fun c => StableHlo.after hostOps1_3 (M5 m c)
/-- After `hostOps1_4`. -/
def M7 : Dev nD → Valuation τ sig (Elt F) := fun c => StableHlo.after hostOps1_4 (M6 m c)
/-- After region 1. -/
def M8 : Dev nD → Valuation τ sig (Elt F) := leave 1 (M7 m) (dat1 fun c b => M7 m c (Proc.devRef .tc b))
/-- After `hostOps2`. -/
def M9 : Dev nD → Valuation τ sig (Elt F) := fun c => StableHlo.after hostOps2 (M8 m c)
/-- After `hostOps2_1`. -/
def M10 : Dev nD → Valuation τ sig (Elt F) := fun c => StableHlo.after hostOps2_1 (M9 m c)
/-- After `hostOps2_2`. -/
def M11 : Dev nD → Valuation τ sig (Elt F) := fun c => StableHlo.after hostOps2_2 (M10 m c)
/-- After `hostOps2_3`. -/
def M12 : Dev nD → Valuation τ sig (Elt F) := fun c => StableHlo.after hostOps2_3 (M11 m c)
/-- After `hostOps2_4`. -/
def M13 : Dev nD → Valuation τ sig (Elt F) := fun c => StableHlo.after hostOps2_4 (M12 m c)
/-- After region 2. -/
def M14 : Dev nD → Valuation τ sig (Elt F) := leave 2 (M13 m) (dat2 fun c b => M13 m c (Proc.devRef .tc b))
/-- After `hostOps3`. -/
def M15 : Dev nD → Valuation τ sig (Elt F) := fun c => StableHlo.after hostOps3 (M14 m c)
/-- After `hostOps3_1`. -/
def M16 : Dev nD → Valuation τ sig (Elt F) := fun c => StableHlo.after hostOps3_1 (M15 m c)
/-- After `hostOps3_2`. -/
def M17 : Dev nD → Valuation τ sig (Elt F) := fun c => StableHlo.after hostOps3_2 (M16 m c)
/-- After `hostOps3_3`. -/
def M18 : Dev nD → Valuation τ sig (Elt F) := fun c => StableHlo.after hostOps3_3 (M17 m c)
/-- After `hostOps3_4`. -/
def M19 : Dev nD → Valuation τ sig (Elt F) := fun c => StableHlo.after hostOps3_4 (M18 m c)
/-- After region 3. -/
def M20 : Dev nD → Valuation τ sig (Elt F) := leave 3 (M19 m) (dat3 fun c b => M19 m c (Proc.devRef .tc b))
/-- After `hostOps4`. -/
def M21 : Dev nD → Valuation τ sig (Elt F) := fun c => StableHlo.after hostOps4 (M20 m c)
/-- After `hostOps4_1`. -/
def M22 : Dev nD → Valuation τ sig (Elt F) := fun c => StableHlo.after hostOps4_1 (M21 m c)
/-- After `hostOps4_2`. -/
def M23 : Dev nD → Valuation τ sig (Elt F) := fun c => StableHlo.after hostOps4_2 (M22 m c)
/-- After `hostOps4_3`. -/
def M24 : Dev nD → Valuation τ sig (Elt F) := fun c => StableHlo.after hostOps4_3 (M23 m c)
/-- After `hostOps4_4`. -/
def M25 : Dev nD → Valuation τ sig (Elt F) := fun c => StableHlo.after hostOps4_4 (M24 m c)
/-- After region 4. -/
def M26 : Dev nD → Valuation τ sig (Elt F) := leave 4 (M25 m) (dat4 fun c b => M25 m c (Proc.devRef .tc b))

/-! ## What each item keeps -/

/-- Step 1 changes only what it writes. -/
theorem M1_of (c : Dev nD) (r : Ref sig .tc) (h : r ∉ hostOps0_W) : M1 m c (Proc.devRef .tc r) = M0 m c (Proc.devRef .tc r) :=
  StableHlo.after_of_writes_sub hostOps0 _ hostOps0_writes h
/-- Step 2 changes only what it writes. -/
theorem M2_of (c : Dev nD) (r : Ref sig .tc) (h : ∀ w : Fin (cfgs 0).W, Pipeline.arrRef (cfgs 0).spec w = r → ((cfgs 0).win w).isOut = false) :
    M2 m c (Proc.devRef .tc r) = M1 m c (Proc.devRef .tc r) :=
  leave_of 0 launch0.win.arr_inj (M1 m) _ (fun c w => A_eq0 _ c w) c r h
/-- What step 2, a call, leaves in its windows' arrays. -/
theorem M2_arr (c : Dev nD) (w : Fin cfg0.W) :
    M2 m c (Proc.devRef .tc (Pipeline.arrRef spec0 w)) = (dat0 (fun c b => M1 m c (Proc.devRef .tc b)) c).arrAt w cfg0.N :=
  leave_arr 0 launch0.win.arr_inj (M1 m) (dat0 fun c b => M1 m c (Proc.devRef .tc b)) c w
/-- Step 3 changes only what it writes. -/
theorem M3_of (c : Dev nD) (r : Ref sig .tc) (h : r ∉ hostOps1_W) : M3 m c (Proc.devRef .tc r) = M2 m c (Proc.devRef .tc r) :=
  StableHlo.after_of_writes_sub hostOps1 _ hostOps1_writes h
/-- Step 4 changes only what it writes. -/
theorem M4_of (c : Dev nD) (r : Ref sig .tc) (h : r ∉ hostOps1_1_W) : M4 m c (Proc.devRef .tc r) = M3 m c (Proc.devRef .tc r) :=
  StableHlo.after_of_writes_sub hostOps1_1 _ hostOps1_1_writes h
/-- Step 5 changes only what it writes. -/
theorem M5_of (c : Dev nD) (r : Ref sig .tc) (h : r ∉ hostOps1_2_W) : M5 m c (Proc.devRef .tc r) = M4 m c (Proc.devRef .tc r) :=
  StableHlo.after_of_writes_sub hostOps1_2 _ hostOps1_2_writes h
/-- Step 6 changes only what it writes. -/
theorem M6_of (c : Dev nD) (r : Ref sig .tc) (h : r ∉ hostOps1_3_W) : M6 m c (Proc.devRef .tc r) = M5 m c (Proc.devRef .tc r) :=
  StableHlo.after_of_writes_sub hostOps1_3 _ hostOps1_3_writes h
/-- Step 7 changes only what it writes. -/
theorem M7_of (c : Dev nD) (r : Ref sig .tc) (h : r ∉ hostOps1_4_W) : M7 m c (Proc.devRef .tc r) = M6 m c (Proc.devRef .tc r) :=
  StableHlo.after_of_writes_sub hostOps1_4 _ hostOps1_4_writes h
/-- Step 8 changes only what it writes. -/
theorem M8_of (c : Dev nD) (r : Ref sig .tc) (h : ∀ w : Fin (cfgs 1).W, Pipeline.arrRef (cfgs 1).spec w = r → ((cfgs 1).win w).isOut = false) :
    M8 m c (Proc.devRef .tc r) = M7 m c (Proc.devRef .tc r) :=
  leave_of 1 launch1.win.arr_inj (M7 m) _ (fun c w => A_eq1 _ c w) c r h
/-- What step 8, a call, leaves in its windows' arrays. -/
theorem M8_arr (c : Dev nD) (w : Fin cfg1.W) :
    M8 m c (Proc.devRef .tc (Pipeline.arrRef spec1 w)) = (dat1 (fun c b => M7 m c (Proc.devRef .tc b)) c).arrAt w cfg1.N :=
  leave_arr 1 launch1.win.arr_inj (M7 m) (dat1 fun c b => M7 m c (Proc.devRef .tc b)) c w
/-- Step 9 changes only what it writes. -/
theorem M9_of (c : Dev nD) (r : Ref sig .tc) (h : r ∉ hostOps2_W) : M9 m c (Proc.devRef .tc r) = M8 m c (Proc.devRef .tc r) :=
  StableHlo.after_of_writes_sub hostOps2 _ hostOps2_writes h
/-- Step 10 changes only what it writes. -/
theorem M10_of (c : Dev nD) (r : Ref sig .tc) (h : r ∉ hostOps2_1_W) : M10 m c (Proc.devRef .tc r) = M9 m c (Proc.devRef .tc r) :=
  StableHlo.after_of_writes_sub hostOps2_1 _ hostOps2_1_writes h
/-- Step 11 changes only what it writes. -/
theorem M11_of (c : Dev nD) (r : Ref sig .tc) (h : r ∉ hostOps2_2_W) : M11 m c (Proc.devRef .tc r) = M10 m c (Proc.devRef .tc r) :=
  StableHlo.after_of_writes_sub hostOps2_2 _ hostOps2_2_writes h
/-- Step 12 changes only what it writes. -/
theorem M12_of (c : Dev nD) (r : Ref sig .tc) (h : r ∉ hostOps2_3_W) : M12 m c (Proc.devRef .tc r) = M11 m c (Proc.devRef .tc r) :=
  StableHlo.after_of_writes_sub hostOps2_3 _ hostOps2_3_writes h
/-- Step 13 changes only what it writes. -/
theorem M13_of (c : Dev nD) (r : Ref sig .tc) (h : r ∉ hostOps2_4_W) : M13 m c (Proc.devRef .tc r) = M12 m c (Proc.devRef .tc r) :=
  StableHlo.after_of_writes_sub hostOps2_4 _ hostOps2_4_writes h
/-- Step 14 changes only what it writes. -/
theorem M14_of (c : Dev nD) (r : Ref sig .tc) (h : ∀ w : Fin (cfgs 2).W, Pipeline.arrRef (cfgs 2).spec w = r → ((cfgs 2).win w).isOut = false) :
    M14 m c (Proc.devRef .tc r) = M13 m c (Proc.devRef .tc r) :=
  leave_of 2 launch2.win.arr_inj (M13 m) _ (fun c w => A_eq2 _ c w) c r h
/-- What step 14, a call, leaves in its windows' arrays. -/
theorem M14_arr (c : Dev nD) (w : Fin cfg2.W) :
    M14 m c (Proc.devRef .tc (Pipeline.arrRef spec2 w)) = (dat2 (fun c b => M13 m c (Proc.devRef .tc b)) c).arrAt w cfg2.N :=
  leave_arr 2 launch2.win.arr_inj (M13 m) (dat2 fun c b => M13 m c (Proc.devRef .tc b)) c w
/-- Step 15 changes only what it writes. -/
theorem M15_of (c : Dev nD) (r : Ref sig .tc) (h : r ∉ hostOps3_W) : M15 m c (Proc.devRef .tc r) = M14 m c (Proc.devRef .tc r) :=
  StableHlo.after_of_writes_sub hostOps3 _ hostOps3_writes h
/-- Step 16 changes only what it writes. -/
theorem M16_of (c : Dev nD) (r : Ref sig .tc) (h : r ∉ hostOps3_1_W) : M16 m c (Proc.devRef .tc r) = M15 m c (Proc.devRef .tc r) :=
  StableHlo.after_of_writes_sub hostOps3_1 _ hostOps3_1_writes h
/-- Step 17 changes only what it writes. -/
theorem M17_of (c : Dev nD) (r : Ref sig .tc) (h : r ∉ hostOps3_2_W) : M17 m c (Proc.devRef .tc r) = M16 m c (Proc.devRef .tc r) :=
  StableHlo.after_of_writes_sub hostOps3_2 _ hostOps3_2_writes h
/-- Step 18 changes only what it writes. -/
theorem M18_of (c : Dev nD) (r : Ref sig .tc) (h : r ∉ hostOps3_3_W) : M18 m c (Proc.devRef .tc r) = M17 m c (Proc.devRef .tc r) :=
  StableHlo.after_of_writes_sub hostOps3_3 _ hostOps3_3_writes h
/-- Step 19 changes only what it writes. -/
theorem M19_of (c : Dev nD) (r : Ref sig .tc) (h : r ∉ hostOps3_4_W) : M19 m c (Proc.devRef .tc r) = M18 m c (Proc.devRef .tc r) :=
  StableHlo.after_of_writes_sub hostOps3_4 _ hostOps3_4_writes h
/-- Step 20 changes only what it writes. -/
theorem M20_of (c : Dev nD) (r : Ref sig .tc) (h : ∀ w : Fin (cfgs 3).W, Pipeline.arrRef (cfgs 3).spec w = r → ((cfgs 3).win w).isOut = false) :
    M20 m c (Proc.devRef .tc r) = M19 m c (Proc.devRef .tc r) :=
  leave_of 3 launch3.win.arr_inj (M19 m) _ (fun c w => A_eq3 _ c w) c r h
/-- What step 20, a call, leaves in its windows' arrays. -/
theorem M20_arr (c : Dev nD) (w : Fin cfg3.W) :
    M20 m c (Proc.devRef .tc (Pipeline.arrRef spec3 w)) = (dat3 (fun c b => M19 m c (Proc.devRef .tc b)) c).arrAt w cfg3.N :=
  leave_arr 3 launch3.win.arr_inj (M19 m) (dat3 fun c b => M19 m c (Proc.devRef .tc b)) c w
/-- Step 21 changes only what it writes. -/
theorem M21_of (c : Dev nD) (r : Ref sig .tc) (h : r ∉ hostOps4_W) : M21 m c (Proc.devRef .tc r) = M20 m c (Proc.devRef .tc r) :=
  StableHlo.after_of_writes_sub hostOps4 _ hostOps4_writes h
/-- Step 22 changes only what it writes. -/
theorem M22_of (c : Dev nD) (r : Ref sig .tc) (h : r ∉ hostOps4_1_W) : M22 m c (Proc.devRef .tc r) = M21 m c (Proc.devRef .tc r) :=
  StableHlo.after_of_writes_sub hostOps4_1 _ hostOps4_1_writes h
/-- Step 23 changes only what it writes. -/
theorem M23_of (c : Dev nD) (r : Ref sig .tc) (h : r ∉ hostOps4_2_W) : M23 m c (Proc.devRef .tc r) = M22 m c (Proc.devRef .tc r) :=
  StableHlo.after_of_writes_sub hostOps4_2 _ hostOps4_2_writes h
/-- Step 24 changes only what it writes. -/
theorem M24_of (c : Dev nD) (r : Ref sig .tc) (h : r ∉ hostOps4_3_W) : M24 m c (Proc.devRef .tc r) = M23 m c (Proc.devRef .tc r) :=
  StableHlo.after_of_writes_sub hostOps4_3 _ hostOps4_3_writes h
/-- Step 25 changes only what it writes. -/
theorem M25_of (c : Dev nD) (r : Ref sig .tc) (h : r ∉ hostOps4_4_W) : M25 m c (Proc.devRef .tc r) = M24 m c (Proc.devRef .tc r) :=
  StableHlo.after_of_writes_sub hostOps4_4 _ hostOps4_4_writes h
/-- Step 26 changes only what it writes. -/
theorem M26_of (c : Dev nD) (r : Ref sig .tc) (h : ∀ w : Fin (cfgs 4).W, Pipeline.arrRef (cfgs 4).spec w = r → ((cfgs 4).win w).isOut = false) :
    M26 m c (Proc.devRef .tc r) = M25 m c (Proc.devRef .tc r) :=
  leave_of 4 launch4.win.arr_inj (M25 m) _ (fun c w => A_eq4 _ c w) c r h
/-- What step 26, a call, leaves in its windows' arrays. -/
theorem M26_arr (c : Dev nD) (w : Fin cfg4.W) :
    M26 m c (Proc.devRef .tc (Pipeline.arrRef spec4 w)) = (dat4 (fun c b => M25 m c (Proc.devRef .tc b)) c).arrAt w cfg4.N :=
  leave_arr 4 launch4.win.arr_inj (M25 m) (dat4 fun c b => M25 m c (Proc.devRef .tc b)) c w

/-! ## No item writes an argument -/

/-- No argument has changed before the first stretch. -/
theorem M0_args (c : Dev nD) : ∀ a ∈ argRefs, M0 m c (Proc.devRef .tc a) = m ((c : Thread nD τ).loc a) := fun _ _ => rfl
/-- No argument has changed after step 1. -/
theorem M1_args (c : Dev nD) : ∀ a ∈ argRefs, M1 m c (Proc.devRef .tc a) = m ((c : Thread nD τ).loc a) :=
  fun a ha => (M1_of m c a ((ListAll.forall_mem_of_all_decide (by decide +kernel) : ∀ a ∈ argRefs, a ∉ hostOps0_W) a ha)).trans (M0_args m c a ha)
/-- No argument has changed after step 2. -/
theorem M2_args (c : Dev nD) : ∀ a ∈ argRefs, M2 m c (Proc.devRef .tc a) = m ((c : Thread nD τ).loc a) :=
  fun a ha => (M2_of m c a ((ListAll.forall_mem_of_all_decide (by decide +kernel) : ∀ a ∈ argRefs, ∀ w : Fin (cfgs 0).W, Pipeline.arrRef (cfgs 0).spec w = a → ((cfgs 0).win w).isOut = false) a ha)).trans (M1_args m c a ha)
/-- No argument has changed after step 3. -/
theorem M3_args (c : Dev nD) : ∀ a ∈ argRefs, M3 m c (Proc.devRef .tc a) = m ((c : Thread nD τ).loc a) :=
  fun a ha => (M3_of m c a ((ListAll.forall_mem_of_all_decide (by decide +kernel) : ∀ a ∈ argRefs, a ∉ hostOps1_W) a ha)).trans (M2_args m c a ha)
/-- No argument has changed after step 4. -/
theorem M4_args (c : Dev nD) : ∀ a ∈ argRefs, M4 m c (Proc.devRef .tc a) = m ((c : Thread nD τ).loc a) :=
  fun a ha => (M4_of m c a ((ListAll.forall_mem_of_all_decide (by decide +kernel) : ∀ a ∈ argRefs, a ∉ hostOps1_1_W) a ha)).trans (M3_args m c a ha)
/-- No argument has changed after step 5. -/
theorem M5_args (c : Dev nD) : ∀ a ∈ argRefs, M5 m c (Proc.devRef .tc a) = m ((c : Thread nD τ).loc a) :=
  fun a ha => (M5_of m c a ((ListAll.forall_mem_of_all_decide (by decide +kernel) : ∀ a ∈ argRefs, a ∉ hostOps1_2_W) a ha)).trans (M4_args m c a ha)
/-- No argument has changed after step 6. -/
theorem M6_args (c : Dev nD) : ∀ a ∈ argRefs, M6 m c (Proc.devRef .tc a) = m ((c : Thread nD τ).loc a) :=
  fun a ha => (M6_of m c a ((ListAll.forall_mem_of_all_decide (by decide +kernel) : ∀ a ∈ argRefs, a ∉ hostOps1_3_W) a ha)).trans (M5_args m c a ha)
/-- No argument has changed after step 7. -/
theorem M7_args (c : Dev nD) : ∀ a ∈ argRefs, M7 m c (Proc.devRef .tc a) = m ((c : Thread nD τ).loc a) :=
  fun a ha => (M7_of m c a ((ListAll.forall_mem_of_all_decide (by decide +kernel) : ∀ a ∈ argRefs, a ∉ hostOps1_4_W) a ha)).trans (M6_args m c a ha)
/-- No argument has changed after step 8. -/
theorem M8_args (c : Dev nD) : ∀ a ∈ argRefs, M8 m c (Proc.devRef .tc a) = m ((c : Thread nD τ).loc a) :=
  fun a ha => (M8_of m c a ((ListAll.forall_mem_of_all_decide (by decide +kernel) : ∀ a ∈ argRefs, ∀ w : Fin (cfgs 1).W, Pipeline.arrRef (cfgs 1).spec w = a → ((cfgs 1).win w).isOut = false) a ha)).trans (M7_args m c a ha)
/-- No argument has changed after step 9. -/
theorem M9_args (c : Dev nD) : ∀ a ∈ argRefs, M9 m c (Proc.devRef .tc a) = m ((c : Thread nD τ).loc a) :=
  fun a ha => (M9_of m c a ((ListAll.forall_mem_of_all_decide (by decide +kernel) : ∀ a ∈ argRefs, a ∉ hostOps2_W) a ha)).trans (M8_args m c a ha)
/-- No argument has changed after step 10. -/
theorem M10_args (c : Dev nD) : ∀ a ∈ argRefs, M10 m c (Proc.devRef .tc a) = m ((c : Thread nD τ).loc a) :=
  fun a ha => (M10_of m c a ((ListAll.forall_mem_of_all_decide (by decide +kernel) : ∀ a ∈ argRefs, a ∉ hostOps2_1_W) a ha)).trans (M9_args m c a ha)
/-- No argument has changed after step 11. -/
theorem M11_args (c : Dev nD) : ∀ a ∈ argRefs, M11 m c (Proc.devRef .tc a) = m ((c : Thread nD τ).loc a) :=
  fun a ha => (M11_of m c a ((ListAll.forall_mem_of_all_decide (by decide +kernel) : ∀ a ∈ argRefs, a ∉ hostOps2_2_W) a ha)).trans (M10_args m c a ha)
/-- No argument has changed after step 12. -/
theorem M12_args (c : Dev nD) : ∀ a ∈ argRefs, M12 m c (Proc.devRef .tc a) = m ((c : Thread nD τ).loc a) :=
  fun a ha => (M12_of m c a ((ListAll.forall_mem_of_all_decide (by decide +kernel) : ∀ a ∈ argRefs, a ∉ hostOps2_3_W) a ha)).trans (M11_args m c a ha)
/-- No argument has changed after step 13. -/
theorem M13_args (c : Dev nD) : ∀ a ∈ argRefs, M13 m c (Proc.devRef .tc a) = m ((c : Thread nD τ).loc a) :=
  fun a ha => (M13_of m c a ((ListAll.forall_mem_of_all_decide (by decide +kernel) : ∀ a ∈ argRefs, a ∉ hostOps2_4_W) a ha)).trans (M12_args m c a ha)
/-- No argument has changed after step 14. -/
theorem M14_args (c : Dev nD) : ∀ a ∈ argRefs, M14 m c (Proc.devRef .tc a) = m ((c : Thread nD τ).loc a) :=
  fun a ha => (M14_of m c a ((ListAll.forall_mem_of_all_decide (by decide +kernel) : ∀ a ∈ argRefs, ∀ w : Fin (cfgs 2).W, Pipeline.arrRef (cfgs 2).spec w = a → ((cfgs 2).win w).isOut = false) a ha)).trans (M13_args m c a ha)
/-- No argument has changed after step 15. -/
theorem M15_args (c : Dev nD) : ∀ a ∈ argRefs, M15 m c (Proc.devRef .tc a) = m ((c : Thread nD τ).loc a) :=
  fun a ha => (M15_of m c a ((ListAll.forall_mem_of_all_decide (by decide +kernel) : ∀ a ∈ argRefs, a ∉ hostOps3_W) a ha)).trans (M14_args m c a ha)
/-- No argument has changed after step 16. -/
theorem M16_args (c : Dev nD) : ∀ a ∈ argRefs, M16 m c (Proc.devRef .tc a) = m ((c : Thread nD τ).loc a) :=
  fun a ha => (M16_of m c a ((ListAll.forall_mem_of_all_decide (by decide +kernel) : ∀ a ∈ argRefs, a ∉ hostOps3_1_W) a ha)).trans (M15_args m c a ha)
/-- No argument has changed after step 17. -/
theorem M17_args (c : Dev nD) : ∀ a ∈ argRefs, M17 m c (Proc.devRef .tc a) = m ((c : Thread nD τ).loc a) :=
  fun a ha => (M17_of m c a ((ListAll.forall_mem_of_all_decide (by decide +kernel) : ∀ a ∈ argRefs, a ∉ hostOps3_2_W) a ha)).trans (M16_args m c a ha)
/-- No argument has changed after step 18. -/
theorem M18_args (c : Dev nD) : ∀ a ∈ argRefs, M18 m c (Proc.devRef .tc a) = m ((c : Thread nD τ).loc a) :=
  fun a ha => (M18_of m c a ((ListAll.forall_mem_of_all_decide (by decide +kernel) : ∀ a ∈ argRefs, a ∉ hostOps3_3_W) a ha)).trans (M17_args m c a ha)
/-- No argument has changed after step 19. -/
theorem M19_args (c : Dev nD) : ∀ a ∈ argRefs, M19 m c (Proc.devRef .tc a) = m ((c : Thread nD τ).loc a) :=
  fun a ha => (M19_of m c a ((ListAll.forall_mem_of_all_decide (by decide +kernel) : ∀ a ∈ argRefs, a ∉ hostOps3_4_W) a ha)).trans (M18_args m c a ha)
/-- No argument has changed after step 20. -/
theorem M20_args (c : Dev nD) : ∀ a ∈ argRefs, M20 m c (Proc.devRef .tc a) = m ((c : Thread nD τ).loc a) :=
  fun a ha => (M20_of m c a ((ListAll.forall_mem_of_all_decide (by decide +kernel) : ∀ a ∈ argRefs, ∀ w : Fin (cfgs 3).W, Pipeline.arrRef (cfgs 3).spec w = a → ((cfgs 3).win w).isOut = false) a ha)).trans (M19_args m c a ha)
/-- No argument has changed after step 21. -/
theorem M21_args (c : Dev nD) : ∀ a ∈ argRefs, M21 m c (Proc.devRef .tc a) = m ((c : Thread nD τ).loc a) :=
  fun a ha => (M21_of m c a ((ListAll.forall_mem_of_all_decide (by decide +kernel) : ∀ a ∈ argRefs, a ∉ hostOps4_W) a ha)).trans (M20_args m c a ha)
/-- No argument has changed after step 22. -/
theorem M22_args (c : Dev nD) : ∀ a ∈ argRefs, M22 m c (Proc.devRef .tc a) = m ((c : Thread nD τ).loc a) :=
  fun a ha => (M22_of m c a ((ListAll.forall_mem_of_all_decide (by decide +kernel) : ∀ a ∈ argRefs, a ∉ hostOps4_1_W) a ha)).trans (M21_args m c a ha)
/-- No argument has changed after step 23. -/
theorem M23_args (c : Dev nD) : ∀ a ∈ argRefs, M23 m c (Proc.devRef .tc a) = m ((c : Thread nD τ).loc a) :=
  fun a ha => (M23_of m c a ((ListAll.forall_mem_of_all_decide (by decide +kernel) : ∀ a ∈ argRefs, a ∉ hostOps4_2_W) a ha)).trans (M22_args m c a ha)
/-- No argument has changed after step 24. -/
theorem M24_args (c : Dev nD) : ∀ a ∈ argRefs, M24 m c (Proc.devRef .tc a) = m ((c : Thread nD τ).loc a) :=
  fun a ha => (M24_of m c a ((ListAll.forall_mem_of_all_decide (by decide +kernel) : ∀ a ∈ argRefs, a ∉ hostOps4_3_W) a ha)).trans (M23_args m c a ha)
/-- No argument has changed after step 25. -/
theorem M25_args (c : Dev nD) : ∀ a ∈ argRefs, M25 m c (Proc.devRef .tc a) = m ((c : Thread nD τ).loc a) :=
  fun a ha => (M25_of m c a ((ListAll.forall_mem_of_all_decide (by decide +kernel) : ∀ a ∈ argRefs, a ∉ hostOps4_4_W) a ha)).trans (M24_args m c a ha)
/-- No argument has changed after step 26. -/
theorem M26_args (c : Dev nD) : ∀ a ∈ argRefs, M26 m c (Proc.devRef .tc a) = m ((c : Thread nD τ).loc a) :=
  fun a ha => (M26_of m c a ((ListAll.forall_mem_of_all_decide (by decide +kernel) : ∀ a ∈ argRefs, ∀ w : Fin (cfgs 4).W, Pipeline.arrRef (cfgs 4).spec w = a → ((cfgs 4).win w).isOut = false) a ha)).trans (M25_args m c a ha)

/-! ## The launch -/

/-- Every region's proof data, at the contents it is entered from. -/
def pdats : (p : Fin 5) → (c : Dev nD) → Dat τ (Elt F) Unit ℕ (UR sig nD τ) ℕ (Pipeline.pin (pcfgs (F := F)) adm p) c
  | ⟨0, _⟩ => fun c => dat0 (fun c b => M1 m c (Proc.devRef .tc b)) c
  | ⟨1, _⟩ => fun c => dat1 (fun c b => M7 m c (Proc.devRef .tc b)) c
  | ⟨2, _⟩ => fun c => dat2 (fun c b => M13 m c (Proc.devRef .tc b)) c
  | ⟨3, _⟩ => fun c => dat3 (fun c b => M19 m c (Proc.devRef .tc b)) c
  | ⟨4, _⟩ => fun c => dat4 (fun c b => M25 m c (Proc.devRef .tc b)) c

/-- Region 0. -/
def reg0 : Pipeline.RegionSeg (pcfgs (F := F)) adm (pdats m) () defs₀ Variants.none Lv lv 0 :=
  region (pdats m) 0 launch0 (fun c => (dat0 (fun c b => M1 m c (Proc.devRef .tc b)) c).share_full fun _ => rfl) (fun _ _ => rfl) (fun _ => rfl) (M1 m) (M2 m)
    (fun c w => A_eq0 (fun c b => M1 m c (Proc.devRef .tc b)) c w) (fun c w => (M2_arr m c w).symm)
    (fun c b hb => leave_rest 0 (M1 m) (dat0 fun c b => M1 m c (Proc.devRef .tc b)) c b hb)
    (fun c => body_ok0 (fun c b => M1 m c (Proc.devRef .tc b)) c) (fun c => .rfl) (fun c => .rfl)

/-- Region 1. -/
def reg1 : Pipeline.RegionSeg (pcfgs (F := F)) adm (pdats m) () defs₀ Variants.none Lv lv 1 :=
  region (pdats m) 1 launch1 (fun c => (dat1 (fun c b => M7 m c (Proc.devRef .tc b)) c).share_full fun _ => rfl) (fun _ _ => rfl) (fun _ => rfl) (M7 m) (M8 m)
    (fun c w => A_eq1 (fun c b => M7 m c (Proc.devRef .tc b)) c w) (fun c w => (M8_arr m c w).symm)
    (fun c b hb => leave_rest 1 (M7 m) (dat1 fun c b => M7 m c (Proc.devRef .tc b)) c b hb)
    (fun c => body_ok1 (fun c b => M7 m c (Proc.devRef .tc b)) c) (fun c => .rfl) (fun c => .rfl)

/-- Region 2. -/
def reg2 : Pipeline.RegionSeg (pcfgs (F := F)) adm (pdats m) () defs₀ Variants.none Lv lv 2 :=
  region (pdats m) 2 launch2 (fun c => (dat2 (fun c b => M13 m c (Proc.devRef .tc b)) c).share_full fun _ => rfl) (fun _ _ => rfl) (fun _ => rfl) (M13 m) (M14 m)
    (fun c w => A_eq2 (fun c b => M13 m c (Proc.devRef .tc b)) c w) (fun c w => (M14_arr m c w).symm)
    (fun c b hb => leave_rest 2 (M13 m) (dat2 fun c b => M13 m c (Proc.devRef .tc b)) c b hb)
    (fun c => body_ok2 (fun c b => M13 m c (Proc.devRef .tc b)) c) (fun c => .rfl) (fun c => .rfl)

/-- Region 3. -/
def reg3 : Pipeline.RegionSeg (pcfgs (F := F)) adm (pdats m) () defs₀ Variants.none Lv lv 3 :=
  region (pdats m) 3 launch3 (fun c => (dat3 (fun c b => M19 m c (Proc.devRef .tc b)) c).share_full fun _ => rfl) (fun _ _ => rfl) (fun _ => rfl) (M19 m) (M20 m)
    (fun c w => A_eq3 (fun c b => M19 m c (Proc.devRef .tc b)) c w) (fun c w => (M20_arr m c w).symm)
    (fun c b hb => leave_rest 3 (M19 m) (dat3 fun c b => M19 m c (Proc.devRef .tc b)) c b hb)
    (fun c => body_ok3 (fun c b => M19 m c (Proc.devRef .tc b)) c) (fun c => .rfl) (fun c => .rfl)

/-- Region 4. -/
def reg4 : Pipeline.RegionSeg (pcfgs (F := F)) adm (pdats m) () defs₀ Variants.none Lv lv 4 :=
  region (pdats m) 4 launch4 (fun c => (dat4 (fun c b => M25 m c (Proc.devRef .tc b)) c).share_full fun _ => rfl) (fun _ _ => rfl) (fun _ => rfl) (M25 m) (M26 m)
    (fun c w => A_eq4 (fun c b => M25 m c (Proc.devRef .tc b)) c w) (fun c w => (M26_arr m c w).symm)
    (fun c b hb => leave_rest 4 (M25 m) (dat4 fun c b => M25 m c (Proc.devRef .tc b)) c b hb)
    (fun c => body_ok4 (fun c b => M25 m c (Proc.devRef .tc b)) c) (fun c => inv4_in (fun c b => M25 m c (Proc.devRef .tc b)) c) (fun c => inv4_out (fun c b => M25 m c (Proc.devRef .tc b)) c)

/-- The program's items in order. -/
abbrev items : List (Pipeline.Seg (pcfgs (F := F)) adm (pdats m) () defs₀ Variants.none Lv lv) :=
  [ .host (stretch hostOps0 hostOps0_sub hostOps0_fresh (M0 m)),
    .region (reg0 m),
    .host (stretch hostOps1 hostOps1_sub hostOps1_fresh (M2 m)),
    .host (stretch hostOps1_1 hostOps1_1_sub hostOps1_1_fresh (M3 m)),
    .host (stretch hostOps1_2 hostOps1_2_sub hostOps1_2_fresh (M4 m)),
    .host (stretch hostOps1_3 hostOps1_3_sub hostOps1_3_fresh (M5 m)),
    .host (stretch hostOps1_4 hostOps1_4_sub hostOps1_4_fresh (M6 m)),
    .region (reg1 m),
    .host (stretch hostOps2 hostOps2_sub hostOps2_fresh (M8 m)),
    .host (stretch hostOps2_1 hostOps2_1_sub hostOps2_1_fresh (M9 m)),
    .host (stretch hostOps2_2 hostOps2_2_sub hostOps2_2_fresh (M10 m)),
    .host (stretch hostOps2_3 hostOps2_3_sub hostOps2_3_fresh (M11 m)),
    .host (stretch hostOps2_4 hostOps2_4_sub hostOps2_4_fresh (M12 m)),
    .region (reg2 m),
    .host (stretch hostOps3 hostOps3_sub hostOps3_fresh (M14 m)),
    .host (stretch hostOps3_1 hostOps3_1_sub hostOps3_1_fresh (M15 m)),
    .host (stretch hostOps3_2 hostOps3_2_sub hostOps3_2_fresh (M16 m)),
    .host (stretch hostOps3_3 hostOps3_3_sub hostOps3_3_fresh (M17 m)),
    .host (stretch hostOps3_4 hostOps3_4_sub hostOps3_4_fresh (M18 m)),
    .region (reg3 m),
    .host (stretch hostOps4 hostOps4_sub hostOps4_fresh (M20 m)),
    .host (stretch hostOps4_1 hostOps4_1_sub hostOps4_1_fresh (M21 m)),
    .host (stretch hostOps4_2 hostOps4_2_sub hostOps4_2_fresh (M22 m)),
    .host (stretch hostOps4_3 hostOps4_3_sub hostOps4_3_fresh (M23 m)),
    .host (stretch hostOps4_4 hostOps4_4_sub hostOps4_4_fresh (M24 m)),
    .region (reg4 m) ]

/-- The program is the run of its items. -/
theorem main_items (c : Dev nD) : main (F := F) c = Pipeline.Seg.run (items m) := (main_chain c).trans (by chain_rfl)

/-- The last state without what is owed. -/
abbrev Last (c : Dev nD) : sProp 𝕄 := iprop(StableHlo.held (c : Thread nD τ) (Pipeline.ucRefs τ sig) (M26 m c) ∗ ∃ r, prngReg c r)

/-- An array outside every scope is among those that the run follows. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No argument is scoped. -/
theorem args_unscoped : ∀ a ∈ argRefs, ¬ (Proc.devRef .tc a : DevRef τ sig).isScoped := by decide +kernel

set_option backward.isDefEq.respectTransparency.types false in
/-- Every execution ends, with no fault, with every unscoped buffer at the last contents and every counter at zero. -/
theorem run_all : θ_run defs (onTc (τ := τ) (main (F := F))) ⟨m, fun _ => 0, ρ⟩ (fun r =>
    (∀ c : Dev nD, ∀ b ∈ Pipeline.ucRefs τ sig, r.2.mem (((c : Thread nD τ)).1, b) = M26 m c b) ∧ r.2.sem = fun _ => 0) :=
  Pipeline.θ_run_regions_kit_sems (pcfgs (F := F)) adm (pdats m) () cellOf_inj emb₁ defs₀ Variants.none Lv lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (M0 m)) (Tₙ := Last m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show At (M26 m) c ⊢ _
      iintro ⟨Hh, Hp, HO⟩
      isplitl [Hh Hp]
      · isplitl [Hh]; · iexact Hh
        iexact Hp
      iexact HO⟩)
    (hinit := by
      refine Pipeline.initEach Lv lv fun c => ?_
      rw [show unscopedBufs c (fun b => m ((c : Thread nD τ).loc b)) = StableHlo.held (c : Thread nD τ) (Pipeline.ucRefs τ sig) (M0 m c)
        from Pipeline.unscopedBufs_held c (M0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M26 m c b)
    (hfin := fun c s' => by
      iintro ⟨⟨Hh, -⟩, HSI⟩
      unfold StableHlo.held
      imodintro
      iapply (pointsTo_read_all (Pipeline.ucRefs τ sig) (fun b => (((c : Thread nD τ)).1, b)) (M26 m c) s')
      isplitl [Hh] <;> iassumption)
    (hQ := fun s h hz => ⟨h, funext fun g => hz g (.inr (regions_no_unscoped g.2))⟩)

/-- Every execution leaves the arguments as launched. -/
theorem run_args : θ_run defs (onTc (τ := τ) (main (F := F))) ⟨m, fun _ => 0, ρ⟩ (fun r =>
    ((∀ c : Dev nD, ∀ a ∈ argRefs, r.2.mem ((c : Thread nD τ).loc a) = m ((c : Thread nD τ).loc a))
      ∧ ∀ c : Dev nD, r.2.mem ((c : Thread nD τ).loc main_v286) = M26 m c (Proc.devRef .tc main_v286)) ∧ r.2.sem = fun _ => 0) :=
  (θ_run defs _ _).mono (fun _ h => ⟨⟨fun c a ha => (h.1 c _ (mem_uc a (args_unscoped a ha))).trans (M26_args m c a ha),
    fun c => h.1 c _ (mem_uc main_v286 (by decide))⟩, h.2⟩) (run_all m ρ)

end Cert.KernelIdeal.Own
-- ==== Proof.Frames.lean ====
module

public import proofs.«01_k».proof.Defs
public import proofs.«01_k».proof.Proof.Gen.Kernel
public import proofs.«01_k».proof.Proof.Gen.ReferenceIdeal.Run
public import proofs.«01_k».proof.Proof.Gen.Pre_finite
public import proofs.«01_k».proof.Proof.Run
public import Idealize.ShloMosaic.Lib.Quiescent

@[expose] public section

set_option maxRecDepth 16384

noncomputable section

namespace Cert.Frames

open Idealize.ShloMosaic Idealize.ShloMosaic.TcCoe Idealize.SL.Sem

/-! # The frames -/

/-- Being unchanged at every argument of the list is being unchanged at each of the twenty-one, one after the other. -/
theorem args_list {P : Ref Cert.KernelIdeal.sig .tc → Prop} (h : ∀ a ∈ Cert.KernelIdeal.Own.argRefs, P a) :
    P Cert.KernelIdeal.main_arg0 ∧ P Cert.KernelIdeal.main_arg1 ∧ P Cert.KernelIdeal.main_arg2 ∧ P Cert.KernelIdeal.main_arg3
      ∧ P Cert.KernelIdeal.main_arg4 ∧ P Cert.KernelIdeal.main_arg5 ∧ P Cert.KernelIdeal.main_arg6 ∧ P Cert.KernelIdeal.main_arg7
      ∧ P Cert.KernelIdeal.main_arg8 ∧ P Cert.KernelIdeal.main_arg9 ∧ P Cert.KernelIdeal.main_arg10 ∧ P Cert.KernelIdeal.main_arg11
      ∧ P Cert.KernelIdeal.main_arg12 ∧ P Cert.KernelIdeal.main_arg13 ∧ P Cert.KernelIdeal.main_arg14 ∧ P Cert.KernelIdeal.main_arg15
      ∧ P Cert.KernelIdeal.main_arg16 ∧ P Cert.KernelIdeal.main_arg17 ∧ P Cert.KernelIdeal.main_arg18 ∧ P Cert.KernelIdeal.main_arg19
      ∧ P Cert.KernelIdeal.main_arg20 := by
  refine ⟨?_, ?_, ?_, ?_, ?_, ?_, ?_, ?_, ?_, ?_, ?_, ?_, ?_, ?_, ?_, ?_, ?_, ?_, ?_, ?_, ?_⟩ <;> exact h _ (by simp)

local instance : Cert.KernelIdeal.Facts := Cert.KernelIdeal.Gen.facts
local instance : Cert.ReferenceIdeal.Facts := Cert.ReferenceIdeal.Gen.facts
local instance : Cert.Pre_finite.Facts := Cert.Pre_finite.Gen.facts

/-- The idealised kernel runs, leaves its arguments alone and ends with every counter at zero. -/
theorem frame_i : Cert.quiescent_KernelIdeal := fun m ρ _ =>
  (θ_run Cert.KernelIdeal.defs _ _).mono (fun _ h => ⟨fun c => args_list (h.1.1 c), h.2⟩) (Cert.KernelIdeal.Own.run_args (F := Ideal) m ρ)

/-- The same at the stated precondition. -/
theorem frame_ip : Cert.quiescent_KernelIdeal_pre_finite := fun m ρ _ => frame_i m ρ trivial

/-- The reference runs, leaves its arguments alone and ends with every counter at zero: it has no counter. -/
theorem frame_r : Cert.quiescent_ReferenceIdeal := fun m ρ _ =>
  (θ_run Cert.ReferenceIdeal.defs _ _).mono (fun _ h => ⟨fun c => (h c).2, sem_eq_zero_of_no_sems rfl _⟩) (Cert.ReferenceIdeal.Value.run (F := Ideal) m ρ)

/-- The same at the stated precondition. -/
theorem frame_rp : Cert.quiescent_ReferenceIdeal_pre_finite := fun m ρ _ => frame_r m ρ trivial

end Cert.Frames
-- ==== Proof.SameMain.lean ====
module

public import proofs.«01_k».proof.Proof.Gen.Kernel
public import proofs.«01_k».proof.Proof.Gen.KernelIdeal
public import proofs.«01_k».proof.Defs

@[expose] public section

set_option maxRecDepth 16384

noncomputable section

namespace Cert.SameMain

open Idealize.ShloMosaic Idealize.ShloMosaic.TcCoe Idealize.SL.Sem

local instance : Cert.Kernel.Facts := Cert.Kernel.Gen.facts
local instance : Cert.KernelIdeal.Facts := Cert.KernelIdeal.Gen.facts

set_option maxHeartbeats 0 in
/-- The printed kernel's host function is the idealised kernel's, on float words. -/
theorem main_same : Cert.Kernel.main (F := Bits) = Cert.KernelIdeal.main (F := Bits) := by
  delta Cert.Kernel.main Cert.KernelIdeal.main Cert.Kernel.main_part0 Cert.KernelIdeal.main_part0 Cert.Kernel.main_part1 Cert.KernelIdeal.main_part1
    Cert.Kernel.main_part2 Cert.KernelIdeal.main_part2 Cert.Kernel.main_part3 Cert.KernelIdeal.main_part3 Cert.Kernel.main_part4
    Cert.KernelIdeal.main_part4 Cert.Kernel.main_part5 Cert.KernelIdeal.main_part5
  exact (rfl)

end Cert.SameMain
-- ==== Proof.SameDefs.lean ====
module

public import proofs.«01_k».proof.Proof.Gen.Kernel
public import proofs.«01_k».proof.Proof.Gen.KernelIdeal
public import proofs.«01_k».proof.Defs

@[expose] public section

set_option maxRecDepth 16384

noncomputable section

namespace Cert.Proof

open Idealize.ShloMosaic Idealize.ShloMosaic.TcCoe Idealize.SL.Sem

local instance : Cert.Kernel.Facts := Cert.Kernel.Gen.facts
local instance : Cert.KernelIdeal.Facts := Cert.KernelIdeal.Gen.facts

set_option maxHeartbeats 0 in
set_option smartUnfolding false in
/-- The printed kernel's bodies are the idealised kernel's, on float words. -/
theorem defs_same : Cert.Kernel.defs (F := Bits) = Cert.KernelIdeal.defs (F := Bits) := by
  delta Cert.Kernel.defs Cert.KernelIdeal.defs
  exact (rfl)

end Cert.Proof
-- ==== Proof.FrameK.lean ====
module

public import proofs.«01_k».proof.Proof.Frames
public import proofs.«01_k».proof.Proof.SameMain
public import proofs.«01_k».proof.Proof.SameDefs

@[expose] public section

set_option maxRecDepth 16384

noncomputable section

namespace Cert.FrameK

open Idealize.ShloMosaic Idealize.ShloMosaic.TcCoe Idealize.SL.Sem

local instance : Cert.Kernel.Facts := Cert.Kernel.Gen.facts
local instance : Cert.KernelIdeal.Facts := Cert.KernelIdeal.Gen.facts

set_option maxHeartbeats 0 in
/-- The printed kernel has the idealised kernel's text, so the idealised kernel's run is its own. -/
theorem frame_k : Cert.quiescent_Kernel := fun m ρ _ => by
  rw [Proof.defs_same, SameMain.main_same]
  exact (θ_run Cert.KernelIdeal.defs _ _).mono (fun _ h => ⟨fun c => Frames.args_list (h.1.1 c), h.2⟩) (Cert.KernelIdeal.Own.run_args (F := Bits) m ρ)

end Cert.FrameK
-- ==== Proof.Dense.lean ====
module

public import proofs.«01_k».proof.Proof.Gen.KernelIdeal
public import proofs.«01_k».proof.Proof.Gen.ReferenceIdeal
public import proofs.«01_k».proof.Proof.Stages
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)

/-! # A block of rows under the dense stages' arithmetic, over the extended reals -/

/-- A layer's linear map of the nodes' rows. -/
def dense (x : FVec Ideal S10000x128 .f32) (w : FVec Ideal S128x128 .f32) : FVec Ideal S10000x128 .f32 :=
  Host.dotGeneral Cert.ReferenceIdeal.dot_S10000x128_S128x128_S10000x128_1_0_0_1_n_n none x w

/-- The nodes' scores against one attention vector, as a column. -/
def scores (h : FVec Ideal S10000x128 .f32) (a : FVec Ideal S128x1 .f32) : FVec Ideal S10000x1 .f32 :=
  Host.dotGeneral (DotDims.plain 10000 128 1) none h a

/-- What a later layer reads: the two halves of the sums with the offsets added, and nothing below zero. -/
def layerIn (p q : FVec Ideal S10000x128 .f32) (b : FVec Ideal S1x128 .f32) : FVec Ideal S10000x128 .f32 :=
  fun i => max (p i + q i + b (ix2 0 (i 1))) 0

/-- Node `r` of block `n`. -/
def node (n : ℕ) (h : n < 10) (r : Fin 1000) : Fin 10000 := ⟨n * 1000 + r.val, by have := r.isLt; omega⟩

/-- Every node is in a block. -/
theorem node_onto (i : Fin 10000) : ∃ n, ∃ h : n < 10, ∃ r, node n h r = i :=
  ⟨i.val / 1000, by have := i.isLt; omega, ⟨i.val % 1000, by omega⟩, Fin.ext (by simp only [node]; omega)⟩

/-- An index of a block of rows is its two coordinates. -/
theorem pair128 (y : S1000x128.Idx) : y = ix2 (y 0 : Fin 1000) (y 1 : Fin 128) := Idealize.ShloMosaic.eq_ix2 y

/-- An index of a block of the scores is its two coordinates. -/
theorem pair1 (y : S1000x1.Idx) : y = ix2 (y 0 : Fin 1000) (y 1 : Fin 1) := Idealize.ShloMosaic.eq_ix2 y

section Block

variable (n : ℕ) (hn : n < 10) (P Q : FVec Ideal S10000x128 .f32) (x y : FVec Ideal S1000x128 .f32)
  (b : FVec Ideal S1x128 .f32) (w : FVec Ideal S128x128 .f32) (a : FVec Ideal S128x1 .f32)
  (hx : ∀ r k, x (ix2 r k) = P (ix2 (node n hn r) k))
  (hy : ∀ r k, y (ix2 r k) = Q (ix2 (node n hn r) k))

include hx in
/-- The first stage's rows. -/
theorem first_rows (r : Fin 1000) (k : Fin 128) : k0_pay1 x w (ix2 r k) = dense P w (ix2 (node n hn r) k) := by
  pointwise [k0_pay1, dense]
  exact Finset.sum_congr rfl fun j _ => congrArg (· * w (ix2 j k)) (hx r j)

include hx in
/-- The first stage's scores. -/
theorem first_scores (r : Fin 1000) (k : Fin 1) : k0_pay2 x w a (ix2 r k) = scores (dense P w) a (ix2 (node n hn r) k) := by
  pointwise [k0_pay2, scores]
  exact Finset.sum_congr rfl fun j _ => congrArg (· * a (ix2 j k)) (first_rows n hn P x w hx r j)

include hx hy in
/-- A later stage's rows. -/
theorem rest_rows (r : Fin 1000) (k : Fin 128) :
    k1_pay2 x y b w (ix2 r k) = dense (layerIn P Q b) w (ix2 (node n hn r) k) := by
  pointwise [k1_pay2, dense, layerIn]
  exact Finset.sum_congr rfl fun j _ => congrArg₂ (fun u v : EReal => max (u + v + b (ix2 0 j)) 0 * w (ix2 j k)) (hx r j) (hy r j)

include hx hy in
/-- A later stage's scores. -/
theorem rest_scores (r : Fin 1000) (k : Fin 1) :
    k1_pay3 x y b w a (ix2 r k) = scores (dense (layerIn P Q b) w) a (ix2 (node n hn r) k) := by
  pointwise [k1_pay3, scores]
  exact Finset.sum_congr rfl fun j _ => congrArg (· * a (ix2 j k)) (rest_rows n hn P Q x y b w hx hy r j)

end Block

/-! ## The running maximum -/

/-- The maximum so far, taken one block of scores further. -/
def further (p : FVec Ideal S1x1 .f32) (s : FVec Ideal S1000x1 .f32) : FVec Ideal S1x1 .f32 :=
  k1_pay1 (k1_pay6 p) (shapeCast S1x1000x1 s shapeCasts_S1000x1_S1x1000x1)

/-- It lies under a bound exactly if the maximum so far and every score of the block do. -/
theorem further_le (p : FVec Ideal S1x1 .f32) (s : FVec Ideal S1000x1 .f32) (j : S1x1.Idx) (z : EReal) :
    further p s j ≤ z ↔ p j ≤ z ∧ ∀ r, s (ix2 r 0) ≤ z := by
  pointwise [further, k1_pay1, k1_pay6]
  rw [show Ideal.ofBits FTy.f32 4286578688#32 = ⊥ from by simp [Ideal.ofBits, Ideal.ieee], max_le_iff, Finset.fold_max_le]
  exact and_congr_right' ⟨fun h r => h.2 (r, 0) (Finset.mem_univ _), fun h => ⟨bot_le, fun r _ => h r.1⟩⟩

/-- A running maximum that starts from minus infinity and takes ten blocks in lies under a bound exactly if every score does. -/
theorem running_le (S : FVec Ideal S10000x1 .f32) (s : (n : ℕ) → n < 10 → FVec Ideal S1000x1 .f32)
    (hs : ∀ n h r, s n h (ix2 r 0) = S (ix2 (node n h r) 0))
    (R : (n : ℕ) → n < 10 → FVec Ideal S1x1 .f32) (h0 : R 0 (by omega) = further k1_pay5 (s 0 (by omega)))
    (hR : ∀ n (h : n + 1 < 10), R (n + 1) h = further (R n (by omega)) (s (n + 1) h)) (j : S1x1.Idx) (z : EReal) :
    R 9 (by omega) j ≤ z ↔ ∀ i, S i ≤ z := by
  have key : ∀ n (h : n < 10), R n h j ≤ z ↔ ∀ m (hm : m < 10), m ≤ n → ∀ r, S (ix2 (node m hm r) 0) ≤ z := by
    intro n
    induction n with
    | zero =>
      intro h
      rw [h0, further_le]
      refine ⟨fun e m hm hle r => ?_, fun e => ⟨?_, fun r => ?_⟩⟩
      · obtain rfl : m = 0 := by omega
        exact hs 0 hm r ▸ e.2 r
      · pointwise [k1_pay5]
        rw [show Ideal.ofBits FTy.f32 4286578688#32 = ⊥ from by simp [Ideal.ofBits, Ideal.ieee]]
        exact bot_le
      · rw [hs]; exact e 0 h le_rfl r
    | succ n ih =>
      intro h
      rw [hR, further_le, ih]
      refine ⟨fun e m hm hle r => ?_, fun e => ⟨fun m hm hle r => e m hm (by omega) r, fun r => ?_⟩⟩
      · rcases Nat.lt_or_ge n m with hlt | hge
        · obtain rfl : m = n + 1 := by omega
          exact hs _ hm r ▸ e.2 r
        · exact e.1 m hm hge r
      · rw [hs]; exact e _ h le_rfl r
  rw [key]
  refine ⟨fun e i => ?_, fun e m hm _ r => e _⟩
  obtain ⟨m, hm, r, hr⟩ := node_onto (i 0)
  have hi : i = ix2 (node m hm r) 0 := by
    refine (Idealize.ShloMosaic.eq_ix2 i).trans ?_
    rw [hr]
    exact congrArg (ix2 (i 0)) (Fin.ext (by have h : (i 1).val < 1 := (i 1).isLt; show (i 1).val = 0; omega))
  rw [hi]
  exact e m hm (by omega) r

end Cert.KernelIdeal.Own
-- ==== Proof.Landing.lean ====
module

public import Idealize.ShloMosaic.PureOps
public import Idealize.ShloMosaic.Lib.Routing.OpsPair
public import Idealize.ShloMosaic.Lib.Routing.Ops
public import Idealize.ShloMosaic.Lib.StableHlo.Predicate
public import Idealize.ShloMosaic.Lib.ValueIdx

@[expose] public section

noncomputable section

namespace Cert.Maths

open Idealize.ShloMosaic Idealize.ShloMosaic.ValueIdx Idealize.ShloMosaic.Routing

/-! # Where an indexed update lands, and which entry an indexed read takes -/

/-- A scatter whose start indices form one column keeps, as the row of that column, the update's first coordinate. -/
theorem column_row {s u : Shape} {E : Nat} (d : ScatterDims s (shape2 E 1) u) (hivd : d.indexVectorDim = 1)
    (j : u.Idx) (e : Fin E) (c : Fin d.scatterDimsToOperandDims.length) (hc : c.val = 0)
    (hj : ∀ h : d.siKept.idxOf 0 < d.uScatter.length, (j (d.uScatter[d.siKept.idxOf 0]'h)).val = e.val) :
    d.siIdx j c = ix2 e (0 : Fin 1) := by
  funext b
  apply Fin.ext
  match b with
  | ⟨0, _⟩ =>
    unfold ScatterDims.siIdx
    rw [dif_neg (by rw [hivd]; exact Nat.zero_ne_one)]
    unfold ScatterDims.siCoord
    simp only [Fin.val_cast]
    exact hj _
  | ⟨1, _⟩ =>
    unfold ScatterDims.siIdx
    rw [dif_pos (by rw [hivd])]
    exact hc

/-- One scalar per index into a vector: update `k` lands at `n` exactly when its index, read signed, is `n`. -/
theorem lands_scalar {N E w : Nat} (d : ScatterDims (shape1 N) (shape2 E 1) (shape1 E)) (hiw : d.insertedWindowDims = [0])
    (hsd : d.scatterDimsToOperandDims = [0]) (hivd : d.indexVectorDim = 1) (idx : IVec (shape2 E 1) w) (k : Fin E) (n : Fin N) :
    d.resultIdx? (ix1 k) idx = some (ix1 n) ↔ (idx (ix2 k (0 : Fin 1))).toInt = (n.val : Int) := by
  have hm : (0 : Fin 1) ∈ d.scatterDimsToOperandDims := by rw [hsd]; exact List.mem_singleton.2 rfl
  have hw : d.window (ix1 k) 0 = 0 := by
    unfold ScatterDims.window
    refine dif_neg fun h => ?_
    have := of_decide_eq_true (List.mem_filter.1 h).2
    rw [hiw] at this
    exact this (List.mem_singleton.2 rfl)
  have hs : d.start (ix1 k) idx 0 = (idx (ix2 k (0 : Fin 1))).toInt := by
    unfold ScatterDims.start
    rw [dif_pos hm, column_row d hivd (ix1 k) k _ (by show List.idxOf _ d.scatterDimsToOperandDims = 0; rw [hsd]; simp) fun h => ?_]
    generalize d.uScatter[d.siKept.idxOf 0]'h = X
    obtain rfl : X = 0 := Subsingleton.elim _ _
    rfl
  rw [resultIdx?_ix1, hs, hw]
  simp

/-- One row per index into a matrix: entry `(k, c)` of the updates lands at `(n, c')` exactly when row `k`'s index, read
    signed, is `n`, and the columns agree. -/
theorem lands_row {N C E w : Nat} (d : ScatterDims (shape2 N C) (shape2 E 1) (shape2 E C)) (huw : d.updateWindowDims = [1])
    (hiw : d.insertedWindowDims = [0]) (hsd : d.scatterDimsToOperandDims = [0]) (hivd : d.indexVectorDim = 1)
    (idx : IVec (shape2 E 1) w) (k : Fin E) (c : Fin C) (n : Fin N) (c' : Fin C) :
    d.resultIdx? (ix2 k c) idx = some (ix2 n c') ↔ (idx (ix2 k (0 : Fin 1))).toInt = (n.val : Int) ∧ c = c' := by
  have hm : (0 : Fin 2) ∈ d.scatterDimsToOperandDims := by rw [hsd]; exact List.mem_singleton.2 rfl
  have hm1 : (1 : Fin 2) ∉ d.scatterDimsToOperandDims := by rw [hsd]; simp
  have hkept : d.sKept = [1] := by
    show (shape2 N C).kept d.insertedWindowDims = _
    rw [hiw]; rfl
  have hw0 : d.window (ix2 k c) 0 = 0 := by
    unfold ScatterDims.window
    refine dif_neg fun h => ?_
    rw [hkept] at h
    simp at h
  have hw1 : d.window (ix2 k c) 1 = c.val := by
    unfold ScatterDims.window
    rw [dif_pos (by rw [hkept]; simp)]
    have e : ∀ (l : List (Fin 2)) (i : ℕ) (h : i < l.length), l = [1] → i = 0 → ((ix2 k c) (l[i]'h)).val = c.val := by
      intro l i h hl hi
      subst hl; subst hi
      rfl
    exact e _ _ _ huw (by rw [hkept]; rfl)
  have hs1 : d.start (ix2 k c) idx 1 = 0 := by
    unfold ScatterDims.start
    rw [dif_neg hm1]
  have hs0 : d.start (ix2 k c) idx 0 = (idx (ix2 k (0 : Fin 1))).toInt := by
    unfold ScatterDims.start
    rw [dif_pos hm, column_row d hivd (ix2 k c) k _ (by show List.idxOf _ d.scatterDimsToOperandDims = 0; rw [hsd]; simp) fun h => ?_]
    have e : ∀ (l : List (Fin 2)) (i : ℕ) (h : i < l.length), l = [0] → i = 0 → ((ix2 k c) (l[i]'h)).val = k.val := by
      intro l i h hl hi
      subst hl; subst hi
      rfl
    refine e _ _ _ (by show (shape2 E C).kept d.updateWindowDims = _; rw [huw]; rfl) ?_
    have : d.siKept = [0] := by
      show (List.finRange 2).filter (fun x => decide (x.val ≠ d.indexVectorDim)) = _
      rw [hivd]; rfl
    rw [this]; rfl
  rw [resultIdx?_ix2, hs0, hw0, hs1, hw1]
  constructor
  · rintro ⟨h, h'⟩
    exact ⟨by simpa using h, Fin.ext (by simpa using h')⟩
  · rintro ⟨h, rfl⟩
    exact ⟨by simpa using h, by simp⟩

/-- A read by one index per entry takes, at `k`, the vector's entry at `k`'s index read signed and clamped. -/
theorem taken_scalar {N E w : Nat} (d : GatherDims (shape1 N) (shape2 E 1) (shape1 E)) (hcoll : d.collapsedSliceDims = [0])
    (hob : d.operandBatchingDims = []) (hsim : d.startIndexMap = [0]) (hivd : d.indexVectorDim = 1)
    (idx : IVec (shape2 E 1) w) (k : Fin E) (hN : 0 < N) :
    d.operandIdx (ix1 k) idx = ix1 ⟨min (idx (ix2 k (0 : Fin 1))).toInt.toNat (N - 1), by omega⟩ := by
  have h := StableHlo.Predicate.gather_take d hcoll hob hsim hivd (fun i => i) idx k hN
  rw [ofFin_eq_ix1, ofFin_eq_ix1] at h
  simp only [ixP_eq_ix2] at h
  exact h

end Cert.Maths
-- ==== Proof.Weights.lean ====
module

public import Idealize.ShloMosaic.PureOps
public import Idealize.ShloMosaic.PureOps.Ideal
public import Idealize.ShloMosaic.Lib.ValueIdx
public import Idealize.ShloMosaic.Lib.IdealHost

@[expose] public section

noncomputable section

namespace Cert.Maths

open Idealize.ShloMosaic Idealize.ShloMosaic.ValueIdx

/-! # The weights of a softmax do not depend on what is subtracted in the exponent -/

/-- A finite sum of real numbers, read as extended reals one by one, is the sum read as one extended real. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A quotient of real numbers with a divisor that is not zero, read as extended reals. -/
theorem div_real {y : ℝ} (h : y ≠ 0) (x : ℝ) : Ideal.div (x : EReal) (y : EReal) = ((x / y : ℝ) : EReal) := by
  rw [Ideal.div_coe h, ← EReal.coe_mul]
  congr 1
  ring

/-- The weight of an edge among those that enter its node: the same whether the exponents are lowered by `B` and the guard
    is `ε`, or they are lowered by `M` and the guard is `ε` measured on the same scale. -/
theorem weight_shift {E N : Type} [Fintype E] [DecidableEq N] (hit : E → Option N) (d : E → N)
    (hd : ∀ k n, hit k = some n → d k = n) (e : E → ℝ) (B M : N → ℝ) (ε : ℝ) (hε : 0 < ε) (k : E) :
    Ideal.div ((Real.exp (e k - B (d k)) : ℝ) : EReal)
        ((0 + ∑ j ∈ Finset.univ.filter (fun j => hit j = some (d k)), ((Real.exp (e j - B (d j)) : ℝ) : EReal)) + (ε : EReal))
      = Ideal.div ((Real.exp (e k - M (d k)) : ℝ) : EReal)
        ((0 + ∑ j ∈ Finset.univ.filter (fun j => hit j = some (d k)), ((Real.exp (e j - M (d j)) : ℝ) : EReal))
          + (ε : EReal) * ((Real.exp (B (d k) - M (d k)) : ℝ) : EReal)) := by
  set n := d k with hn
  set S := Finset.univ.filter (fun j => hit j = some n) with hS
  have hB : ∑ j ∈ S, Real.exp (e j - B (d j)) = ∑ j ∈ S, Real.exp (e j - B n) :=
    Finset.sum_congr rfl fun j hj => by rw [hd j n (Finset.mem_filter.1 hj).2]
  have hM : ∑ j ∈ S, Real.exp (e j - M (d j)) = Real.exp (B n - M n) * ∑ j ∈ S, Real.exp (e j - B n) := by
    rw [Finset.mul_sum]
    refine Finset.sum_congr rfl fun j hj => ?_
    rw [hd j n (Finset.mem_filter.1 hj).2, ← Real.exp_add]
    congr 1
    ring
  have hs : 0 ≤ ∑ j ∈ S, Real.exp (e j - B n) := Finset.sum_nonneg fun _ _ => (Real.exp_pos _).le
  have hc := Real.exp_pos (B n - M n)
  rw [zero_add, zero_add, sum_coe, sum_coe, hB, hM, ← EReal.coe_mul, ← EReal.coe_add, ← EReal.coe_add,
    div_real (by positivity), div_real (by positivity)]
  congr 1
  have he : Real.exp (e k - M n) = Real.exp (B n - M n) * Real.exp (e k - B n) := by
    rw [← Real.exp_add]
    congr 1
    ring
  rw [he, div_eq_div_iff (by positivity) (by positivity)]
  ring

/-! ## Tensors of real numbers -/

/-- Every entry is a real number. -/
def Finite {s : Shape} (x : s.Idx → EReal) : Prop := ∀ i, ∃ r : ℝ, x i = (r : EReal)

/-- The real numbers of a tensor of real numbers. -/
theorem Finite.real {s : Shape} {x : s.Idx → EReal} (h : Finite x) : ∃ f : s.Idx → ℝ, ∀ i, x i = (f i : EReal) :=
  ⟨fun i => (h i).choose, fun i => (h i).choose_spec⟩

/-- A tensor read through any map of indices is one of real numbers if the tensor is. -/
theorem Finite.comp {s t : Shape} {x : s.Idx → EReal} (h : Finite x) (g : t.Idx → s.Idx) : Finite (fun i => x (g i)) := fun i => h (g i)

/-- A sum of real numbers is a real number. -/
theorem real_sum {ι : Type} (s : Finset ι) (f : ι → EReal) (h : ∀ i ∈ s, ∃ r : ℝ, f i = (r : EReal)) :
    ∃ r : ℝ, (∑ i ∈ s, f i) = (r : EReal) := by
  classical
  induction s using Finset.induction_on with
  | empty => exact ⟨0, by simp⟩
  | insert a s ha ih =>
    obtain ⟨r, hr⟩ := ih fun i hi => h i (Finset.mem_insert_of_mem hi)
    obtain ⟨q, hq⟩ := h a (Finset.mem_insert_self _ _)
    exact ⟨q + r, by rw [Finset.sum_insert ha, hr, hq, EReal.coe_add]⟩

/-- A sum of two real numbers is a real number. -/
theorem real_add {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, (EReal.coe_add a b).symm⟩

/-- A product of two real numbers is a real number. -/
theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

/-- The larger of two real numbers is a real number. -/
theorem real_max {x y : EReal} (hx : ∃ r : ℝ, x = (r : EReal)) (hy : ∃ r : ℝ, y = (r : EReal)) : ∃ r : ℝ, max x y = (r : EReal) := by
  rcases max_choice x y with h | h <;> rw [h] <;> assumption

/-- A number below plus infinity in absolute value is a real number. -/
theorem real_of_abs_lt {x : EReal} (h : max x (-x) < ⊤) : ∃ r : ℝ, x = (r : EReal) := by
  induction x with
  | bot => simp at h
  | top => simp at h
  | coe r => exact ⟨r, rfl⟩

end Cert.Maths
-- ==== Proof.Softmax.lean ====
module

public import proofs.«01_k».proof.Proof.Gen.KernelIdeal
public import proofs.«01_k».proof.Proof.Landing
public import proofs.«01_k».proof.Proof.Weights

@[expose] public section

set_option maxRecDepth 16384

noncomputable section

namespace Cert.KernelIdeal.Own

open Cert.KernelIdeal.Gen Cert.Maths
open Idealize.ShloMosaic Idealize.ShloMosaic.ValueIdx Idealize.ShloMosaic.Routing

local instance : Cert.KernelIdeal.Facts := Cert.KernelIdeal.Gen.facts

/-! # One layer's attention: the kernel's weights are the reference's -/

/-! ## The host's terms -/

/-- A tensor of one number, over the edges. -/
def overEdges (b : BitVec 32) : FVec Ideal S320000 .f32 := broadcastInDim S320000 ![] bcast_S_S320000 (constant S_ .f32 b)

/-- A tensor of one number, over the nodes. -/
def overNodes (b : BitVec 32) : FVec Ideal S10000 .f32 := broadcastInDim S10000 ![] bcast_S_S10000 (constant S_ .f32 b)

/-- The edges' ends as a column. -/
def column (v : IVec S320000 32) : IVec S320000x1 32 := broadcastInDim S320000x1 ![0] bcast_S320000_S320000x1_0 v

/-- The edges' ends as the reads use them: a negative one counts from the last node. -/
def wrapped (v : IVec S320000 32) : IVec S320000x1 32 :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v)

/-- The nodes' numbers at the edges' ends. -/
def at_ (x : FVec Ideal S10000 .f32) (v : IVec S320000 32) : FVec Ideal S320000 .f32 :=
  Host.gather gather_S10000_S320000x1_S320000_n_0_n_n_0_1_1 x (wrapped v)

/-- The sum, at each node, of the numbers of the edges that enter it. -/
def into (v : IVec S320000 32) (u : FVec Ideal S320000 .f32) : FVec Ideal S10000 .f32 :=
  Host.scatterAdd scatter_S10000_S320000x1_S320000_n_0_0_1 (overNodes 0x00000000#32) (column v) u

/-- The leaky rectifier over the edges, as the kernel writes it. -/
def leakGt (v : FVec Ideal S320000 .f32) : FVec Ideal S320000 .f32 :=
  select (cmpf .ogt v (overEdges 0x00000000#32)) v (mulf (overEdges 0x3E4CCCCD#32) v)

/-- The leaky rectifier over the edges, as the reference writes it. -/
def leakGe (v : FVec Ideal S320000 .f32) : FVec Ideal S320000 .f32 :=
  select (cmpf .oge v (overEdges 0x00000000#32)) v (mulf (overEdges 0x3E4CCCCD#32) v)

/-- The leaky rectifier over the nodes, as the reference writes it. -/
def leakNodes (v : FVec Ideal S10000 .f32) : FVec Ideal S10000 .f32 :=
  select (cmpf .oge v (overNodes 0x00000000#32)) v (mulf (overNodes 0x3E4CCCCD#32) v)

/-- The kernel's bound at each edge. -/
def bound (ald : FVec Ideal S10000 .f32) (top : FVec Ideal S_ .f32) (dst : IVec S320000 32) : FVec Ideal S320000 .f32 :=
  leakGt (addf (broadcastInDim S320000 ![] bcast_S_S320000 top) (at_ ald dst))

/-- The kernel's unnormalised weights. -/
def rawK (als ald : FVec Ideal S10000 .f32) (top : FVec Ideal S_ .f32) (src dst : IVec S320000 32) : FVec Ideal S320000 .f32 :=
  Host.exp (subf (leakGt (addf (at_ als src) (at_ ald dst))) (bound ald top dst))

/-- The kernel's weights. -/
def weightK (als ald : FVec Ideal S10000 .f32) (top : FVec Ideal S_ .f32) (src dst : IVec S320000 32) : FVec Ideal S320000 .f32 :=
  Host.divf (rawK als ald top src dst) (addf (at_ (into dst (rawK als ald top src dst)) dst) (overEdges 0x24E69595#32))

/-- What the reference subtracts: the node's largest logit `mx` where it is finite, zero elsewhere. -/
def finiteOr0 (mx : FVec Ideal S10000 .f32) : FVec Ideal S10000 .f32 :=
  select (cmpf .olt (Host.absf mx) (overNodes 0x7F800000#32)) mx (overNodes 0x00000000#32)

/-- The reference's unnormalised weights. -/
def rawR (als ald mx : FVec Ideal S10000 .f32) (src dst : IVec S320000 32) : FVec Ideal S320000 .f32 :=
  Host.exp (subf (leakGe (addf (at_ als src) (at_ ald dst))) (at_ (finiteOr0 mx) dst))

/-- The reference's guard at each node. -/
def guardR (ald mx : FVec Ideal S10000 .f32) (top : FVec Ideal S_ .f32) : FVec Ideal S10000 .f32 :=
  mulf (overNodes 0x24E69595#32)
    (Host.exp (subf (leakNodes (addf (broadcastInDim S10000 ![] bcast_S_S10000 top) ald)) (finiteOr0 mx)))

/-- The reference's weights. -/
def weightR (als ald mx : FVec Ideal S10000 .f32) (top : FVec Ideal S_ .f32) (src dst : IVec S320000 32) : FVec Ideal S320000 .f32 :=
  Host.divf (rawR als ald mx src dst) (addf (at_ (into dst (rawR als ald mx src dst)) dst) (at_ (guardR ald mx top) dst))

/-! ## Their entries -/

/-- An entry of a tensor of one number over the edges. -/
theorem overEdges_apply (b : BitVec 32) (k : S320000.Idx) : overEdges b k = Ideal.ofBits .f32 b :=
  (broadcastInDim_scalar_apply _ _ k).trans rfl
/-- An entry of a tensor of one number over the nodes. -/
theorem overNodes_apply (b : BitVec 32) (n : S10000.Idx) : overNodes b n = Ideal.ofBits .f32 b :=
  (broadcastInDim_scalar_apply _ _ n).trans rfl

/-- The node an edge's end names in a read. -/
def nodeOf (v : IVec S320000 32) (k : S320000.Idx) : S10000.Idx :=
  gather_S10000_S320000x1_S320000_n_0_n_n_0_1_1.operandIdx k (wrapped v)

/-- A read takes the entry of the node that the edge's end names. -/
theorem at_apply (x : FVec Ideal S10000 .f32) (v : IVec S320000 32) (k : S320000.Idx) : at_ x v k = x (nodeOf v k) := rfl

/-- The node an edge's number is added to, if any. -/
def hit (v : IVec S320000 32) (k : S320000.Idx) : Option S10000.Idx :=
  scatter_S10000_S320000x1_S320000_n_0_0_1.resultIdx? k (column v)

/-- An entry of a sum over the edges. -/
theorem into_apply (v : IVec S320000 32) (u : FVec Ideal S320000 .f32) (n : S10000.Idx) :
    into v u n = 0 + ∑ k ∈ Finset.univ.filter (fun k => hit v k = some n), u k := by
  show overNodes 0x00000000#32 n + _ = _
  rw [overNodes_apply, Ideal.ofBits_zero_f32]
  rfl

/-- An edge whose number is added to a node reads that node. -/
theorem hit_nodeOf (v : IVec S320000 32) (k : S320000.Idx) (n : S10000.Idx) (h : hit v k = some n) : nodeOf v k = n := by
  obtain ⟨e, rfl⟩ : ∃ e, k = ix1 e := ⟨_, eq_ix1 k⟩
  obtain ⟨i, rfl⟩ : ∃ i, n = ix1 i := ⟨_, eq_ix1 n⟩
  have h1 := (lands_scalar scatter_S10000_S320000x1_S320000_n_0_0_1 rfl rfl rfl (column v) e i).1 h
  have h2 : column v (ix2 e (0 : Fin 1)) = v (ix1 e) := bcCol _ v e
  rw [h2] at h1
  have hlt : (v (ix1 e)).toNat < 2 ^ 31 := by
    have := BitVec.toInt_eq_toNat_cond (v (ix1 e))
    have := (v (ix1 e)).isLt
    split at * <;> omega
  have h3 : wrapped v (ix2 e (0 : Fin 1)) = v (ix1 e) := by
    refine (bcCol _ _ e).trans ?_
    show Scalar.select (IntOp.cmpi .slt (v (ix1 e)) (broadcastInDim S320000 ![] bcast_S_S320000 (constantI S_ 32 0#32) (ix1 e))) _ (v (ix1 e)) = _
    rw [broadcastInDim_scalar_apply]
    exact wrap_of_lt (v (ix1 e)) _ hlt
  unfold nodeOf
  rw [taken_scalar gather_S10000_S320000x1_S320000_n_0_n_n_0_1_1 rfl rfl rfl rfl (wrapped v) e (by norm_num)]
  congr 1
  apply Fin.ext
  have := i.isLt
  show min (wrapped v (ix2 e (0 : Fin 1))).toInt.toNat (10000 - 1) = i.val
  rw [h3, h1]
  omega

/-- The slope of the leaky rectifier. -/
theorem slope_real : ∃ r : ℝ, Ideal.ofBits .f32 0x3E4CCCCD#32 = (r : EReal) := by
  refine ⟨13421773 * (2 : ℝ) ^ (-26 : ℤ), ?_⟩
  simp [Ideal.ofBits, Ideal.ieee, -EReal.coe_mul]

/-- The guard is a positive number. -/
theorem guard_real : ∃ r : ℝ, 0 < r ∧ Ideal.ofBits .f32 0x24E69595#32 = (r : EReal) := by
  refine ⟨15111573 * (2 : ℝ) ^ (-77 : ℤ), by positivity, ?_⟩
  simp [Ideal.ofBits, Ideal.ieee, -EReal.coe_mul]

/-- The word of plus infinity. -/
theorem inf_bits : Ideal.ofBits .f32 0x7F800000#32 = ⊤ := by
  simp [Ideal.ofBits, Ideal.ieee, -EReal.coe_mul]

/-- The rectifier of a real number with slope `c`. -/
def leak (c r : ℝ) : ℝ := if 0 < r then r else c * r

/-- The rectifier over the edges, written with >. -/
theorem leakGt_apply {c : ℝ} (hc : Ideal.ofBits .f32 0x3E4CCCCD#32 = (c : EReal)) (v : FVec Ideal S320000 .f32) (k : S320000.Idx)
    {r : ℝ} (hr : v k = (r : EReal)) : leakGt v k = (leak c r : EReal) := by
  show Scalar.select (Ideal.cmp .ogt (v k) (overEdges 0x00000000#32 k)) (v k) (overEdges 0x3E4CCCCD#32 k * v k) = _
  rw [overEdges_apply, overEdges_apply, Ideal.ofBits_zero_f32, hc, hr]
  unfold leak Ideal.cmp
  by_cases h : 0 < r
  · have : (0 : EReal) < (r : EReal) := by exact_mod_cast h
    simp [Scalar.select, h, this]
  · have : ¬(0 : EReal) < (r : EReal) := by exact_mod_cast h
    simp [Scalar.select, h, this]

/-- The two ways to write the rectifier over the edges agree. -/
theorem leakGe_eq (v : FVec Ideal S320000 .f32) : leakGe v = leakGt v := by
  funext k
  show Scalar.select (Ideal.cmp .oge (v k) (overEdges 0x00000000#32 k)) (v k) (overEdges 0x3E4CCCCD#32 k * v k)
    = Scalar.select (Ideal.cmp .ogt (v k) (overEdges 0x00000000#32 k)) (v k) (overEdges 0x3E4CCCCD#32 k * v k)
  rw [overEdges_apply, overEdges_apply, Ideal.ofBits_zero_f32]
  unfold Ideal.cmp
  rcases lt_trichotomy (0 : EReal) (v k) with h | h | h
  · simp [Scalar.select, h, h.le]
  · simp [Scalar.select, ← h]
  · simp [Scalar.select, not_lt.2 h.le, not_le.2 h]

/-- The rectifier over the nodes. -/
theorem leakNodes_apply {c : ℝ} (hc : Ideal.ofBits .f32 0x3E4CCCCD#32 = (c : EReal)) (v : FVec Ideal S10000 .f32) (n : S10000.Idx)
    {r : ℝ} (hr : v n = (r : EReal)) : leakNodes v n = (leak c r : EReal) := by
  show Scalar.select (Ideal.cmp .oge (v n) (overNodes 0x00000000#32 n)) (v n) (overNodes 0x3E4CCCCD#32 n * v n) = _
  rw [overNodes_apply, overNodes_apply, Ideal.ofBits_zero_f32, hc, hr]
  unfold leak Ideal.cmp
  rcases lt_trichotomy 0 r with h | h | h
  · have : (0 : EReal) ≤ (r : EReal) := by exact_mod_cast h.le
    simp [Scalar.select, h, this]
  · subst h
    simp [Scalar.select]
  · have : ¬(0 : EReal) ≤ (r : EReal) := by exact_mod_cast not_le.2 h
    simp [Scalar.select, not_lt.2 h.le, this]

/-- What the reference subtracts is a real number. -/
theorem finiteOr0_real (mx : FVec Ideal S10000 .f32) : Finite (finiteOr0 mx) := by
  intro n
  show ∃ r : ℝ, Scalar.select (Ideal.cmp .olt (max (mx n) (-(mx n))) (overNodes 0x7F800000#32 n)) (mx n) (overNodes 0x00000000#32 n) = _
  rw [overNodes_apply, overNodes_apply, Ideal.ofBits_zero_f32, inf_bits]
  unfold Ideal.cmp
  by_cases h : max (mx n) (-(mx n)) < ⊤
  · obtain ⟨r, hr⟩ := real_of_abs_lt h
    exact ⟨r, by simp only [h]; exact hr⟩
  · exact ⟨0, by simp only [h]; rfl⟩

/-- The kernel's weight of an edge. -/
theorem weightK_apply (als ald : FVec Ideal S10000 .f32) (top : FVec Ideal S_ .f32) (src dst : IVec S320000 32) (k : S320000.Idx) :
    weightK als ald top src dst k
      = Ideal.div (rawK als ald top src dst k) (into dst (rawK als ald top src dst) (nodeOf dst k) + overEdges 0x24E69595#32 k) := by
  unfold weightK
  rw [hostDivf_apply, addf_apply, at_apply]

/-- The reference's weight of an edge. -/
theorem weightR_apply (als ald mx : FVec Ideal S10000 .f32) (top : FVec Ideal S_ .f32) (src dst : IVec S320000 32) (k : S320000.Idx) :
    weightR als ald mx top src dst k
      = Ideal.div (rawR als ald mx src dst k) (into dst (rawR als ald mx src dst) (nodeOf dst k)
        + overNodes 0x24E69595#32 (nodeOf dst k)
          * Ideal.exp (leakNodes (addf (broadcastInDim S10000 ![] bcast_S_S10000 top) ald) (nodeOf dst k) - finiteOr0 mx (nodeOf dst k))) := by
  unfold weightR guardR
  rw [hostDivf_apply, addf_apply, at_apply, at_apply, mulf_apply]
  rfl

/-! ## The equation -/

/-- On real logits the kernel's weights are the reference's. -/
theorem weight_eq (als ald mx : FVec Ideal S10000 .f32) (top : FVec Ideal S_ .f32) (src dst : IVec S320000 32)
    (hs : Finite als) (hd : Finite ald) (ht : Finite top) :
    weightK als ald top src dst = weightR als ald mx top src dst := by
  obtain ⟨a, ha⟩ := hs.real
  obtain ⟨b, hb⟩ := hd.real
  obtain ⟨t, ht⟩ := ht.real
  obtain ⟨c, hc⟩ := slope_real
  obtain ⟨ε, hε, hg⟩ := guard_real
  obtain ⟨M, hM⟩ := (finiteOr0_real mx).real
  let D := nodeOf dst
  let e : S320000.Idx → ℝ := fun k => leak c (a (nodeOf src k) + b (D k))
  let B : S10000.Idx → ℝ := fun n => leak c (t ix0 + b n)
  have he : ∀ k, leakGt (addf (at_ als src) (at_ ald dst)) k = (e k : EReal) := fun k => leakGt_apply hc _ k (by
    show als (nodeOf src k) + ald (nodeOf dst k) = _
    rw [ha, hb, ← EReal.coe_add])
  have hB : ∀ k, bound ald top dst k = (B (D k) : EReal) := fun k => leakGt_apply hc _ k (by
    show broadcastInDim S320000 ![] bcast_S_S320000 top k + ald (nodeOf dst k) = _
    rw [broadcastInDim_scalar_apply, ht, hb, ← EReal.coe_add])
  have hBn : ∀ n, leakNodes (addf (broadcastInDim S10000 ![] bcast_S_S10000 top) ald) n = (B n : EReal) := fun n => leakNodes_apply hc _ n (by
    show broadcastInDim S10000 ![] bcast_S_S10000 top n + ald n = _
    rw [broadcastInDim_scalar_apply, ht, hb, ← EReal.coe_add])
  have hK : ∀ k, rawK als ald top src dst k = ((Real.exp (e k - B (D k)) : ℝ) : EReal) := fun k => by
    show Ideal.exp (leakGt (addf (at_ als src) (at_ ald dst)) k - bound ald top dst k) = _
    rw [he, hB, ← EReal.coe_sub, Ideal.exp_coe]
  have hR : ∀ k, rawR als ald mx src dst k = ((Real.exp (e k - M (D k)) : ℝ) : EReal) := fun k => by
    show Ideal.exp (leakGe (addf (at_ als src) (at_ ald dst)) k - finiteOr0 mx (nodeOf dst k)) = _
    rw [leakGe_eq, he, hM, ← EReal.coe_sub, Ideal.exp_coe]
  funext k
  rw [weightK_apply, weightR_apply]
  rw [hK, hR, into_apply, into_apply, overEdges_apply, overNodes_apply, hg, hBn, hM, ← EReal.coe_sub, Ideal.exp_coe]
  simp only [hK, hR]
  exact weight_shift (hit dst) D (hit_nodeOf dst) e B M ε hε k

end Cert.KernelIdeal.Own
-- ==== Proof.Layer.lean ====
module

public import proofs.«01_k».proof.Proof.Dense
public import proofs.«01_k».proof.Proof.Softmax

@[expose] public section

set_option maxRecDepth 16384

noncomputable section

namespace Cert.KernelIdeal.Own

open Cert.KernelIdeal Cert.KernelIdeal.Gen Cert.Maths
open Idealize.ShloMosaic

local instance : Cert.KernelIdeal.Facts := Cert.KernelIdeal.Gen.facts
local instance : Cert.ReferenceIdeal.Facts := Cert.ReferenceIdeal.Gen.facts

/-! # One layer: the kernel's and the reference's -/

/-- The nodes' scores against one attention vector. -/
def scored (h : FVec Ideal S10000x128 .f32) (a : FVec Ideal S128 .f32) : FVec Ideal S10000 .f32 :=
  Host.dotGeneral Cert.ReferenceIdeal.dot_S10000x128_S128_S10000_1_0_0_n_n_n none h a

/-- The largest of the nodes' numbers. -/
def topOf (x : FVec Ideal S10000 .f32) : FVec Ideal S_ .f32 :=
  Host.reduce FloatOps.maximumf x (constant S_ .f32 0xFF800000#32) Cert.ReferenceIdeal.Gen.reducesTo_S10000_S_d0 Cert.ReferenceIdeal.Gen.h_S_

/-- The sum, at each node, of the source rows of the edges that enter it, each times the edge's weight. -/
def gathered (h : FVec Ideal S10000x128 .f32) (u : FVec Ideal S320000 .f32) (src dst : IVec S320000 32) : FVec Ideal S10000x128 .f32 :=
  Host.scatterAdd scatter_S10000x128_S320000x1_S320000x128_1_0_0_1 (broadcastInDim S10000x128 ![] bcast_S_S10000x128 (constant S_ .f32 0x00000000#32))
    (column dst) (mulf (broadcastInDim S320000x128 ![0, 1] bcast_S320000x1_S320000x128_0_1 (broadcastInDim S320000x1 ![0] bcast_S320000_S320000x1_0 u))
      (Host.gather gather_S10000x128_S320000x1_S320000x128_1_0_n_n_0_1_1128 h (wrapped src)))

/-- The offsets added and nothing below zero, as the reference writes it. -/
def rectified (g : FVec Ideal S10000x128 .f32) (b : FVec Ideal S128 .f32) : FVec Ideal S10000x128 .f32 :=
  maximumf (addf g (broadcastInDim S10000x128 ![0, 1] Cert.ReferenceIdeal.Gen.bcast_S1x128_S10000x128_0_1 (broadcastInDim S1x128 ![1] Cert.ReferenceIdeal.Gen.bcast_S128_S1x128_1 b)))
    (broadcastInDim S10000x128 ![] bcast_S_S10000x128 (constant S_ .f32 0x00000000#32))

/-- The rows the kernel sums from a layer's linear map. -/
def summedK (h : FVec Ideal S10000x128 .f32) (a d : FVec Ideal S128 .f32) (src dst : IVec S320000 32) : FVec Ideal S10000x128 .f32 :=
  gathered h (weightK (scored h a) (scored h d) (topOf (scored h a)) src dst) src dst

/-- The rows the reference sums from a layer's linear map. -/
def summedR (mx : FVec Ideal S10000 .f32) (h : FVec Ideal S10000x128 .f32) (a d : FVec Ideal S128 .f32) (src dst : IVec S320000 32) :
    FVec Ideal S10000x128 .f32 :=
  gathered h (weightR (scored h a) (scored h d) mx (topOf (scored h a)) src dst) src dst

/-! ## Real numbers stay real numbers -/

/-- A product of real matrices is real. -/
theorem dense_finite {x : FVec Ideal S10000x128 .f32} {w : FVec Ideal S128x128 .f32} (hx : Finite x) (hw : Finite w) : Finite (dense x w) := by
  intro i
  obtain ⟨p, q, rfl⟩ : ∃ p q, i = ix2 p q := ⟨_, _, Idealize.ShloMosaic.eq_ix2 i⟩
  pointwise [dense]
  exact real_sum _ _ fun j _ => real_mul (hx _) (hw _)

/-- The scores of real rows against a real vector are real. -/
theorem scored_finite {h : FVec Ideal S10000x128 .f32} {a : FVec Ideal S128 .f32} (hh : Finite h) (ha : Finite a) : Finite (scored h a) := by
  intro i
  obtain ⟨p, rfl⟩ : ∃ p, i = ix1 p := ⟨_, Idealize.ShloMosaic.eq_ix1 i⟩
  pointwise [scored]
  exact real_sum _ _ fun j _ => real_mul (hh _) (ha _)

/-- The largest number lies under a bound exactly if every number does. -/
theorem topOf_le (x : FVec Ideal S10000 .f32) (j : S_.Idx) (z : EReal) : topOf x j ≤ z ↔ ∀ i, x i ≤ z := by
  pointwise [topOf]
  rw [show Ideal.ofBits FTy.f32 4286578688#32 = ⊥ from by simp [Ideal.ofBits, Ideal.ieee], Finset.fold_max_le]
  refine ⟨fun h i => ?_, fun h => ⟨bot_le, fun k _ => h _⟩⟩
  obtain ⟨p, rfl⟩ : ∃ p, i = ix1 p := ⟨_, Idealize.ShloMosaic.eq_ix1 i⟩
  exact h.2 p (Finset.mem_univ _)

/-- The largest of finitely many real numbers is real. -/
theorem topOf_finite {x : FVec Ideal S10000 .f32} (hx : Finite x) : Finite (topOf x) := by
  intro j
  obtain ⟨f, hf⟩ := hx.real
  let i0 : S10000.Idx := ix1 0
  obtain ⟨B, hB⟩ : ∃ B : ℝ, ∀ i, f i ≤ B :=
    ⟨∑ i, |f i|, fun i => (le_abs_self _).trans (Finset.single_le_sum (f := fun i => |f i|) (fun _ _ => abs_nonneg _) (Finset.mem_univ i))⟩
  have hup : topOf x j ≤ (B : EReal) := (topOf_le x j _).2 fun i => by rw [hf]; exact_mod_cast hB i
  have hlo : (f i0 : EReal) ≤ topOf x j := hf i0 ▸ (topOf_le x j _).1 le_rfl i0
  exact ⟨(topOf x j).toReal, (EReal.coe_toReal (ne_top_of_le_ne_top (EReal.coe_ne_top B) hup) (ne_bot_of_le_ne_bot (EReal.coe_ne_bot _) hlo)).symm⟩

/-- The kernel's unnormalised weights of real scores are real. -/
theorem rawK_finite {als ald : FVec Ideal S10000 .f32} {top : FVec Ideal S_ .f32} (src dst : IVec S320000 32)
    (hs : Finite als) (hd : Finite ald) (ht : Finite top) : ∃ f : S320000.Idx → ℝ, ∀ k, rawK als ald top src dst k = ((Real.exp (f k) : ℝ) : EReal) := by
  obtain ⟨a, ha⟩ := hs.real
  obtain ⟨b, hb⟩ := hd.real
  obtain ⟨t, ht⟩ := ht.real
  obtain ⟨c, hc⟩ := slope_real
  refine ⟨fun k => leak c (a (nodeOf src k) + b (nodeOf dst k)) - leak c (t ValueIdx.ix0 + b (nodeOf dst k)), fun k => ?_⟩
  have he : leakGt (addf (at_ als src) (at_ ald dst)) k = (leak c (a (nodeOf src k) + b (nodeOf dst k)) : EReal) := leakGt_apply hc _ k (by
    show als (nodeOf src k) + ald (nodeOf dst k) = _
    rw [ha, hb, ← EReal.coe_add])
  have hB : bound ald top dst k = (leak c (t ValueIdx.ix0 + b (nodeOf dst k)) : EReal) := leakGt_apply hc _ k (by
    show broadcastInDim S320000 ![] bcast_S_S320000 top k + ald (nodeOf dst k) = _
    rw [ValueIdx.broadcastInDim_scalar_apply, ht, hb, ← EReal.coe_add])
  show Ideal.exp (leakGt (addf (at_ als src) (at_ ald dst)) k - bound ald top dst k) = _
  rw [he, hB, ← EReal.coe_sub, Ideal.exp_coe]

/-- The kernel's weights of real scores are real. -/
theorem weightK_finite {als ald : FVec Ideal S10000 .f32} {top : FVec Ideal S_ .f32} (src dst : IVec S320000 32)
    (hs : Finite als) (hd : Finite ald) (ht : Finite top) : Finite (weightK als ald top src dst) := by
  intro k
  obtain ⟨f, hf⟩ := rawK_finite src dst hs hd ht
  obtain ⟨ε, hε, hg⟩ := guard_real
  rw [weightK_apply, hf, into_apply, overEdges_apply, hg]
  simp only [hf]
  rw [zero_add, sum_coe, ← EReal.coe_add, div_real]
  · exact ⟨_, rfl⟩
  · exact ne_of_gt (add_pos_of_nonneg_of_pos (Finset.sum_nonneg fun _ _ => (Real.exp_pos _).le) hε)

/-- The tensor the sums start from. -/
theorem zeros_apply (i : S10000x128.Idx) :
    (broadcastInDim S10000x128 ![] bcast_S_S10000x128 (constant S_ .f32 0x00000000#32) : FVec Ideal S10000x128 .f32) i = 0 :=
  (ValueIdx.broadcastInDim_scalar_apply _ _ i).trans Ideal.ofBits_zero_f32

/-- Sums of real numbers added to real numbers. -/
theorem scatter_finite {s t u : Shape} (d : ScatterDims s t u) (x : FVec Ideal s .f32) (idx : IVec t 32) (v : FVec Ideal u .f32)
    (hx : Finite x) (hv : Finite v) : Finite (Host.scatterAdd d x idx v) := fun i =>
  real_add (hx i) (real_sum _ _ fun j _ => hv j)

/-- The weighted sums of real rows are real. -/
theorem gathered_finite {h : FVec Ideal S10000x128 .f32} {u : FVec Ideal S320000 .f32} (src dst : IVec S320000 32)
    (hh : Finite h) (hu : Finite u) : Finite (gathered h u src dst) := by
  intro i
  unfold gathered
  refine scatter_finite _ _ _ _ (fun i => ⟨0, zeros_apply i⟩) (fun j => real_mul (hu _) (hh _)) i

/-- The rectifier of real numbers with real offsets is real. -/
theorem rectified_finite {g : FVec Ideal S10000x128 .f32} {b : FVec Ideal S128 .f32} (hg : Finite g) (hb : Finite b) : Finite (rectified g b) := by
  intro i
  obtain ⟨p, q, rfl⟩ : ∃ p q, i = ix2 p q := ⟨_, _, Idealize.ShloMosaic.eq_ix2 i⟩
  pointwise [rectified]
  exact real_max (real_add (hg _) (hb _)) ⟨0, rfl⟩

/-! ## The layers agree -/

/-- At real rows and attention vectors the rows the kernel sums are the rows the reference sums. -/
theorem summed_eq (mx : FVec Ideal S10000 .f32) {h : FVec Ideal S10000x128 .f32} {a d : FVec Ideal S128 .f32} (src dst : IVec S320000 32)
    (hh : Finite h) (ha : Finite a) (hd : Finite d) : summedK h a d src dst = summedR mx h a d src dst := by
  unfold summedK summedR
  rw [weight_eq _ _ mx _ src dst (scored_finite hh ha) (scored_finite hh hd) (topOf_finite (scored_finite hh ha))]

/-- The rows the kernel sums of real rows are real. -/
theorem summed_finite {h : FVec Ideal S10000x128 .f32} {a d : FVec Ideal S128 .f32} (src dst : IVec S320000 32)
    (hh : Finite h) (ha : Finite a) (hd : Finite d) : Finite (summedK h a d src dst) :=
  gathered_finite src dst hh (weightK_finite src dst (scored_finite hh ha) (scored_finite hh hd) (topOf_finite (scored_finite hh ha)))

/-! ## The kernel's layouts of the same numbers -/

/-- The scores as a column, laid out flat. -/
theorem scores_flat (h : FVec Ideal S10000x128 .f32) (a : FVec Ideal S128 .f32) :
    shapeCast S10000 (scores h (shapeCast S128x1 a shapeCasts_S128_S128x1)) shapeCasts_S10000x1_S10000 = scored h a := by
  funext i
  obtain ⟨p, rfl⟩ : ∃ p, i = ix1 p := ⟨_, Idealize.ShloMosaic.eq_ix1 i⟩
  pointwise [scored, scores]

/-- What a later call's rectifier reads: the sums, no second part, and the offsets as a row. -/
theorem layerIn_eq (g : FVec Ideal S10000x128 .f32) (b : FVec Ideal S128 .f32) :
    layerIn g (broadcastInDim S10000x128 ![] bcast_S_S10000x128 (constant S_ .f32 0x00000000#32)) (shapeCast S1x128 b shapeCasts_S128_S1x128)
      = rectified g b := by
  funext i
  obtain ⟨p, q, rfl⟩ : ∃ p q, i = ix2 p q := ⟨_, _, Idealize.ShloMosaic.eq_ix2 i⟩
  pointwise [rectified, layerIn]

end Cert.KernelIdeal.Own
-- ==== Proof.Hosts.lean ====
module

public import proofs.«01_k».proof.Proof.Layer
public import proofs.«01_k».proof.Proof.Run

@[expose] public section

set_option maxRecDepth 16384

noncomputable section

namespace Cert.KernelIdeal.Own

open Cert.KernelIdeal Cert.KernelIdeal.Gen Cert.Maths
open Idealize.ShloMosaic Idealize.ShloMosaic.TcCoe Idealize.ShloMosaic.Tactic Idealize.SL.Sem

local instance : Cert.KernelIdeal.Facts := Cert.KernelIdeal.Gen.facts

/-! # The host operations between the stages, over the extended reals -/

/-- The tensor the sums start from. -/
def zeros : FVec Ideal S10000x128 .f32 := broadcastInDim S10000x128 ![] bcast_S_S10000x128 (constant S_ .f32 0x00000000#32)

/-- The rows the host sums from a stage's four arrays and the edges' ends. -/
def summedFrom (h : FVec Ideal S10000x128 .f32) (s d : FVec Ideal S10000x1 .f32) (t : FVec Ideal S1x1 .f32) (src dst : IVec S320000 32) :
    FVec Ideal S10000x128 .f32 :=
  gathered h (weightK (shapeCast S10000 s shapeCasts_S10000x1_S10000) (shapeCast S10000 d shapeCasts_S10000x1_S10000)
    (shapeCast S_ t shapeCasts_S1x1_S_) src dst) src dst

/-- Where the four arrays are a stage's, the rows summed are the layer's. -/
theorem summedFrom_eq (h : FVec Ideal S10000x128 .f32) (a d : FVec Ideal S128 .f32) (t : FVec Ideal S1x1 .f32) (src dst : IVec S320000 32)
    (ht : ∀ (j : S1x1.Idx) (z : EReal), t j ≤ z ↔ ∀ i, scores h (shapeCast S128x1 a shapeCasts_S128_S128x1) i ≤ z) :
    summedFrom h (scores h (shapeCast S128x1 a shapeCasts_S128_S128x1)) (scores h (shapeCast S128x1 d shapeCasts_S128_S128x1)) t src dst
      = summedK h a d src dst := by
  have e : shapeCast S_ t shapeCasts_S1x1_S_ = topOf (scored h a) := by
    funext j
    refine eq_of_forall_ge_iff fun z => ((ht _ z).trans ?_).trans (topOf_le _ j z).symm
    have hp : ∀ (p : Fin 10000) (q : Fin 1), scores h (shapeCast S128x1 a shapeCasts_S128_S128x1) (ix2 p q) = scored h a (ix1 p) := fun p q => by
      pointwise [scored, scores]
    refine ⟨fun k i => ?_, fun k i => ?_⟩
    · obtain ⟨p, rfl⟩ : ∃ p, i = ix1 p := ⟨_, Idealize.ShloMosaic.eq_ix1 i⟩
      exact hp p 0 ▸ k _
    · obtain ⟨p, q, rfl⟩ : ∃ p q, i = ix2 p q := ⟨_, _, Idealize.ShloMosaic.eq_ix2 i⟩
      exact (hp p q).symm ▸ k _
  unfold summedFrom summedK
  rw [e, scores_flat, scores_flat]

section

variable (V : Valuation τ sig (Elt Ideal))

/-- What the host operations before stage 0 leave. -/
theorem host0 : StableHlo.after hostOps0 V (Proc.devRef .tc main_v4) = shapeCast S128x1 (V (Proc.devRef .tc main_arg4)) shapeCasts_S128_S128x1
    ∧ StableHlo.after hostOps0 V (Proc.devRef .tc main_v5) = shapeCast S128x1 (V (Proc.devRef .tc main_arg5)) shapeCasts_S128_S128x1
    ∧ StableHlo.after hostOps0 V (Proc.devRef .tc main_v1)
      = shapeCast S320000 (extractStridedSlice S1x320000 ![0, 0] (V (Proc.devRef .tc main_arg1)) slices_S2x320000_S1x320000_0_0) shapeCasts_S1x320000_S320000
    ∧ StableHlo.after hostOps0 V (Proc.devRef .tc main_v3)
      = shapeCast S320000 (extractStridedSlice S1x320000 ![1, 0] (V (Proc.devRef .tc main_arg1)) slices_S2x320000_S1x320000_1_0) shapeCasts_S1x320000_S320000 := by
  simp only [hostOps0]
  after_results_simp
  exact ⟨rfl, rfl, rfl, rfl⟩

/-- The contents after the host operations between stage 0 and stage 1. -/
abbrev past1 : Valuation τ sig (Elt Ideal) :=
  StableHlo.after hostOps1_4 (StableHlo.after hostOps1_3 (StableHlo.after hostOps1_2 (StableHlo.after hostOps1_1 (StableHlo.after hostOps1 V))))

set_option maxHeartbeats 4000000 in
/-- What the host operations between stage 0 and stage 1 leave. -/
theorem host1 : past1 V (Proc.devRef .tc main_v71)
      = summedFrom (V (Proc.devRef .tc main_v6_0)) (V (Proc.devRef .tc main_v6_1)) (V (Proc.devRef .tc main_v6_2)) (V (Proc.devRef .tc main_v6_3))
        (V (Proc.devRef .tc main_v1)) (V (Proc.devRef .tc main_v3))
    ∧ past1 V (Proc.devRef .tc main_v72) = zeros
    ∧ past1 V (Proc.devRef .tc main_v73) = shapeCast S1x128 (V (Proc.devRef .tc main_arg6)) shapeCasts_S128_S1x128
    ∧ past1 V (Proc.devRef .tc main_v74) = shapeCast S128x1 (V (Proc.devRef .tc main_arg8)) shapeCasts_S128_S128x1
    ∧ past1 V (Proc.devRef .tc main_v75) = shapeCast S128x1 (V (Proc.devRef .tc main_arg9)) shapeCasts_S128_S128x1
    ∧ past1 V (Proc.devRef .tc main_v1) = V (Proc.devRef .tc main_v1) ∧ past1 V (Proc.devRef .tc main_v3) = V (Proc.devRef .tc main_v3) := by
  simp only [past1, hostOps1, hostOps1_1, hostOps1_2, hostOps1_3, hostOps1_4, StableHlo.TRef.ternary, StableHlo.TRef.toBuf, StableHlo.TRef.ofBuf, cast_eq]
  after_results_simp
  exact ⟨rfl, rfl, rfl, rfl, rfl, trivial, trivial⟩

/-- The contents after the host operations between stage 1 and stage 2. -/
abbrev past2 : Valuation τ sig (Elt Ideal) :=
  StableHlo.after hostOps2_4 (StableHlo.after hostOps2_3 (StableHlo.after hostOps2_2 (StableHlo.after hostOps2_1 (StableHlo.after hostOps2 V))))

set_option maxHeartbeats 4000000 in
/-- What the host operations between stage 1 and stage 2 leave. -/
theorem host2 : past2 V (Proc.devRef .tc main_v141)
      = summedFrom (V (Proc.devRef .tc main_v76_0)) (V (Proc.devRef .tc main_v76_1)) (V (Proc.devRef .tc main_v76_2)) (V (Proc.devRef .tc main_v76_3))
        (V (Proc.devRef .tc main_v1)) (V (Proc.devRef .tc main_v3))
    ∧ past2 V (Proc.devRef .tc main_v142) = zeros
    ∧ past2 V (Proc.devRef .tc main_v143) = shapeCast S1x128 (V (Proc.devRef .tc main_arg10)) shapeCasts_S128_S1x128
    ∧ past2 V (Proc.devRef .tc main_v144) = shapeCast S128x1 (V (Proc.devRef .tc main_arg12)) shapeCasts_S128_S128x1
    ∧ past2 V (Proc.devRef .tc main_v145) = shapeCast S128x1 (V (Proc.devRef .tc main_arg13)) shapeCasts_S128_S128x1
    ∧ past2 V (Proc.devRef .tc main_v1) = V (Proc.devRef .tc main_v1) ∧ past2 V (Proc.devRef .tc main_v3) = V (Proc.devRef .tc main_v3) := by
  simp only [past2, hostOps2, hostOps2_1, hostOps2_2, hostOps2_3, hostOps2_4, StableHlo.TRef.ternary, StableHlo.TRef.toBuf, StableHlo.TRef.ofBuf, cast_eq]
  after_results_simp
  exact ⟨rfl, rfl, rfl, rfl, rfl, trivial, trivial⟩

/-- The contents after the host operations between stage 2 and stage 3. -/
abbrev past3 : Valuation τ sig (Elt Ideal) :=
  StableHlo.after hostOps3_4 (StableHlo.after hostOps3_3 (StableHlo.after hostOps3_2 (StableHlo.after hostOps3_1 (StableHlo.after hostOps3 V))))

set_option maxHeartbeats 4000000 in
/-- What the host operations between stage 2 and stage 3 leave. -/
theorem host3 : past3 V (Proc.devRef .tc main_v211)
      = summedFrom (V (Proc.devRef .tc main_v146_0)) (V (Proc.devRef .tc main_v146_1)) (V (Proc.devRef .tc main_v146_2)) (V (Proc.devRef .tc main_v146_3))
        (V (Proc.devRef .tc main_v1)) (V (Proc.devRef .tc main_v3))
    ∧ past3 V (Proc.devRef .tc main_v212) = zeros
    ∧ past3 V (Proc.devRef .tc main_v213) = shapeCast S1x128 (V (Proc.devRef .tc main_arg14)) shapeCasts_S128_S1x128
    ∧ past3 V (Proc.devRef .tc main_v214) = shapeCast S128x1 (V (Proc.devRef .tc main_arg16)) shapeCasts_S128_S128x1
    ∧ past3 V (Proc.devRef .tc main_v215) = shapeCast S128x1 (V (Proc.devRef .tc main_arg17)) shapeCasts_S128_S128x1
    ∧ past3 V (Proc.devRef .tc main_v1) = V (Proc.devRef .tc main_v1) ∧ past3 V (Proc.devRef .tc main_v3) = V (Proc.devRef .tc main_v3) := by
  simp only [past3, hostOps3, hostOps3_1, hostOps3_2, hostOps3_3, hostOps3_4, StableHlo.TRef.ternary, StableHlo.TRef.toBuf, StableHlo.TRef.ofBuf, cast_eq]
  after_results_simp
  exact ⟨rfl, rfl, rfl, rfl, rfl, trivial, trivial⟩

/-- The contents after the host operations between stage 3 and stage 4. -/
abbrev past4 : Valuation τ sig (Elt Ideal) :=
  StableHlo.after hostOps4_4 (StableHlo.after hostOps4_3 (StableHlo.after hostOps4_2 (StableHlo.after hostOps4_1 (StableHlo.after hostOps4 V))))

set_option maxHeartbeats 4000000 in
/-- What the host operations between stage 3 and stage 4 leave. -/
theorem host4 : past4 V (Proc.devRef .tc main_v281)
      = summedFrom (V (Proc.devRef .tc main_v216_0)) (V (Proc.devRef .tc main_v216_1)) (V (Proc.devRef .tc main_v216_2)) (V (Proc.devRef .tc main_v216_3))
        (V (Proc.devRef .tc main_v1)) (V (Proc.devRef .tc main_v3))
    ∧ past4 V (Proc.devRef .tc main_v282) = zeros
    ∧ past4 V (Proc.devRef .tc main_v283) = shapeCast S1x128 (V (Proc.devRef .tc main_arg18)) shapeCasts_S128_S1x128
    ∧ past4 V (Proc.devRef .tc main_v284) = shapeCast S10000x1 (V (Proc.devRef .tc main_arg2)) shapeCasts_S10000_S10000x1
    ∧ past4 V (Proc.devRef .tc main_v285) = shapeCast S1x1 (V (Proc.devRef .tc main_arg20)) shapeCasts_S1_S1x1 := by
  simp only [past4, hostOps4, hostOps4_1, hostOps4_2, hostOps4_3, hostOps4_4, StableHlo.TRef.ternary, StableHlo.TRef.toBuf, StableHlo.TRef.ofBuf, cast_eq]
  after_results_simp
  exact ⟨rfl, rfl, rfl, rfl, rfl⟩

end

end Cert.KernelIdeal.Own
-- ==== Proof.Pool.lean ====
module

public import proofs.«01_k».proof.Proof.Dense
public import proofs.«01_k».proof.Proof.PoolStage

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)

/-! # The pooling stage over the extended reals -/

/-- A number if the node's graph is graph `g`, and nothing otherwise. -/
def ofGraph (b : BitVec 32) (g : Fin 64) (v : EReal) : EReal := if b = BitVec.ofNat 32 g.val then v else 0

/-- One entry of the table of graphs times a number. -/
theorem pay4_at (batch : IVec S1000x1 32) (r : Fin 1000) (g : Fin 64) (v : EReal) :
    (k4_pay4 (F := Ideal) batch (ix2 r g) : EReal) * v = ofGraph (batch (ix2 r 0)) g v := by
  pointwise [k4_pay4, ofGraph]
  by_cases h : batch (ix2 r 0) = BitVec.ofNat 32 g.val
  · rw [if_pos h, h, show IntOp.cmpi CmpIPredicate.eq (BitVec.ofNat 32 g.val) (BitVec.ofNat 32 g.val) = 1#1 by simp [IntOp.cmpi]]
    have e : (FloatOps.sitofp (F := Ideal) FTy.f32 (BitVec.setWidth 32 1#1) : EReal) = 1 := by
      show (((BitVec.setWidth 32 1#1).toInt : ℝ) : EReal) = 1
      simp
    exact (congrArg (· * v) e).trans (one_mul v)
  · rw [if_neg h, show IntOp.cmpi CmpIPredicate.eq (batch (ix2 r 0)) (BitVec.ofNat 32 g.val) = 0#1 by simp [IntOp.cmpi, beq_eq_false_iff_ne.2 h]]
    have e : (FloatOps.sitofp (F := Ideal) FTy.f32 (BitVec.setWidth 32 0#1) : EReal) = 0 := by
      show (((BitVec.setWidth 32 0#1).toInt : ℝ) : EReal) = 0
      simp
    exact (congrArg (· * v) e).trans (zero_mul v)

/-- A block's rows added to the graphs' sums. -/
theorem pay5_at (p q : FVec Ideal S1000x128 .f32) (b : FVec Ideal S1x128 .f32) (batch : IVec S1000x1 32) (s : FVec Ideal S64x128 .f32)
    (g : Fin 64) (k : Fin 128) : k4_pay5 p q b batch s (ix2 g k)
      = s (ix2 g k) + ∑ r : Fin 1000, ofGraph (batch (ix2 r 0)) g (max (p (ix2 r k) + q (ix2 r k) + b (ix2 0 k)) 0) := by
  pointwise [k4_pay5]
  exact congrArg (s (ix2 g k) + ·) (Finset.sum_congr rfl fun r _ => pay4_at batch r g _)

/-- A block's nodes added to the graphs' counts. -/
theorem pay6_at (batch : IVec S1000x1 32) (n : FVec Ideal S64x1 .f32)
    (g : Fin 64) (k : Fin 1) : k4_pay6 batch n (ix2 g k)
      = n (ix2 g k) + ∑ r : Fin 1000, ofGraph (batch (ix2 r 0)) g 1 := by
  pointwise [k4_pay6]
  exact congrArg (n (ix2 g k) + ·) (Finset.sum_congr rfl fun r _ => (mul_one _).symm.trans (pay4_at batch r g _))

/-- The head of the sums and the counts. -/
theorem pay1_at (s : FVec Ideal S64x128 .f32) (w : FVec Ideal S128x1 .f32) (n : FVec Ideal S64x1 .f32) (b : FVec Ideal S1x1 .f32)
    (g : Fin 64) (k : Fin 1) : (k4_pay1 (F := Ideal) s w n b (ix2 g k) : EReal)
      = Ideal.div (∑ j : Fin 128, s (ix2 g j) * w (ix2 j k)) (max (n (ix2 g k)) 1) + b (ix2 0 0) := by
  pointwise [k4_pay1]

/-! ## The sums over the blocks -/

/-- The graphs' sums of the nodes' rows. -/
def graphSums (X : FVec Ideal S10000x128 .f32) (batch : IVec S10000x1 32) (g : Fin 64) (k : Fin 128) : EReal :=
  ∑ i : Fin 10000, ofGraph (batch (ix2 i 0)) g (X (ix2 i k))

/-- The graphs' counts of the nodes. -/
def graphCounts (batch : IVec S10000x1 32) (g : Fin 64) : EReal := ∑ i : Fin 10000, ofGraph (batch (ix2 i 0)) g 1

/-- A sum that takes ten blocks of a thousand in is the sum over the ten thousand. -/
theorem blocks_sum (f : Fin 10000 → EReal) (s : (n : ℕ) → n < 10 → EReal)
    (h0 : s 0 (by omega) = 0 + ∑ r, f (node 0 (by omega) r)) (hs : ∀ n (h : n + 1 < 10), s (n + 1) h = s n (by omega) + ∑ r, f (node (n + 1) h r)) :
    s 9 (by omega) = ∑ i, f i := by
  let g : ℕ → EReal := fun i => if h : i < 10000 then f ⟨i, h⟩ else 0
  have hb : ∀ n (h : n < 10), ∑ r, f (node n h r) = ∑ r ∈ Finset.range 1000, g (n * 1000 + r) := fun n h => by
    rw [Finset.sum_range]
    refine Finset.sum_congr rfl fun r _ => ?_
    show _ = dite _ _ _
    rw [dif_pos]
    rfl
  have key : ∀ n (h : n < 10), s n h = ∑ i ∈ Finset.range (n * 1000 + 1000), g i := by
    intro n
    induction n with
    | zero => intro h; rw [h0, hb, zero_add]; simp only [Nat.zero_mul, Nat.zero_add]
    | succ n ih =>
      intro h
      rw [hs, ih, hb, show (n + 1) * 1000 = n * 1000 + 1000 by omega, Finset.sum_range_add _ (n * 1000 + 1000)]
  rw [key, Finset.sum_range]
  exact Finset.sum_congr rfl fun i _ => dif_pos i.isLt

variable (V : (c : Dev nD) → (b : Ref sig .tc) → Buf (Elt Ideal) ((c : Thread nD τ).loc b))

/-- The block indices of stage 4's windows. -/
theorem idx4 : ∀ t : Fin cfg4.N, t.val < 10 ∧ win4_0.index t = ![t.val, 0] ∧ win4_1.index t = ![t.val, 0] ∧ win4_2.index t = ![0, 0] ∧ win4_3.index t = ![t.val, 0]
    ∧ win4_4.index t = ![0, 0] ∧ win4_5.index t = ![0, 0] ∧ win4_6.index t = ![0, 0] :=
  (by decide +kernel : ∀ t : Fin grid4.N, _)

/-- Stage 4 reads the first half of the sums by blocks of rows. -/
theorem in4_0 (c : Dev nD) (t : Fin cfg4.N) (r : Fin 1000) (k : Fin 128) :
    blk4 V c 0 t (ix2 r k) = V c main_v281 (ix2 (node t.val (idx4 t).1 r) k) := by
  blk_ext [blk4, node, idx4 t]

/-- Stage 4 reads the second half of the sums by blocks of rows. -/
theorem in4_1 (c : Dev nD) (t : Fin cfg4.N) (r : Fin 1000) (k : Fin 128) :
    blk4 V c 1 t (ix2 r k) = V c main_v282 (ix2 (node t.val (idx4 t).1 r) k) := by
  blk_ext [blk4, node, idx4 t]

/-- Stage 4 reads the offsets whole. -/
theorem in4_2 (c : Dev nD) (t : Fin cfg4.N) : blk4 V c 2 t = V c main_v283 := by
  blk_ext! [blk4, idx4 t]

/-- Stage 4 reads the nodes' graphs by blocks of nodes. -/
theorem in4_3 (c : Dev nD) (t : Fin cfg4.N) (r : Fin 1000) (k : Fin 1) :
    blk4 V c 3 t (ix2 r k) = V c main_v284 (ix2 (node t.val (idx4 t).1 r) k) := by
  blk_ext [blk4, node, idx4 t]

/-- Stage 4 reads the head's vector whole. -/
theorem in4_4 (c : Dev nD) (t : Fin cfg4.N) : blk4 V c 4 t = V c main_arg19 := by
  blk_ext! [blk4, idx4 t]

/-- Stage 4 reads the head's offset whole. -/
theorem in4_5 (c : Dev nD) (t : Fin cfg4.N) : blk4 V c 5 t = V c main_v285 := by
  blk_ext! [blk4, idx4 t]

/-- Stage 4's sums after the last point. -/
theorem sums4_at (c : Dev nD) (h : 9 < cfg4.N) (g : Fin 64) (k : Fin 128) : sums4 V c 9 h (ix2 g k)
    = graphSums (layerIn (V c main_v281) (V c main_v282) (V c main_v283)) (V c main_v284) g k := by
  have h10 : cfg4.N = 10 := N_4
  have hp : ∀ n (hn : n < 10) s, k4_pay5 (blk4 V c 0 ⟨n, by omega⟩) (blk4 V c 1 ⟨n, by omega⟩) (blk4 V c 2 ⟨n, by omega⟩) (blk4 V c 3 ⟨n, by omega⟩) s (ix2 g k)
      = s (ix2 g k) + ∑ r, ofGraph ((V c main_v284 : IVec S10000x1 32) (ix2 (node n hn r) 0)) g (layerIn (V c main_v281) (V c main_v282) (V c main_v283) (ix2 (node n hn r) k)) := by
    intro n hn s
    rw [pay5_at]
    refine congrArg (s (ix2 g k) + ·) (Finset.sum_congr rfl fun r _ => ?_)
    rw [in4_0, in4_1, in4_2, in4_3]
    rfl
  refine blocks_sum _ (fun n hn => sums4 V c n (by omega) (ix2 g k)) ?_ fun n hn => hp _ _ _
  refine (hp 0 (by omega) _).trans ?_
  refine congrArg (· + _) ?_
  pointwise [k4_pay2]

/-- Stage 4's counts after the last point. -/
theorem counts4_at (c : Dev nD) (h : 9 < cfg4.N) (g : Fin 64) (k : Fin 1) : counts4 V c 9 h (ix2 g k)
    = graphCounts (V c main_v284) g := by
  have h10 : cfg4.N = 10 := N_4
  have hp : ∀ n (hn : n < 10) s, k4_pay6 (blk4 V c 3 ⟨n, by omega⟩) s (ix2 g k)
      = s (ix2 g k) + ∑ r, ofGraph ((V c main_v284 : IVec S10000x1 32) (ix2 (node n hn r) 0)) g 1 := by
    intro n hn s
    rw [pay6_at]
    refine congrArg (s (ix2 g k) + ·) (Finset.sum_congr rfl fun r _ => ?_)
    rw [in4_3]
  refine blocks_sum _ (fun n hn => counts4 V c n (by omega) (ix2 g k)) ?_ fun n hn => hp _ _ _
  refine (hp 0 (by omega) _).trans ?_
  refine congrArg (· + _) ?_
  pointwise [k4_pay3]

/-- Stage 4's last point. -/
def last4 : Fin cfg4.N := ⟨9, by rw [show cfg4.N = 10 from N_4]; decide⟩

/-- The head of the graphs' mean rows. -/
def pooled (X : FVec Ideal S10000x128 .f32) (batch : IVec S10000x1 32) (w : FVec Ideal S128x1 .f32) (b : FVec Ideal S1x1 .f32) : FVec Ideal S64x1 .f32 :=
  fun i => Ideal.div (∑ j : Fin 128, graphSums X batch (i 0) j * w (ix2 j (i 1))) (max (graphCounts batch (i 0)) 1) + b (ix2 0 0)

/-- What stage 4 leaves. -/
theorem final4_6 (c : Dev nD) : (dat4 V c).arrAt 6 cfg4.N
    = pooled (layerIn (V c main_v281) (V c main_v282) (V c main_v283)) (V c main_v284) (V c main_arg19) (V c main_v285) := by
  have e : (dat4 V c).arrAt 6 cfg4.N = out4 V c last4 := by
    refine (dat4 V c).arrAt_eq_of_after_last 6 last4 (by decide +kernel) _ fun y => ?_
    blk_simp
    rw [after4_6]
  rw [e]
  funext i
  obtain ⟨g, k, rfl⟩ : ∃ g k, i = ix2 g k := ⟨_, _, Idealize.ShloMosaic.eq_ix2 i⟩
  unfold out4
  refine (pay1_at _ _ _ _ g k).trans ?_
  rw [in4_4, in4_5]
  refine congrArg₂ (fun u v : EReal => Ideal.div u (max v 1) + _) (Finset.sum_congr rfl fun j _ => ?_) (counts4_at V c _ g k)
  exact congrArg (· * _) (sums4_at V c _ g j)

end Cert.KernelIdeal.Own
-- ==== Proof.Arrays0.lean ====
module

public import proofs.«01_k».proof.Proof.Dense

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)

/-! # The arrays the first dense stage leaves, over the extended reals -/

variable (V : (c : Dev nD) → (b : Ref sig .tc) → Buf (Elt Ideal) ((c : Thread nD τ).loc b))

/-- The block indices of stage 0's windows. -/
theorem idx0 : ∀ t : Fin cfg0.N, t.val < 10 ∧ win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, _)

/-- Stage 0 reads the nodes' rows by blocks. -/
theorem in0_0 (c : Dev nD) (t : Fin cfg0.N) (r : Fin 1000) (k : Fin 128) :
    blk0 V c 0 t (ix2 r k) = V c main_arg0 (ix2 (node t.val (idx0 t).1 r) k) := by
  blk_ext [blk0, node, idx0 t]

/-- Stage 0 reads the linear map whole. -/
theorem in0_1 (c : Dev nD) (t : Fin cfg0.N) : blk0 V c 1 t = V c main_arg3 := by
  blk_ext! [blk0, idx0 t]

/-- Stage 0 reads the first attention vector whole. -/
theorem in0_2 (c : Dev nD) (t : Fin cfg0.N) : blk0 V c 2 t = V c main_v4 := by
  blk_ext! [blk0, idx0 t]

/-- Stage 0 reads the second attention vector whole. -/
theorem in0_3 (c : Dev nD) (t : Fin cfg0.N) : blk0 V c 3 t = V c main_v5 := by
  blk_ext! [blk0, idx0 t]

/-- Stage 0's rows: the linear map. -/
theorem final0_4 (c : Dev nD) : (dat0 V c).arrAt 4 cfg0.N = dense (V c main_arg0) (V c main_arg3) := by
  refine (dat0 V c).arrAt_eq_of_covers 4 _ (by decide +kernel) fun t _ y => ?_
  have e : ((cfg0.win 4).blk t).view.emb y = ix2 (node t.val (idx0 t).1 (y 0)) (y 1) := by blk_ext [node, idx0 t]
  blk_simp
  rw [after0_4, in0_1, e, pair128 y]
  exact first_rows _ _ _ _ _ (in0_0 V c t) _ _

/-- Stage 0's scores against the first attention vector. -/
theorem final0_5 (c : Dev nD) : (dat0 V c).arrAt 5 cfg0.N = scores (dense (V c main_arg0) (V c main_arg3)) (V c main_v4) := by
  refine (dat0 V c).arrAt_eq_of_covers 5 _ (by decide +kernel) fun t _ y => ?_
  have e : ((cfg0.win 5).blk t).view.emb y = ix2 (node t.val (idx0 t).1 (y 0)) (y 1) := by blk_ext [node, idx0 t]
  blk_simp
  rw [after0_5, in0_1, in0_2, e, pair1 y]
  exact first_scores _ _ _ _ _ _ (in0_0 V c t) _ _

/-- Stage 0's scores against the second attention vector. -/
theorem final0_6 (c : Dev nD) : (dat0 V c).arrAt 6 cfg0.N = scores (dense (V c main_arg0) (V c main_arg3)) (V c main_v5) := by
  refine (dat0 V c).arrAt_eq_of_covers 6 _ (by decide +kernel) fun t _ y => ?_
  have e : ((cfg0.win 6).blk t).view.emb y = ix2 (node t.val (idx0 t).1 (y 0)) (y 1) := by blk_ext [node, idx0 t]
  blk_simp
  rw [after0_6, in0_1, in0_3, e, pair1 y]
  exact first_scores _ _ _ _ _ _ (in0_0 V c t) _ _

/-- Stage 0's last point. -/
def last0 : Fin cfg0.N := ⟨9, by rw [show cfg0.N = 10 from N_0]; decide⟩

/-- Stage 0's running maximum ends at the least bound of the first scores. -/
theorem final0_7 (c : Dev nD) (j : S1x1.Idx) (z : EReal) : (show FVec Ideal S1x1 .f32 from (dat0 V c).arrAt 7 cfg0.N) j ≤ z
    ↔ ∀ i, scores (dense (V c main_arg0) (V c main_arg3)) (V c main_v4) i ≤ z := by
  have h10 : cfg0.N = 10 := N_0
  have e : (dat0 V c).arrAt 7 cfg0.N = run0 V c 9 (by omega) := by
    refine (dat0 V c).arrAt_eq_of_after_last 7 last0 (by decide +kernel) _ fun y => ?_
    blk_simp
    rw [after0_7]
    rfl
  rw [e]
  refine running_le _ (fun n h => k0_pay2 (blk0 V c 0 ⟨n, by omega⟩) (blk0 V c 1 ⟨n, by omega⟩) (blk0 V c 2 ⟨n, by omega⟩))
    (fun n h r => ?_) (fun n h => run0 V c n (by omega)) rfl (fun n h => rfl) j z
  rw [in0_1, in0_2]
  exact first_scores _ _ _ _ _ _ (in0_0 V c ⟨n, by omega⟩) _ _

end Cert.KernelIdeal.Own
-- ==== Proof.Arrays1.lean ====
module

public import proofs.«01_k».proof.Proof.Dense

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)

/-! # The arrays the dense stages leave, over the extended reals -/

variable (V : (c : Dev nD) → (b : Ref sig .tc) → Buf (Elt Ideal) ((c : Thread nD τ).loc b))

/-- The block indices of stage 1's windows. -/
theorem idx1 : ∀ t : Fin cfg1.N, t.val < 10 ∧ win1_0.index t = ![t.val, 0] ∧ win1_1.index t = ![t.val, 0] ∧ win1_2.index t = ![0, 0] ∧ win1_3.index t = ![0, 0]
    ∧ win1_4.index t = ![0, 0] ∧ win1_5.index t = ![0, 0] ∧ win1_6.index t = ![t.val, 0] ∧ win1_7.index t = ![t.val, 0] ∧ win1_8.index t = ![t.val, 0] ∧ win1_9.index t = ![0, 0] :=
  (by decide +kernel : ∀ t : Fin grid1.N, _)

/-- Stage 1 reads the first half of the sums by blocks of rows. -/
theorem in1_0 (c : Dev nD) (t : Fin cfg1.N) (r : Fin 1000) (k : Fin 128) :
    blk1 V c 0 t (ix2 r k) = V c main_v71 (ix2 (node t.val (idx1 t).1 r) k) := by
  blk_ext [blk1, node, idx1 t]

/-- Stage 1 reads the second half of the sums by blocks of rows. -/
theorem in1_1 (c : Dev nD) (t : Fin cfg1.N) (r : Fin 1000) (k : Fin 128) :
    blk1 V c 1 t (ix2 r k) = V c main_v72 (ix2 (node t.val (idx1 t).1 r) k) := by
  blk_ext [blk1, node, idx1 t]

/-- Stage 1 reads the offsets whole. -/
theorem in1_2 (c : Dev nD) (t : Fin cfg1.N) : blk1 V c 2 t = V c main_v73 := by
  blk_ext! [blk1, idx1 t]

/-- Stage 1 reads the linear map whole. -/
theorem in1_3 (c : Dev nD) (t : Fin cfg1.N) : blk1 V c 3 t = V c main_arg7 := by
  blk_ext! [blk1, idx1 t]

/-- Stage 1 reads the first attention vector whole. -/
theorem in1_4 (c : Dev nD) (t : Fin cfg1.N) : blk1 V c 4 t = V c main_v74 := by
  blk_ext! [blk1, idx1 t]

/-- Stage 1 reads the second attention vector whole. -/
theorem in1_5 (c : Dev nD) (t : Fin cfg1.N) : blk1 V c 5 t = V c main_v75 := by
  blk_ext! [blk1, idx1 t]

/-- Stage 1's rows: the linear map. -/
theorem final1_6 (c : Dev nD) : (dat1 V c).arrAt 6 cfg1.N = dense (layerIn (V c main_v71) (V c main_v72) (V c main_v73)) (V c main_arg7) := by
  refine (dat1 V c).arrAt_eq_of_covers 6 _ (by decide +kernel) fun t _ y => ?_
  have e : ((cfg1.win 6).blk t).view.emb y = ix2 (node t.val (idx1 t).1 (y 0)) (y 1) := by blk_ext [node, idx1 t]
  blk_simp
  rw [after1_6, in1_2, in1_3, e, pair128 y]
  exact rest_rows _ _ _ _ _ _ _ _ (in1_0 V c t) (in1_1 V c t) _ _

/-- Stage 1's scores against the first attention vector. -/
theorem final1_7 (c : Dev nD) : (dat1 V c).arrAt 7 cfg1.N
    = scores (dense (layerIn (V c main_v71) (V c main_v72) (V c main_v73)) (V c main_arg7)) (V c main_v74) := by
  refine (dat1 V c).arrAt_eq_of_covers 7 _ (by decide +kernel) fun t _ y => ?_
  have e : ((cfg1.win 7).blk t).view.emb y = ix2 (node t.val (idx1 t).1 (y 0)) (y 1) := by blk_ext [node, idx1 t]
  blk_simp
  rw [after1_7, in1_2, in1_3, in1_4, e, pair1 y]
  exact rest_scores _ _ _ _ _ _ _ _ _ (in1_0 V c t) (in1_1 V c t) _ _

/-- Stage 1's scores against the second attention vector. -/
theorem final1_8 (c : Dev nD) : (dat1 V c).arrAt 8 cfg1.N
    = scores (dense (layerIn (V c main_v71) (V c main_v72) (V c main_v73)) (V c main_arg7)) (V c main_v75) := by
  refine (dat1 V c).arrAt_eq_of_covers 8 _ (by decide +kernel) fun t _ y => ?_
  have e : ((cfg1.win 8).blk t).view.emb y = ix2 (node t.val (idx1 t).1 (y 0)) (y 1) := by blk_ext [node, idx1 t]
  blk_simp
  rw [after1_8, in1_2, in1_3, in1_5, e, pair1 y]
  exact rest_scores _ _ _ _ _ _ _ _ _ (in1_0 V c t) (in1_1 V c t) _ _

/-- Stage 1's last point. -/
def last1 : Fin cfg1.N := ⟨9, by rw [show cfg1.N = 10 from N_1]; decide⟩

/-- Stage 1's running maximum ends at the least bound of the first scores. -/
theorem final1_9 (c : Dev nD) (j : S1x1.Idx) (z : EReal) : (show FVec Ideal S1x1 .f32 from (dat1 V c).arrAt 9 cfg1.N) j ≤ z
    ↔ ∀ i, scores (dense (layerIn (V c main_v71) (V c main_v72) (V c main_v73)) (V c main_arg7)) (V c main_v74) i ≤ z := by
  have h10 : cfg1.N = 10 := N_1
  have e : (dat1 V c).arrAt 9 cfg1.N = run1 V c 9 (by omega) := by
    refine (dat1 V c).arrAt_eq_of_after_last 9 last1 (by decide +kernel) _ fun y => ?_
    blk_simp
    rw [after1_9]
    rfl
  rw [e]
  refine running_le _ (fun n h => k1_pay3 (blk1 V c 0 ⟨n, by omega⟩) (blk1 V c 1 ⟨n, by omega⟩) (blk1 V c 2 ⟨n, by omega⟩) (blk1 V c 3 ⟨n, by omega⟩) (blk1 V c 4 ⟨n, by omega⟩))
    (fun n h r => ?_) (fun n h => run1 V c n (by omega)) rfl (fun n h => rfl) j z
  rw [in1_2, in1_3, in1_4]
  exact rest_scores _ _ _ _ _ _ _ _ _ (in1_0 V c ⟨n, by omega⟩) (in1_1 V c ⟨n, by omega⟩) _ _

end Cert.KernelIdeal.Own
-- ==== Proof.Arrays2.lean ====
module

public import proofs.«01_k».proof.Proof.Dense

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)

/-! # The arrays the dense stages leave, over the extended reals -/

variable (V : (c : Dev nD) → (b : Ref sig .tc) → Buf (Elt Ideal) ((c : Thread nD τ).loc b))

/-- The block indices of stage 2's windows. -/
theorem idx2 : ∀ t : Fin cfg2.N, t.val < 10 ∧ win2_0.index t = ![t.val, 0] ∧ win2_1.index t = ![t.val, 0] ∧ win2_2.index t = ![0, 0] ∧ win2_3.index t = ![0, 0]
    ∧ win2_4.index t = ![0, 0] ∧ win2_5.index t = ![0, 0] ∧ win2_6.index t = ![t.val, 0] ∧ win2_7.index t = ![t.val, 0] ∧ win2_8.index t = ![t.val, 0] ∧ win2_9.index t = ![0, 0] :=
  (by decide +kernel : ∀ t : Fin grid2.N, _)

/-- Stage 2 reads the first half of the sums by blocks of rows. -/
theorem in2_0 (c : Dev nD) (t : Fin cfg2.N) (r : Fin 1000) (k : Fin 128) :
    blk2 V c 0 t (ix2 r k) = V c main_v141 (ix2 (node t.val (idx2 t).1 r) k) := by
  blk_ext [blk2, node, idx2 t]

/-- Stage 2 reads the second half of the sums by blocks of rows. -/
theorem in2_1 (c : Dev nD) (t : Fin cfg2.N) (r : Fin 1000) (k : Fin 128) :
    blk2 V c 1 t (ix2 r k) = V c main_v142 (ix2 (node t.val (idx2 t).1 r) k) := by
  blk_ext [blk2, node, idx2 t]

/-- Stage 2 reads the offsets whole. -/
theorem in2_2 (c : Dev nD) (t : Fin cfg2.N) : blk2 V c 2 t = V c main_v143 := by
  blk_ext! [blk2, idx2 t]

/-- Stage 2 reads the linear map whole. -/
theorem in2_3 (c : Dev nD) (t : Fin cfg2.N) : blk2 V c 3 t = V c main_arg11 := by
  blk_ext! [blk2, idx2 t]

/-- Stage 2 reads the first attention vector whole. -/
theorem in2_4 (c : Dev nD) (t : Fin cfg2.N) : blk2 V c 4 t = V c main_v144 := by
  blk_ext! [blk2, idx2 t]

/-- Stage 2 reads the second attention vector whole. -/
theorem in2_5 (c : Dev nD) (t : Fin cfg2.N) : blk2 V c 5 t = V c main_v145 := by
  blk_ext! [blk2, idx2 t]

/-- Stage 2's rows: the linear map. -/
theorem final2_6 (c : Dev nD) : (dat2 V c).arrAt 6 cfg2.N = dense (layerIn (V c main_v141) (V c main_v142) (V c main_v143)) (V c main_arg11) := by
  refine (dat2 V c).arrAt_eq_of_covers 6 _ (by decide +kernel) fun t _ y => ?_
  have e : ((cfg2.win 6).blk t).view.emb y = ix2 (node t.val (idx2 t).1 (y 0)) (y 1) := by blk_ext [node, idx2 t]
  blk_simp
  rw [after2_6, in2_2, in2_3, e, pair128 y]
  exact rest_rows _ _ _ _ _ _ _ _ (in2_0 V c t) (in2_1 V c t) _ _

/-- Stage 2's scores against the first attention vector. -/
theorem final2_7 (c : Dev nD) : (dat2 V c).arrAt 7 cfg2.N
    = scores (dense (layerIn (V c main_v141) (V c main_v142) (V c main_v143)) (V c main_arg11)) (V c main_v144) := by
  refine (dat2 V c).arrAt_eq_of_covers 7 _ (by decide +kernel) fun t _ y => ?_
  have e : ((cfg2.win 7).blk t).view.emb y = ix2 (node t.val (idx2 t).1 (y 0)) (y 1) := by blk_ext [node, idx2 t]
  blk_simp
  rw [after2_7, in2_2, in2_3, in2_4, e, pair1 y]
  exact rest_scores _ _ _ _ _ _ _ _ _ (in2_0 V c t) (in2_1 V c t) _ _

/-- Stage 2's scores against the second attention vector. -/
theorem final2_8 (c : Dev nD) : (dat2 V c).arrAt 8 cfg2.N
    = scores (dense (layerIn (V c main_v141) (V c main_v142) (V c main_v143)) (V c main_arg11)) (V c main_v145) := by
  refine (dat2 V c).arrAt_eq_of_covers 8 _ (by decide +kernel) fun t _ y => ?_
  have e : ((cfg2.win 8).blk t).view.emb y = ix2 (node t.val (idx2 t).1 (y 0)) (y 1) := by blk_ext [node, idx2 t]
  blk_simp
  rw [after2_8, in2_2, in2_3, in2_5, e, pair1 y]
  exact rest_scores _ _ _ _ _ _ _ _ _ (in2_0 V c t) (in2_1 V c t) _ _

/-- Stage 2's last point. -/
def last2 : Fin cfg2.N := ⟨9, by rw [show cfg2.N = 10 from N_2]; decide⟩

/-- Stage 2's running maximum ends at the least bound of the first scores. -/
theorem final2_9 (c : Dev nD) (j : S1x1.Idx) (z : EReal) : (show FVec Ideal S1x1 .f32 from (dat2 V c).arrAt 9 cfg2.N) j ≤ z
    ↔ ∀ i, scores (dense (layerIn (V c main_v141) (V c main_v142) (V c main_v143)) (V c main_arg11)) (V c main_v144) i ≤ z := by
  have h10 : cfg2.N = 10 := N_2
  have e : (dat2 V c).arrAt 9 cfg2.N = run2 V c 9 (by omega) := by
    refine (dat2 V c).arrAt_eq_of_after_last 9 last2 (by decide +kernel) _ fun y => ?_
    blk_simp
    rw [after2_9]
    rfl
  rw [e]
  refine running_le _ (fun n h => k1_pay3 (blk2 V c 0 ⟨n, by omega⟩) (blk2 V c 1 ⟨n, by omega⟩) (blk2 V c 2 ⟨n, by omega⟩) (blk2 V c 3 ⟨n, by omega⟩) (blk2 V c 4 ⟨n, by omega⟩))
    (fun n h r => ?_) (fun n h => run2 V c n (by omega)) rfl (fun n h => rfl) j z
  rw [in2_2, in2_3, in2_4]
  exact rest_scores _ _ _ _ _ _ _ _ _ (in2_0 V c ⟨n, by omega⟩) (in2_1 V c ⟨n, by omega⟩) _ _

end Cert.KernelIdeal.Own
-- ==== Proof.Arrays3.lean ====
module

public import proofs.«01_k».proof.Proof.Dense

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)

/-! # The arrays the dense stages leave, over the extended reals -/

variable (V : (c : Dev nD) → (b : Ref sig .tc) → Buf (Elt Ideal) ((c : Thread nD τ).loc b))

/-- The block indices of stage 3's windows. -/
theorem idx3 : ∀ t : Fin cfg3.N, t.val < 10 ∧ win3_0.index t = ![t.val, 0] ∧ win3_1.index t = ![t.val, 0] ∧ win3_2.index t = ![0, 0] ∧ win3_3.index t = ![0, 0]
    ∧ win3_4.index t = ![0, 0] ∧ win3_5.index t = ![0, 0] ∧ win3_6.index t = ![t.val, 0] ∧ win3_7.index t = ![t.val, 0] ∧ win3_8.index t = ![t.val, 0] ∧ win3_9.index t = ![0, 0] :=
  (by decide +kernel : ∀ t : Fin grid3.N, _)

/-- Stage 3 reads the first half of the sums by blocks of rows. -/
theorem in3_0 (c : Dev nD) (t : Fin cfg3.N) (r : Fin 1000) (k : Fin 128) :
    blk3 V c 0 t (ix2 r k) = V c main_v211 (ix2 (node t.val (idx3 t).1 r) k) := by
  blk_ext [blk3, node, idx3 t]

/-- Stage 3 reads the second half of the sums by blocks of rows. -/
theorem in3_1 (c : Dev nD) (t : Fin cfg3.N) (r : Fin 1000) (k : Fin 128) :
    blk3 V c 1 t (ix2 r k) = V c main_v212 (ix2 (node t.val (idx3 t).1 r) k) := by
  blk_ext [blk3, node, idx3 t]

/-- Stage 3 reads the offsets whole. -/
theorem in3_2 (c : Dev nD) (t : Fin cfg3.N) : blk3 V c 2 t = V c main_v213 := by
  blk_ext! [blk3, idx3 t]

/-- Stage 3 reads the linear map whole. -/
theorem in3_3 (c : Dev nD) (t : Fin cfg3.N) : blk3 V c 3 t = V c main_arg15 := by
  blk_ext! [blk3, idx3 t]

/-- Stage 3 reads the first attention vector whole. -/
theorem in3_4 (c : Dev nD) (t : Fin cfg3.N) : blk3 V c 4 t = V c main_v214 := by
  blk_ext! [blk3, idx3 t]

/-- Stage 3 reads the second attention vector whole. -/
theorem in3_5 (c : Dev nD) (t : Fin cfg3.N) : blk3 V c 5 t = V c main_v215 := by
  blk_ext! [blk3, idx3 t]

/-- Stage 3's rows: the linear map. -/
theorem final3_6 (c : Dev nD) : (dat3 V c).arrAt 6 cfg3.N = dense (layerIn (V c main_v211) (V c main_v212) (V c main_v213)) (V c main_arg15) := by
  refine (dat3 V c).arrAt_eq_of_covers 6 _ (by decide +kernel) fun t _ y => ?_
  have e : ((cfg3.win 6).blk t).view.emb y = ix2 (node t.val (idx3 t).1 (y 0)) (y 1) := by blk_ext [node, idx3 t]
  blk_simp
  rw [after3_6, in3_2, in3_3, e, pair128 y]
  exact rest_rows _ _ _ _ _ _ _ _ (in3_0 V c t) (in3_1 V c t) _ _

/-- Stage 3's scores against the first attention vector. -/
theorem final3_7 (c : Dev nD) : (dat3 V c).arrAt 7 cfg3.N
    = scores (dense (layerIn (V c main_v211) (V c main_v212) (V c main_v213)) (V c main_arg15)) (V c main_v214) := by
  refine (dat3 V c).arrAt_eq_of_covers 7 _ (by decide +kernel) fun t _ y => ?_
  have e : ((cfg3.win 7).blk t).view.emb y = ix2 (node t.val (idx3 t).1 (y 0)) (y 1) := by blk_ext [node, idx3 t]
  blk_simp
  rw [after3_7, in3_2, in3_3, in3_4, e, pair1 y]
  exact rest_scores _ _ _ _ _ _ _ _ _ (in3_0 V c t) (in3_1 V c t) _ _

/-- Stage 3's scores against the second attention vector. -/
theorem final3_8 (c : Dev nD) : (dat3 V c).arrAt 8 cfg3.N
    = scores (dense (layerIn (V c main_v211) (V c main_v212) (V c main_v213)) (V c main_arg15)) (V c main_v215) := by
  refine (dat3 V c).arrAt_eq_of_covers 8 _ (by decide +kernel) fun t _ y => ?_
  have e : ((cfg3.win 8).blk t).view.emb y = ix2 (node t.val (idx3 t).1 (y 0)) (y 1) := by blk_ext [node, idx3 t]
  blk_simp
  rw [after3_8, in3_2, in3_3, in3_5, e, pair1 y]
  exact rest_scores _ _ _ _ _ _ _ _ _ (in3_0 V c t) (in3_1 V c t) _ _

/-- Stage 3's last point. -/
def last3 : Fin cfg3.N := ⟨9, by rw [show cfg3.N = 10 from N_3]; decide⟩

/-- Stage 3's running maximum ends at the least bound of the first scores. -/
theorem final3_9 (c : Dev nD) (j : S1x1.Idx) (z : EReal) : (show FVec Ideal S1x1 .f32 from (dat3 V c).arrAt 9 cfg3.N) j ≤ z
    ↔ ∀ i, scores (dense (layerIn (V c main_v211) (V c main_v212) (V c main_v213)) (V c main_arg15)) (V c main_v214) i ≤ z := by
  have h10 : cfg3.N = 10 := N_3
  have e : (dat3 V c).arrAt 9 cfg3.N = run3 V c 9 (by omega) := by
    refine (dat3 V c).arrAt_eq_of_after_last 9 last3 (by decide +kernel) _ fun y => ?_
    blk_simp
    rw [after3_9]
    rfl
  rw [e]
  refine running_le _ (fun n h => k1_pay3 (blk3 V c 0 ⟨n, by omega⟩) (blk3 V c 1 ⟨n, by omega⟩) (blk3 V c 2 ⟨n, by omega⟩) (blk3 V c 3 ⟨n, by omega⟩) (blk3 V c 4 ⟨n, by omega⟩))
    (fun n h r => ?_) (fun n h => run3 V c n (by omega)) rfl (fun n h => rfl) j z
  rw [in3_2, in3_3, in3_4]
  exact rest_scores _ _ _ _ _ _ _ _ _ (in3_0 V c ⟨n, by omega⟩) (in3_1 V c ⟨n, by omega⟩) _ _

end Cert.KernelIdeal.Own
-- ==== Proof.Chain.lean ====
module

public import proofs.«01_k».proof.Proof.Hosts
public import proofs.«01_k».proof.Proof.Pool
public import proofs.«01_k».proof.Proof.Arrays0
public import proofs.«01_k».proof.Proof.Arrays1
public import proofs.«01_k».proof.Proof.Arrays2
public import proofs.«01_k».proof.Proof.Arrays3

@[expose] public section

set_option maxRecDepth 16384

noncomputable section

namespace Cert.KernelIdeal.Own

open Cert.KernelIdeal Cert.KernelIdeal.Gen Cert.Maths
open Idealize.ShloMosaic Idealize.ShloMosaic.TcCoe Idealize.ShloMosaic.Tactic Idealize.SL.Sem
open Idealize.ShloMosaic.Pipeline (Dat)

local instance : Cert.KernelIdeal.Facts := Cert.KernelIdeal.Gen.facts

/-! # What the idealised kernel leaves, as one term of its arguments -/

section Terms

variable (A : Valuation τ sig (Elt Ideal))

/-- The edges' sources. -/
def sources : IVec S320000 32 :=
  shapeCast S320000 (extractStridedSlice S1x320000 ![0, 0] (A (Proc.devRef .tc main_arg1)) slices_S2x320000_S1x320000_0_0) shapeCasts_S1x320000_S320000
/-- The edges' targets. -/
def targets : IVec S320000 32 :=
  shapeCast S320000 (extractStridedSlice S1x320000 ![1, 0] (A (Proc.devRef .tc main_arg1)) slices_S2x320000_S1x320000_1_0) shapeCasts_S1x320000_S320000
/-- The first layer's linear map. -/
def rows1 : FVec Ideal S10000x128 .f32 := dense (A (Proc.devRef .tc main_arg0)) (A (Proc.devRef .tc main_arg3))
/-- The rows the first layer sums. -/
def sums1 : FVec Ideal S10000x128 .f32 := summedK (rows1 A) (A (Proc.devRef .tc main_arg4)) (A (Proc.devRef .tc main_arg5)) (sources A) (targets A)
/-- The second layer's linear map. -/
def rows2 : FVec Ideal S10000x128 .f32 := dense (rectified (sums1 A) (A (Proc.devRef .tc main_arg6))) (A (Proc.devRef .tc main_arg7))
/-- The rows the second layer sums. -/
def sums2 : FVec Ideal S10000x128 .f32 := summedK (rows2 A) (A (Proc.devRef .tc main_arg8)) (A (Proc.devRef .tc main_arg9)) (sources A) (targets A)
/-- The third layer's linear map. -/
def rows3 : FVec Ideal S10000x128 .f32 := dense (rectified (sums2 A) (A (Proc.devRef .tc main_arg10))) (A (Proc.devRef .tc main_arg11))
/-- The rows the third layer sums. -/
def sums3 : FVec Ideal S10000x128 .f32 := summedK (rows3 A) (A (Proc.devRef .tc main_arg12)) (A (Proc.devRef .tc main_arg13)) (sources A) (targets A)
/-- The fourth layer's linear map. -/
def rows4 : FVec Ideal S10000x128 .f32 := dense (rectified (sums3 A) (A (Proc.devRef .tc main_arg14))) (A (Proc.devRef .tc main_arg15))
/-- The rows the fourth layer sums. -/
def rowSums4 : FVec Ideal S10000x128 .f32 := summedK (rows4 A) (A (Proc.devRef .tc main_arg16)) (A (Proc.devRef .tc main_arg17)) (sources A) (targets A)
/-- The head of the graphs' means. -/
def headOf : FVec Ideal S64x1 .f32 :=
  pooled (rectified (rowSums4 A) (A (Proc.devRef .tc main_arg18))) (shapeCast S10000x1 (A (Proc.devRef .tc main_arg2)) shapeCasts_S10000_S10000x1)
    (A (Proc.devRef .tc main_arg19)) (shapeCast S1x1 (A (Proc.devRef .tc main_arg20)) shapeCasts_S1_S1x1)

end Terms

/-- An attention vector, as a column. -/
abbrev tall (a : FVec Ideal S128 .f32) : FVec Ideal S128x1 .f32 := shapeCast S128x1 a shapeCasts_S128_S128x1

/-- The four arrays of a stage and the edges' ends: what the next host operations read. -/
def Left (h : FVec Ideal S10000x128 .f32) (a d : FVec Ideal S128 .f32) (src dst : IVec S320000 32)
    (h' : FVec Ideal S10000x128 .f32) (s' d' : FVec Ideal S10000x1 .f32) (t' : FVec Ideal S1x1 .f32) (src' dst' : IVec S320000 32) : Prop :=
  h' = h ∧ s' = scores h (tall a) ∧ d' = scores h (tall d) ∧ (∀ j z, t' j ≤ z ↔ ∀ i, scores h (tall a) i ≤ z) ∧ src' = src ∧ dst' = dst

/-- From them the host sums the layer's rows. -/
theorem Left.sums {h : FVec Ideal S10000x128 .f32} {a d : FVec Ideal S128 .f32} {src dst : IVec S320000 32}
    {h' : FVec Ideal S10000x128 .f32} {s' d' : FVec Ideal S10000x1 .f32} {t' : FVec Ideal S1x1 .f32} {src' dst' : IVec S320000 32}
    (k : Left h a d src dst h' s' d' t' src' dst') : summedFrom h' s' d' t' src' dst' = summedK h a d src dst := by
  obtain ⟨rfl, rfl, rfl, ht, rfl, rfl⟩ := k
  exact summedFrom_eq _ _ _ _ _ _ ht

variable (m : (ℓ : Loc nD τ sig) → Buf (Elt Ideal) ℓ) (c : Dev nD)

/-- Stage 0 leaves the first layer's linear map and its scores. -/
theorem left0 : Left (rows1 (M0 m c)) (M0 m c (Proc.devRef .tc main_arg4)) (M0 m c (Proc.devRef .tc main_arg5)) (sources (M0 m c)) (targets (M0 m c))
    (M2 m c (Proc.devRef .tc main_v6_0)) (M2 m c (Proc.devRef .tc main_v6_1)) (M2 m c (Proc.devRef .tc main_v6_2)) (M2 m c (Proc.devRef .tc main_v6_3))
    (M2 m c (Proc.devRef .tc main_v1)) (M2 m c (Proc.devRef .tc main_v3)) := by
  obtain ⟨h4, h5, h1, h3⟩ := host0 (M0 m c)
  have e4 : M1 m c (Proc.devRef .tc main_v4) = tall (M0 m c (Proc.devRef .tc main_arg4)) := h4
  have e5 : M1 m c (Proc.devRef .tc main_v5) = tall (M0 m c (Proc.devRef .tc main_arg5)) := h5
  have er : dense (M1 m c (Proc.devRef .tc main_arg0)) (M1 m c (Proc.devRef .tc main_arg3)) = rows1 (M0 m c) := by
    rw [M1_args m c main_arg0 (by decide), M1_args m c main_arg3 (by decide)]; rfl
  refine ⟨((M2_arr m c 4).trans (final0_4 _ c)).trans er, ((M2_arr m c 5).trans (final0_5 _ c)).trans ?_, ((M2_arr m c 6).trans (final0_6 _ c)).trans ?_,
    fun j z => ?_, (M2_of m c main_v1 (by decide)).trans h1, (M2_of m c main_v3 (by decide)).trans h3⟩
  · rw [er, e4]
  · rw [er, e5]
  · have := final0_7 (fun c b => M1 m c (Proc.devRef .tc b)) c j z
    rw [er, e4] at this
    exact (iff_of_eq (congrArg (fun v : EReal => v ≤ z) (congrFun (M2_arr m c 7) j))).trans this

/-- Stage 1 leaves the second layer's linear map and its scores. -/
theorem left1 : Left (rows2 (M0 m c)) (M0 m c (Proc.devRef .tc main_arg8)) (M0 m c (Proc.devRef .tc main_arg9)) (sources (M0 m c)) (targets (M0 m c))
    (M8 m c (Proc.devRef .tc main_v76_0)) (M8 m c (Proc.devRef .tc main_v76_1)) (M8 m c (Proc.devRef .tc main_v76_2)) (M8 m c (Proc.devRef .tc main_v76_3))
    (M8 m c (Proc.devRef .tc main_v1)) (M8 m c (Proc.devRef .tc main_v3)) := by
  have k := left0 m c
  obtain ⟨hs, hz, hb, ha, hd, h1, h3⟩ := host1 (M2 m c)
  have es : M7 m c (Proc.devRef .tc main_v71) = sums1 (M0 m c) := hs.trans k.sums
  have ez : M7 m c (Proc.devRef .tc main_v72) = zeros := hz
  have eb : M7 m c (Proc.devRef .tc main_v73) = shapeCast S1x128 (M0 m c (Proc.devRef .tc main_arg6)) shapeCasts_S128_S1x128 :=
    hb.trans (congrArg (fun v => shapeCast S1x128 v shapeCasts_S128_S1x128) (M2_args m c main_arg6 (by decide)))
  have ea : M7 m c (Proc.devRef .tc main_v74) = tall (M0 m c (Proc.devRef .tc main_arg8)) := ha.trans (congrArg tall (M2_args m c main_arg8 (by decide)))
  have ed : M7 m c (Proc.devRef .tc main_v75) = tall (M0 m c (Proc.devRef .tc main_arg9)) := hd.trans (congrArg tall (M2_args m c main_arg9 (by decide)))
  have ew : M7 m c (Proc.devRef .tc main_arg7) = M0 m c (Proc.devRef .tc main_arg7) := M7_args m c main_arg7 (by decide)
  have er : dense (layerIn (M7 m c (Proc.devRef .tc main_v71)) (M7 m c (Proc.devRef .tc main_v72)) (M7 m c (Proc.devRef .tc main_v73)))
      (M7 m c (Proc.devRef .tc main_arg7)) = rows2 (M0 m c) := by
    rw [es, ez, eb, ew]
    exact congrArg (dense · _) (layerIn_eq _ _)
  refine ⟨((M8_arr m c 6).trans (final1_6 _ c)).trans er, ((M8_arr m c 7).trans (final1_7 _ c)).trans ?_, ((M8_arr m c 8).trans (final1_8 _ c)).trans ?_,
    fun j z => ?_, ((M8_of m c main_v1 (by decide)).trans h1).trans k.2.2.2.2.1, ((M8_of m c main_v3 (by decide)).trans h3).trans k.2.2.2.2.2⟩
  · rw [er, ea]
  · rw [er, ed]
  · have := final1_9 (fun c b => M7 m c (Proc.devRef .tc b)) c j z
    rw [er, ea] at this
    exact (iff_of_eq (congrArg (fun v : EReal => v ≤ z) (congrFun (M8_arr m c 9) j))).trans this

/-- Stage 2 leaves the third layer's linear map and its scores. -/
theorem left2 : Left (rows3 (M0 m c)) (M0 m c (Proc.devRef .tc main_arg12)) (M0 m c (Proc.devRef .tc main_arg13)) (sources (M0 m c)) (targets (M0 m c))
    (M14 m c (Proc.devRef .tc main_v146_0)) (M14 m c (Proc.devRef .tc main_v146_1)) (M14 m c (Proc.devRef .tc main_v146_2)) (M14 m c (Proc.devRef .tc main_v146_3))
    (M14 m c (Proc.devRef .tc main_v1)) (M14 m c (Proc.devRef .tc main_v3)) := by
  have k := left1 m c
  obtain ⟨hs, hz, hb, ha, hd, h1, h3⟩ := host2 (M8 m c)
  have es : M13 m c (Proc.devRef .tc main_v141) = sums2 (M0 m c) := hs.trans k.sums
  have ez : M13 m c (Proc.devRef .tc main_v142) = zeros := hz
  have eb : M13 m c (Proc.devRef .tc main_v143) = shapeCast S1x128 (M0 m c (Proc.devRef .tc main_arg10)) shapeCasts_S128_S1x128 :=
    hb.trans (congrArg (fun v => shapeCast S1x128 v shapeCasts_S128_S1x128) (M8_args m c main_arg10 (by decide)))
  have ea : M13 m c (Proc.devRef .tc main_v144) = tall (M0 m c (Proc.devRef .tc main_arg12)) := ha.trans (congrArg tall (M8_args m c main_arg12 (by decide)))
  have ed : M13 m c (Proc.devRef .tc main_v145) = tall (M0 m c (Proc.devRef .tc main_arg13)) := hd.trans (congrArg tall (M8_args m c main_arg13 (by decide)))
  have ew : M13 m c (Proc.devRef .tc main_arg11) = M0 m c (Proc.devRef .tc main_arg11) := M13_args m c main_arg11 (by decide)
  have er : dense (layerIn (M13 m c (Proc.devRef .tc main_v141)) (M13 m c (Proc.devRef .tc main_v142)) (M13 m c (Proc.devRef .tc main_v143)))
      (M13 m c (Proc.devRef .tc main_arg11)) = rows3 (M0 m c) := by
    rw [es, ez, eb, ew]
    exact congrArg (dense · _) (layerIn_eq _ _)
  refine ⟨((M14_arr m c 6).trans (final2_6 _ c)).trans er, ((M14_arr m c 7).trans (final2_7 _ c)).trans ?_, ((M14_arr m c 8).trans (final2_8 _ c)).trans ?_,
    fun j z => ?_, ((M14_of m c main_v1 (by decide)).trans h1).trans k.2.2.2.2.1, ((M14_of m c main_v3 (by decide)).trans h3).trans k.2.2.2.2.2⟩
  · rw [er, ea]
  · rw [er, ed]
  · have := final2_9 (fun c b => M13 m c (Proc.devRef .tc b)) c j z
    rw [er, ea] at this
    exact (iff_of_eq (congrArg (fun v : EReal => v ≤ z) (congrFun (M14_arr m c 9) j))).trans this

/-- Stage 3 leaves the fourth layer's linear map and its scores. -/
theorem left3 : Left (rows4 (M0 m c)) (M0 m c (Proc.devRef .tc main_arg16)) (M0 m c (Proc.devRef .tc main_arg17)) (sources (M0 m c)) (targets (M0 m c))
    (M20 m c (Proc.devRef .tc main_v216_0)) (M20 m c (Proc.devRef .tc main_v216_1)) (M20 m c (Proc.devRef .tc main_v216_2)) (M20 m c (Proc.devRef .tc main_v216_3))
    (M20 m c (Proc.devRef .tc main_v1)) (M20 m c (Proc.devRef .tc main_v3)) := by
  have k := left2 m c
  obtain ⟨hs, hz, hb, ha, hd, h1, h3⟩ := host3 (M14 m c)
  have es : M19 m c (Proc.devRef .tc main_v211) = sums3 (M0 m c) := hs.trans k.sums
  have ez : M19 m c (Proc.devRef .tc main_v212) = zeros := hz
  have eb : M19 m c (Proc.devRef .tc main_v213) = shapeCast S1x128 (M0 m c (Proc.devRef .tc main_arg14)) shapeCasts_S128_S1x128 :=
    hb.trans (congrArg (fun v => shapeCast S1x128 v shapeCasts_S128_S1x128) (M14_args m c main_arg14 (by decide)))
  have ea : M19 m c (Proc.devRef .tc main_v214) = tall (M0 m c (Proc.devRef .tc main_arg16)) := ha.trans (congrArg tall (M14_args m c main_arg16 (by decide)))
  have ed : M19 m c (Proc.devRef .tc main_v215) = tall (M0 m c (Proc.devRef .tc main_arg17)) := hd.trans (congrArg tall (M14_args m c main_arg17 (by decide)))
  have ew : M19 m c (Proc.devRef .tc main_arg15) = M0 m c (Proc.devRef .tc main_arg15) := M19_args m c main_arg15 (by decide)
  have er : dense (layerIn (M19 m c (Proc.devRef .tc main_v211)) (M19 m c (Proc.devRef .tc main_v212)) (M19 m c (Proc.devRef .tc main_v213)))
      (M19 m c (Proc.devRef .tc main_arg15)) = rows4 (M0 m c) := by
    rw [es, ez, eb, ew]
    exact congrArg (dense · _) (layerIn_eq _ _)
  refine ⟨((M20_arr m c 6).trans (final3_6 _ c)).trans er, ((M20_arr m c 7).trans (final3_7 _ c)).trans ?_, ((M20_arr m c 8).trans (final3_8 _ c)).trans ?_,
    fun j z => ?_, ((M20_of m c main_v1 (by decide)).trans h1).trans k.2.2.2.2.1, ((M20_of m c main_v3 (by decide)).trans h3).trans k.2.2.2.2.2⟩
  · rw [er, ea]
  · rw [er, ed]
  · have := final3_9 (fun c b => M19 m c (Proc.devRef .tc b)) c j z
    rw [er, ea] at this
    exact (iff_of_eq (congrArg (fun v : EReal => v ≤ z) (congrFun (M20_arr m c 9) j))).trans this

/-- What the idealised kernel leaves in its result. -/
theorem result_eq : M26 m c (Proc.devRef .tc main_v286) = headOf (M0 m c) := by
  have k := left3 m c
  obtain ⟨hs, hz, hb, hg, hf⟩ := host4 (M20 m c)
  have es : M25 m c (Proc.devRef .tc main_v281) = rowSums4 (M0 m c) := hs.trans k.sums
  have ez : M25 m c (Proc.devRef .tc main_v282) = zeros := hz
  have eb : M25 m c (Proc.devRef .tc main_v283) = shapeCast S1x128 (M0 m c (Proc.devRef .tc main_arg18)) shapeCasts_S128_S1x128 :=
    hb.trans (congrArg (fun v => shapeCast S1x128 v shapeCasts_S128_S1x128) (M20_args m c main_arg18 (by decide)))
  have eg : M25 m c (Proc.devRef .tc main_v284) = shapeCast S10000x1 (M0 m c (Proc.devRef .tc main_arg2)) shapeCasts_S10000_S10000x1 :=
    hg.trans (congrArg (fun v => shapeCast S10000x1 v shapeCasts_S10000_S10000x1) (M20_args m c main_arg2 (by decide)))
  have ef : M25 m c (Proc.devRef .tc main_v285) = shapeCast S1x1 (M0 m c (Proc.devRef .tc main_arg20)) shapeCasts_S1_S1x1 :=
    hf.trans (congrArg (fun v => shapeCast S1x1 v shapeCasts_S1_S1x1) (M20_args m c main_arg20 (by decide)))
  have ew : M25 m c (Proc.devRef .tc main_arg19) = M0 m c (Proc.devRef .tc main_arg19) := M25_args m c main_arg19 (by decide)
  refine ((M26_arr m c 6).trans (final4_6 _ c)).trans ?_
  rw [es, ez, eb, eg, ef, ew]
  exact congrArg (pooled · _ _ _) (layerIn_eq _ _)

end Cert.KernelIdeal.Own
-- ==== Proof.Mean.lean ====
module

public import proofs.«01_k».proof.Proof.Layer
public import proofs.«01_k».proof.Proof.Pool

@[expose] public section

set_option maxRecDepth 16384

noncomputable section

namespace Cert.KernelIdeal.Own

open Cert.KernelIdeal Cert.KernelIdeal.Gen Cert.Maths
open Idealize.ShloMosaic

local instance meanFacts : Cert.ReferenceIdeal.Facts := Cert.ReferenceIdeal.Gen.facts

/-! # The pooled head: the kernel's is the reference's -/

/-- The nodes' graphs as a column, as the reference's sums read them. -/
def graphColumn (batch : IVec S10000 32) : IVec S10000x1 32 := broadcastInDim S10000x1 ![0] Cert.ReferenceIdeal.Gen.bcast_S10000_S10000x1_0 batch

/-- The reference's sums of the graphs' rows. -/
def sumsR (X : FVec Ideal S10000x128 .f32) (batch : IVec S10000 32) : FVec Ideal S64x128 .f32 :=
  Host.scatterAdd Cert.ReferenceIdeal.scatter_S64x128_S10000x1_S10000x128_1_0_0_1
    (broadcastInDim S64x128 ![] Cert.ReferenceIdeal.Gen.bcast_S_S64x128 (constant S_ .f32 0x00000000#32)) (graphColumn batch) X

/-- The reference's counts of the graphs' nodes. -/
def countsR (batch : IVec S10000 32) : FVec Ideal Cert.ReferenceIdeal.S64 .f32 :=
  Host.scatterAdd Cert.ReferenceIdeal.scatter_S64_S10000x1_S10000_n_0_0_1
    (broadcastInDim Cert.ReferenceIdeal.S64 ![] Cert.ReferenceIdeal.Gen.bcast_S_S64 (constant S_ .f32 0x00000000#32)) (graphColumn batch)
    (broadcastInDim S10000 ![] Cert.ReferenceIdeal.Gen.bcast_S_S10000 (constant S_ .f32 0x3F800000#32))

/-- The reference's head. -/
def pooledR (X : FVec Ideal S10000x128 .f32) (batch : IVec S10000 32) (w : FVec Ideal S128x1 .f32) (b : FVec Ideal Cert.ReferenceIdeal.S1 .f32) : FVec Ideal S64x1 .f32 :=
  addf (Host.dotGeneral Cert.ReferenceIdeal.dot_S64x128_S128x1_S64x1_1_0_0_1_n_n none
      (Host.divf (sumsR X batch) (broadcastInDim S64x128 ![0, 1] Cert.ReferenceIdeal.Gen.bcast_S64x1_S64x128_0_1
        (broadcastInDim S64x1 ![0] Cert.ReferenceIdeal.Gen.bcast_S64_S64x1_0
          (maximumf (countsR batch) (broadcastInDim Cert.ReferenceIdeal.S64 ![] Cert.ReferenceIdeal.Gen.bcast_S_S64 (constant S_ .f32 0x3F800000#32)))))) w)
    (broadcastInDim S64x1 ![0, 1] Cert.ReferenceIdeal.Gen.bcast_S1x1_S64x1_0_1 (broadcastInDim S1x1 ![1] Cert.ReferenceIdeal.Gen.bcast_S1_S1x1_1 b))

/-- The node's graph is the graph exactly if the sums read it as that graph. -/
theorem graph_word (b : BitVec 32) (g : Fin 64) : b.toInt = (g.val : Int) ↔ b = BitVec.ofNat 32 g.val := by
  have e : (BitVec.ofNat 32 g.val).toInt = (g.val : Int) := StableHlo.Predicate.toInt_ofNat_small _ (by have := g.isLt; omega)
  exact ⟨fun h => BitVec.eq_of_toInt_eq (h.trans e.symm), fun h => h ▸ e⟩

/-- The two columns of the nodes' graphs are one. -/
theorem column_cast (batch : IVec S10000 32) (i : Fin 10000) :
    graphColumn batch (ix2 i 0) = shapeCast S10000x1 batch shapeCasts_S10000_S10000x1 (ix2 i 0) := by
  pointwise [graphColumn]

/-- The reference's sum at one graph and feature. -/
theorem sumsR_apply (X : FVec Ideal S10000x128 .f32) (batch : IVec S10000 32) (g : Fin 64) (k : Fin 128) :
    sumsR X batch (ix2 g k) = graphSums X (shapeCast S10000x1 batch shapeCasts_S10000_S10000x1) g k := by
  have hz : (broadcastInDim S64x128 ![] Cert.ReferenceIdeal.Gen.bcast_S_S64x128 (constant (F := Ideal) S_ .f32 0x00000000#32)) (ix2 g k) = (0 : EReal) :=
    (ValueIdx.broadcastInDim_scalar_apply _ _ _).trans Ideal.ofBits_zero_f32
  refine (congrArg (· + _) hz).trans ((zero_add _).trans ?_)
  unfold graphSums ofGraph
  rw [Finset.sum_filter, sum_idx2]
  refine Finset.sum_congr rfl fun i _ => ?_
  have hl : ∀ c : Fin 128, Cert.ReferenceIdeal.scatter_S64x128_S10000x1_S10000x128_1_0_0_1.resultIdx? (ix2 i c) (graphColumn batch) = some (ix2 g k)
      ↔ shapeCast S10000x1 batch shapeCasts_S10000_S10000x1 (ix2 i 0) = BitVec.ofNat 32 g.val ∧ c = k := fun c => by
    refine (lands_row _ rfl rfl rfl rfl (graphColumn batch) i c g k).trans (and_congr_left' ?_)
    exact (iff_of_eq (congrArg (fun b : BitVec 32 => b.toInt = (g.val : Int)) (column_cast batch i))).trans (graph_word _ g)
  simp only [hl]
  by_cases hb : shapeCast S10000x1 batch shapeCasts_S10000_S10000x1 (ix2 i 0) = BitVec.ofNat 32 g.val
  · simp [hb]
  · simp [hb]

/-- The reference's count at one graph. -/
theorem countsR_apply (batch : IVec S10000 32) (g : Fin 64) :
    countsR batch (ix1 g) = graphCounts (shapeCast S10000x1 batch shapeCasts_S10000_S10000x1) g := by
  have hz : (broadcastInDim Cert.ReferenceIdeal.S64 ![] Cert.ReferenceIdeal.Gen.bcast_S_S64 (constant (F := Ideal) S_ .f32 0x00000000#32)) (ix1 g) = (0 : EReal) :=
    (ValueIdx.broadcastInDim_scalar_apply _ _ _).trans Ideal.ofBits_zero_f32
  refine (congrArg (· + _) hz).trans ((zero_add _).trans ?_)
  unfold graphCounts ofGraph
  rw [Finset.sum_filter, sum_idx1]
  refine Finset.sum_congr rfl fun i _ => ?_
  have ho : (broadcastInDim S10000 ![] Cert.ReferenceIdeal.Gen.bcast_S_S10000 (constant (F := Ideal) S_ .f32 0x3F800000#32)) (ix1 i) = (1 : EReal) :=
    (ValueIdx.broadcastInDim_scalar_apply _ _ _).trans Ideal.ofBits_one_f32
  refine if_congr ?_ ho rfl
  refine (lands_scalar _ rfl rfl rfl (graphColumn batch) i g).trans ?_
  exact (iff_of_eq (congrArg (fun b : BitVec 32 => b.toInt = (g.val : Int)) (column_cast batch i))).trans (graph_word _ g)

/-- A count is a real number. -/
theorem count_real (batch : IVec S10000x1 32) (g : Fin 64) : ∃ r : ℝ, graphCounts batch g = (r : EReal) := by
  unfold graphCounts ofGraph
  refine real_sum _ _ fun i _ => ?_
  split
  · exact ⟨1, rfl⟩
  · exact ⟨0, rfl⟩

/-- A sum times a real number that is not negative is the sum of the products. -/
theorem sum_mul_real {ι : Type} (s : Finset ι) (f : ι → EReal) {r : ℝ} (hr : 0 ≤ r) : (∑ j ∈ s, f j) * (r : EReal) = ∑ j ∈ s, f j * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

/-- A sum of products over a real number from one up is the sum of the quotients' products. -/
theorem div_sum {ι : Type} (s : Finset ι) (f w : ι → EReal) {r : ℝ} (hr : 1 ≤ r) :
    Ideal.div (∑ j ∈ s, f j * w j) (r : EReal) = ∑ j ∈ s, Ideal.div (f j) (r : EReal) * w j := by
  have h0 : r ≠ 0 := by linarith
  rw [Ideal.div_coe h0, sum_mul_real _ _ (by positivity)]
  refine Finset.sum_congr rfl fun j _ => ?_
  rw [Ideal.div_coe h0, mul_right_comm]

/-- The kernel's head of the graphs' means is the reference's. -/
theorem pooled_eq (X : FVec Ideal S10000x128 .f32) (batch : IVec S10000 32) (w : FVec Ideal S128x1 .f32) (b : FVec Ideal Cert.ReferenceIdeal.S1 .f32) :
    pooled X (shapeCast S10000x1 batch shapeCasts_S10000_S10000x1) w (shapeCast S1x1 b shapeCasts_S1_S1x1) = pooledR X batch w b := by
  funext i
  obtain ⟨g, k, rfl⟩ : ∃ g k, i = ix2 g k := ⟨_, _, Idealize.ShloMosaic.eq_ix2 i⟩
  pointwise [pooled, pooledR]
  obtain ⟨r, hr⟩ := count_real (shapeCast S10000x1 batch shapeCasts_S10000_S10000x1) g
  have hm : max (graphCounts (shapeCast S10000x1 batch shapeCasts_S10000_S10000x1) g) 1 = ((max r 1 : ℝ) : EReal) := by
    rw [hr, ← EReal.coe_one]
    exact (EReal.coe_strictMono.monotone.map_max).symm
  have hs : ∀ x, sumsR X batch (ix2 g x) = graphSums X (shapeCast S10000x1 batch shapeCasts_S10000_S10000x1) g x := sumsR_apply X batch g
  simp only [hs, countsR_apply, hm]
  rw [div_sum _ _ _ (le_max_right r 1)]

end Cert.KernelIdeal.Own
-- ==== Proof.Layers.lean ====
module

public import proofs.«01_k».proof.Proof.Mean
public import proofs.«01_k».proof.Proof.Gen.ReferenceIdeal.Run

@[expose] public section

set_option maxRecDepth 16384

noncomputable section

namespace Cert.ReferenceIdeal.Own

open Cert.ReferenceIdeal Cert.ReferenceIdeal.Value Cert.Maths
open Cert.KernelIdeal.Own (dense rectified summedR pooledR)
open Idealize.ShloMosaic Idealize.ShloMosaic.TcCoe Idealize.ShloMosaic.StableHlo Idealize.SL.Sem

local instance : Cert.KernelIdeal.Facts := Cert.KernelIdeal.Gen.facts
local instance : Cert.ReferenceIdeal.Facts := Cert.ReferenceIdeal.Gen.facts

/-! # The reference's result, layer by layer -/

variable (B : Valuation τ sig (Elt Ideal))

/-- The first layer's linear map. -/
theorem layer1 : res_main_v4 B = dense (B (Proc.devRef .tc main_arg0)) (B (Proc.devRef .tc main_arg3)) := rfl

/-- The second layer's linear map, of the first layer's sums. -/
theorem layer2 : res_main_v89 B = dense
    (rectified (summedR (res_main_v31 B) (res_main_v4 B) (B (Proc.devRef .tc main_arg4)) (B (Proc.devRef .tc main_arg5)) (res_main_v1 B) (res_main_v3 B))
      (B (Proc.devRef .tc main_arg6))) (B (Proc.devRef .tc main_arg7)) := rfl

/-- The third layer's linear map, of the second layer's sums. -/
theorem layer3 : res_main_v174 B = dense
    (rectified (summedR (res_main_v116 B) (res_main_v89 B) (B (Proc.devRef .tc main_arg8)) (B (Proc.devRef .tc main_arg9)) (res_main_v1 B) (res_main_v3 B))
      (B (Proc.devRef .tc main_arg10))) (B (Proc.devRef .tc main_arg11)) := rfl

/-- The fourth layer's linear map, of the third layer's sums. -/
theorem layer4 : res_main_v259 B = dense
    (rectified (summedR (res_main_v201 B) (res_main_v174 B) (B (Proc.devRef .tc main_arg12)) (B (Proc.devRef .tc main_arg13)) (res_main_v1 B) (res_main_v3 B))
      (B (Proc.devRef .tc main_arg14))) (B (Proc.devRef .tc main_arg15)) := rfl

/-- The head of the fourth layer's sums. -/
def headR : FVec Ideal S64x1 .f32 :=
  pooledR (rectified (summedR (res_main_v286 B) (res_main_v259 B) (B (Proc.devRef .tc main_arg16)) (B (Proc.devRef .tc main_arg17)) (res_main_v1 B) (res_main_v3 B))
    (B (Proc.devRef .tc main_arg18))) (B (Proc.devRef .tc main_arg2)) (B (Proc.devRef .tc main_arg19)) (B (Proc.devRef .tc main_arg20))

/-- The reference ends with its head in its result. -/
theorem run_head (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v359) = headR (launchContents m c)) :=
  (θ_run defs _ _).mono (fun _ h c => (h c).1) (run (F := Ideal) m ρ)

end Cert.ReferenceIdeal.Own
-- ==== Proof.Given.lean ====
module

public import proofs.«01_k».proof.Proof.Gen.Pre_finite
public import proofs.«01_k».proof.Proof.Softmax
public import Idealize.ShloMosaic.Lib.ReduceAll

@[expose] public section

set_option maxRecDepth 16384

noncomputable section

namespace Cert.Pre_finite.Own

open Cert.Pre_finite Cert.Maths
open Idealize.ShloMosaic

local instance : Cert.Pre_finite.Facts := Cert.Pre_finite.Gen.facts

/-! # What the precondition says -/

/-- If every entry is found below plus infinity in absolute value, every entry is a real number. -/
theorem real_of_all {s u : Shape} {dims : List (Fin s.rank)} (x : FVec Ideal s .f32) (hb : S_.BroadcastsInDim s ![]) (init : IVec u 1)
    (h : s.ReducesTo dims S_) (hu : 0 < u.numel) (j : S_.Idx)
    (e : Host.reduce IntOp.andi (cmpf .olt (Host.absf x) (broadcastInDim s ![] hb (constant S_ .f32 0x7F800000#32))) init h hu j = 1#1) :
    Finite x := fun i => by
  have hs : Subsingleton S_.Idx := ⟨fun a b => funext fun k => k.elim0⟩
  have hi := Host.reduce_andi_all _ init h hu j e i
  have ht : broadcastInDim s ![] hb (constant (F := Ideal) S_ .f32 0x7F800000#32) i = (⊤ : EReal) :=
    (ValueIdx.broadcastInDim_scalar_apply _ _ _).trans Cert.KernelIdeal.Own.inf_bits
  have hc : Ideal.cmp .olt (max (x i) (-(x i))) (broadcastInDim s ![] hb (constant (F := Ideal) S_ .f32 0x7F800000#32) i) = 1#1 := hi
  rw [ht] at hc
  apply real_of_abs_lt
  exact of_decide_eq_true ((StableHlo.Predicate.ofBool_eq_one_iff _).1 hc)

/-- A conjunction, entry by entry. -/
theorem both_at {s : Shape} (x y : IVec s 1) (i : s.Idx) : andi x y i = IntOp.andi (x i) (y i) := rfl

/-- Under the precondition the nodes' features, the weights, the attention vectors and the offsets of the first three layers are
    real numbers. -/
theorem real_args
    {a0 : FVec Ideal S10000x128 .f32}
    {a1 : IVec S2x320000 32}
    {a2 : IVec S10000 32}
    {a3 : FVec Ideal S128x128 .f32}
    {a4 : FVec Ideal S128 .f32}
    {a5 : FVec Ideal S128 .f32}
    {a6 : FVec Ideal S128 .f32}
    {a7 : FVec Ideal S128x128 .f32}
    {a8 : FVec Ideal S128 .f32}
    {a9 : FVec Ideal S128 .f32}
    {a10 : FVec Ideal S128 .f32}
    {a11 : FVec Ideal S128x128 .f32}
    {a12 : FVec Ideal S128 .f32}
    {a13 : FVec Ideal S128 .f32}
    {a14 : FVec Ideal S128 .f32}
    {a15 : FVec Ideal S128x128 .f32}
    {a16 : FVec Ideal S128 .f32}
    {a17 : FVec Ideal S128 .f32}
    {a18 : FVec Ideal S128 .f32}
    {a19 : FVec Ideal S128x1 .f32}
    {a20 : FVec Ideal S1 .f32}
    (h : fn (F := Ideal) a0 a1 a2 a3 a4 a5 a6 a7 a8 a9 a10 a11 a12 a13 a14 a15 a16 a17 a18 a19 a20 = fun _ => 1#1) :
    Finite a0 ∧ Finite a3 ∧ Finite a4 ∧ Finite a5 ∧ Finite a6 ∧ Finite a7 ∧ Finite a8 ∧ Finite a9 ∧ Finite a10 ∧ Finite a11 ∧ Finite a12 ∧ Finite a13 ∧ Finite a14 ∧ Finite a15 ∧ Finite a16 ∧ Finite a17 := by
  have e := congrFun h ValueIdx.ix0
  simp only [fn, fn_part1, fn_part2, fn_part3, fn_part4, both_at, IntOp.andi_eq_one] at e
  obtain ⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩ := e
  exact ⟨real_of_all _ _ _ _ _ _ h0, real_of_all _ _ _ _ _ _ h3, real_of_all _ _ _ _ _ _ h4, real_of_all _ _ _ _ _ _ h5, real_of_all _ _ _ _ _ _ h6, real_of_all _ _ _ _ _ _ h7, real_of_all _ _ _ _ _ _ h8, real_of_all _ _ _ _ _ _ h9, real_of_all _ _ _ _ _ _ h10, real_of_all _ _ _ _ _ _ h11, real_of_all _ _ _ _ _ _ h12, real_of_all _ _ _ _ _ _ h13, real_of_all _ _ _ _ _ _ h14, real_of_all _ _ _ _ _ _ h15, real_of_all _ _ _ _ _ _ h16, real_of_all _ _ _ _ _ _ h17⟩

end Cert.Pre_finite.Own
-- ==== Proof.Agree.lean ====
module

public import proofs.«01_k».proof.Proof.Chain
public import proofs.«01_k».proof.Proof.Layers
public import proofs.«01_k».proof.Proof.Given
public import proofs.«01_k».proof.Proof.Frames

@[expose] public section

set_option maxRecDepth 16384

noncomputable section

namespace Cert.Agree

open Cert.KernelIdeal Cert.KernelIdeal.Own Cert.Maths
open Idealize.ShloMosaic Idealize.ShloMosaic.TcCoe Idealize.ShloMosaic.StableHlo Idealize.SL.Sem

local instance : Cert.KernelIdeal.Facts := Cert.KernelIdeal.Gen.facts
local instance : Cert.ReferenceIdeal.Facts := Cert.ReferenceIdeal.Gen.facts
local instance : Cert.Pre_finite.Facts := Cert.Pre_finite.Gen.facts

/-! # The idealised kernel and the reference give the same numbers -/

/-- The sources, of the edges' array. -/
def fromEnds (v : IVec S2x320000 32) : IVec S320000 32 :=
  shapeCast S320000 (extractStridedSlice S1x320000 ![0, 0] v Gen.slices_S2x320000_S1x320000_0_0) Gen.shapeCasts_S1x320000_S320000

/-- The targets, of the edges' array. -/
def toEnds (v : IVec S2x320000 32) : IVec S320000 32 :=
  shapeCast S320000 (extractStridedSlice S1x320000 ![1, 0] v Gen.slices_S2x320000_S1x320000_1_0) Gen.shapeCasts_S1x320000_S320000

/-- The rows the kernel sums are the rows the reference sums, of equal linear maps and equal edges. -/
theorem sums_agree (mx : FVec Ideal S10000 .f32) {h h' : FVec Ideal S10000x128 .f32} {a a' d d' : FVec Ideal S128 .f32} {src src' dst dst' : IVec S320000 32}
    (eh : h' = h) (ea : a' = a) (ed : d' = d) (es : src' = src) (et : dst' = dst) (hh : Finite h) (ha : Finite a) (hd : Finite d) :
    summedR mx h' a' d' src' dst' = summedK h a d src dst := by
  subst eh ea ed es et
  exact (summed_eq mx _ _ hh ha hd).symm

/-- A layer's linear map of equal sums. -/
theorem rows_agree {g g' : FVec Ideal S10000x128 .f32} {b b' : FVec Ideal S128 .f32} {w w' : FVec Ideal S128x128 .f32}
    (eg : g' = g) (eb : b' = b) (ew : w' = w) : dense (rectified g' b') w' = dense (rectified g b) w := by
  subst eg eb ew
  rfl

/-- The two heads agree at equal arguments, if the arguments the layers read are real numbers. -/
theorem heads_agree (A : Valuation τ sig (Elt Ideal)) (B : Valuation Cert.ReferenceIdeal.τ Cert.ReferenceIdeal.sig (Elt Ideal))
    (e0 : (B (Proc.devRef .tc Cert.ReferenceIdeal.main_arg0) : FVec Ideal S10000x128 .f32) = A (Proc.devRef .tc main_arg0))
    (e1 : (B (Proc.devRef .tc Cert.ReferenceIdeal.main_arg1) : IVec S2x320000 32) = A (Proc.devRef .tc main_arg1))
    (e2 : (B (Proc.devRef .tc Cert.ReferenceIdeal.main_arg2) : IVec S10000 32) = A (Proc.devRef .tc main_arg2))
    (e3 : (B (Proc.devRef .tc Cert.ReferenceIdeal.main_arg3) : FVec Ideal S128x128 .f32) = A (Proc.devRef .tc main_arg3))
    (e4 : (B (Proc.devRef .tc Cert.ReferenceIdeal.main_arg4) : FVec Ideal S128 .f32) = A (Proc.devRef .tc main_arg4))
    (e5 : (B (Proc.devRef .tc Cert.ReferenceIdeal.main_arg5) : FVec Ideal S128 .f32) = A (Proc.devRef .tc main_arg5))
    (e6 : (B (Proc.devRef .tc Cert.ReferenceIdeal.main_arg6) : FVec Ideal S128 .f32) = A (Proc.devRef .tc main_arg6))
    (e7 : (B (Proc.devRef .tc Cert.ReferenceIdeal.main_arg7) : FVec Ideal S128x128 .f32) = A (Proc.devRef .tc main_arg7))
    (e8 : (B (Proc.devRef .tc Cert.ReferenceIdeal.main_arg8) : FVec Ideal S128 .f32) = A (Proc.devRef .tc main_arg8))
    (e9 : (B (Proc.devRef .tc Cert.ReferenceIdeal.main_arg9) : FVec Ideal S128 .f32) = A (Proc.devRef .tc main_arg9))
    (e10 : (B (Proc.devRef .tc Cert.ReferenceIdeal.main_arg10) : FVec Ideal S128 .f32) = A (Proc.devRef .tc main_arg10))
    (e11 : (B (Proc.devRef .tc Cert.ReferenceIdeal.main_arg11) : FVec Ideal S128x128 .f32) = A (Proc.devRef .tc main_arg11))
    (e12 : (B (Proc.devRef .tc Cert.ReferenceIdeal.main_arg12) : FVec Ideal S128 .f32) = A (Proc.devRef .tc main_arg12))
    (e13 : (B (Proc.devRef .tc Cert.ReferenceIdeal.main_arg13) : FVec Ideal S128 .f32) = A (Proc.devRef .tc main_arg13))
    (e14 : (B (Proc.devRef .tc Cert.ReferenceIdeal.main_arg14) : FVec Ideal S128 .f32) = A (Proc.devRef .tc main_arg14))
    (e15 : (B (Proc.devRef .tc Cert.ReferenceIdeal.main_arg15) : FVec Ideal S128x128 .f32) = A (Proc.devRef .tc main_arg15))
    (e16 : (B (Proc.devRef .tc Cert.ReferenceIdeal.main_arg16) : FVec Ideal S128 .f32) = A (Proc.devRef .tc main_arg16))
    (e17 : (B (Proc.devRef .tc Cert.ReferenceIdeal.main_arg17) : FVec Ideal S128 .f32) = A (Proc.devRef .tc main_arg17))
    (e18 : (B (Proc.devRef .tc Cert.ReferenceIdeal.main_arg18) : FVec Ideal S128 .f32) = A (Proc.devRef .tc main_arg18))
    (e19 : (B (Proc.devRef .tc Cert.ReferenceIdeal.main_arg19) : FVec Ideal S128x1 .f32) = A (Proc.devRef .tc main_arg19))
    (e20 : (B (Proc.devRef .tc Cert.ReferenceIdeal.main_arg20) : FVec Ideal Cert.ReferenceIdeal.S1 .f32) = A (Proc.devRef .tc main_arg20))
    (f0 : Finite (A (Proc.devRef .tc main_arg0) : FVec Ideal S10000x128 .f32))
    (f3 : Finite (A (Proc.devRef .tc main_arg3) : FVec Ideal S128x128 .f32))
    (f4 : Finite (A (Proc.devRef .tc main_arg4) : FVec Ideal S128 .f32))
    (f5 : Finite (A (Proc.devRef .tc main_arg5) : FVec Ideal S128 .f32))
    (f6 : Finite (A (Proc.devRef .tc main_arg6) : FVec Ideal S128 .f32))
    (f7 : Finite (A (Proc.devRef .tc main_arg7) : FVec Ideal S128x128 .f32))
    (f8 : Finite (A (Proc.devRef .tc main_arg8) : FVec Ideal S128 .f32))
    (f9 : Finite (A (Proc.devRef .tc main_arg9) : FVec Ideal S128 .f32))
    (f10 : Finite (A (Proc.devRef .tc main_arg10) : FVec Ideal S128 .f32))
    (f11 : Finite (A (Proc.devRef .tc main_arg11) : FVec Ideal S128x128 .f32))
    (f12 : Finite (A (Proc.devRef .tc main_arg12) : FVec Ideal S128 .f32))
    (f13 : Finite (A (Proc.devRef .tc main_arg13) : FVec Ideal S128 .f32))
    (f14 : Finite (A (Proc.devRef .tc main_arg14) : FVec Ideal S128 .f32))
    (f15 : Finite (A (Proc.devRef .tc main_arg15) : FVec Ideal S128x128 .f32))
    (f16 : Finite (A (Proc.devRef .tc main_arg16) : FVec Ideal S128 .f32))
    (f17 : Finite (A (Proc.devRef .tc main_arg17) : FVec Ideal S128 .f32)) :
    Cert.ReferenceIdeal.Own.headR B = headOf A := by
  have es : Cert.ReferenceIdeal.Value.res_main_v1 B = sources A :=
    congrArg fromEnds e1
  have et : Cert.ReferenceIdeal.Value.res_main_v3 B = targets A :=
    congrArg toEnds e1
  have r1 : Cert.ReferenceIdeal.Value.res_main_v4 B = rows1 A := (Cert.ReferenceIdeal.Own.layer1 B).trans (congrArg₂ dense e0 e3)
  have h1 : Finite (rows1 A) := dense_finite f0 f3
  have s1 := sums_agree (Cert.ReferenceIdeal.Value.res_main_v31 B) r1 e4 e5 es et h1 f4 f5
  have g1 : Finite (sums1 A) := summed_finite _ _ h1 f4 f5
  have r2 : Cert.ReferenceIdeal.Value.res_main_v89 B = rows2 A := (Cert.ReferenceIdeal.Own.layer2 B).trans (rows_agree s1 e6 e7)
  have h2 : Finite (rows2 A) := dense_finite (rectified_finite g1 f6) f7
  have s2 := sums_agree (Cert.ReferenceIdeal.Value.res_main_v116 B) r2 e8 e9 es et h2 f8 f9
  have g2 : Finite (sums2 A) := summed_finite _ _ h2 f8 f9
  have r3 : Cert.ReferenceIdeal.Value.res_main_v174 B = rows3 A := (Cert.ReferenceIdeal.Own.layer3 B).trans (rows_agree s2 e10 e11)
  have h3 : Finite (rows3 A) := dense_finite (rectified_finite g2 f10) f11
  have s3 := sums_agree (Cert.ReferenceIdeal.Value.res_main_v201 B) r3 e12 e13 es et h3 f12 f13
  have g3 : Finite (sums3 A) := summed_finite _ _ h3 f12 f13
  have r4 : Cert.ReferenceIdeal.Value.res_main_v259 B = rows4 A := (Cert.ReferenceIdeal.Own.layer4 B).trans (rows_agree s3 e14 e15)
  have h4 : Finite (rows4 A) := dense_finite (rectified_finite g3 f14) f15
  have s4 := sums_agree (Cert.ReferenceIdeal.Value.res_main_v286 B) r4 e16 e17 es et h4 f16 f17
  refine Eq.trans ?_ (pooled_eq _ _ _ _).symm
  exact congr (congr (congr (congrArg pooledR (congrArg₂ rectified s4 e18)) e2) e19) e20

set_option maxHeartbeats 0 in
/-- Under the precondition the idealised kernel and the reference end with equal numbers in their results. -/
theorem algebraic : Cert.algebraic_KernelIdeal_ReferenceIdeal_pre_finite := fun m ρ m' ρ' hp he => by
  have key : ∀ c : Dev Cert.KernelIdeal.nD, Cert.ReferenceIdeal.Own.headR (launchContents m' c) = M26 m c (Proc.devRef .tc main_v286) := fun c => by
    obtain ⟨e0, e1, e2, e3, e4, e5, e6, e7, e8, e9, e10, e11, e12, e13, e14, e15, e16, e17, e18, e19, e20⟩ := he c
    obtain ⟨f0, f3, f4, f5, f6, f7, f8, f9, f10, f11, f12, f13, f14, f15, f16, f17⟩ := Cert.Pre_finite.Own.real_args (hp c)
    exact (heads_agree (M0 m c) (launchContents m' c) e0 e1 e2 e3 e4 e5 e6 e7 e8 e9 e10 e11 e12 e13 e14 e15 e16 e17 e18 e19 e20 f0 f3 f4 f5 f6 f7 f8 f9 f10 f11 f12 f13 f14 f15 f16 f17).trans (result_eq m c).symm
  exact ⟨fun c => M26 m c (Proc.devRef .tc main_v286),
    (θ_run Cert.KernelIdeal.defs _ _).mono (fun _ h c => ⟨h.1.2 c, Cert.Frames.args_list (h.1.1 c)⟩) (run_args (F := Ideal) m ρ),
    (θ_run Cert.ReferenceIdeal.defs _ _).mono (fun _ h c => ⟨(h c).1.trans (key c), (h c).2⟩) (Cert.ReferenceIdeal.Value.run (F := Ideal) m' ρ')⟩

end Cert.Agree
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Frames
public import proofs.«01_k».proof.Proof.FrameK
public import proofs.«01_k».proof.Proof.Agree

@[expose] public section

noncomputable section

namespace Cert.Proof

open Idealize.ShloMosaic Idealize.SL.Sem

/-- Everything that is claimed. -/
theorem claim : Cert.Claim :=
  ⟨Cert.Kernel.Gen.facts, Cert.KernelIdeal.Gen.facts, Cert.ReferenceIdeal.Gen.facts, Cert.Pre_finite.Gen.facts,
    Cert.FrameK.frame_k, Cert.Frames.frame_i, Cert.Frames.frame_ip, Cert.Frames.frame_r, Cert.Frames.frame_rp, trivial, Cert.Agree.algebraic⟩

end Cert.Proof

end
